-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attends [hPre_attends : Cert.Pre_attends.Facts] (m : (ℓ : Loc Cert.KernelIdeal.nD Cert.KernelIdeal.τ Cert.KernelIdeal.sig) → Buf (Elt Ideal) ℓ) : Prop :=
  ∀ c : Dev Cert.KernelIdeal.nD,
    (Cert.Pre_attends.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attends [hPre_attends : Cert.Pre_attends.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attends.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_attends [hKernelIdeal : Cert.KernelIdeal.Facts] [hPre_attends : Cert.Pre_attends.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attends m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_attends [hReferenceIdeal : Cert.ReferenceIdeal.Facts] [hPre_attends : Cert.Pre_attends.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attends m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "mask" .bf16 0xF14A#16 ⊥

def algebraic_KernelIdeal_ReferenceIdeal_pre_attends [hKernelIdeal : Cert.KernelIdeal.Facts] [hReferenceIdeal : Cert.ReferenceIdeal.Facts] [hPre_attends : Cert.Pre_attends.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attends m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v45) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v8_0)) (v1 : (c : Dev Cert.InprojIdeal.nD) → Buf (Elt Ideal) ((c.tc : Thread Cert.InprojIdeal.nD Cert.InprojIdeal.τ).loc Cert.InprojIdeal.main_v8_1)) (v2 : (c : Dev Cert.InprojIdeal.nD) → Buf (Elt Ideal) ((c.tc : Thread Cert.InprojIdeal.nD Cert.InprojIdeal.τ).loc Cert.InprojIdeal.main_v8_2)) (v3 : (c : Dev Cert.InprojIdeal.nD) → Buf (Elt Ideal) ((c.tc : Thread Cert.InprojIdeal.nD Cert.InprojIdeal.τ).loc Cert.InprojIdeal.main_v8_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v8_0) = v0 c
          ∧ r.2.mem ((c.tc : Thread Cert.InprojIdeal.nD Cert.InprojIdeal.τ).loc Cert.InprojIdeal.main_v8_1) = v1 c
          ∧ r.2.mem ((c.tc : Thread Cert.InprojIdeal.nD Cert.InprojIdeal.τ).loc Cert.InprojIdeal.main_v8_2) = v2 c
          ∧ r.2.mem ((c.tc : Thread Cert.InprojIdeal.nD Cert.InprojIdeal.τ).loc Cert.InprojIdeal.main_v8_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v60) = v0 c
          ∧ r.2.mem ((c.tc : Thread Cert.InprojReferenceIdeal.nD Cert.InprojReferenceIdeal.τ).loc Cert.InprojReferenceIdeal.main_v61) = v1 c
          ∧ r.2.mem ((c.tc : Thread Cert.InprojReferenceIdeal.nD Cert.InprojReferenceIdeal.τ).loc Cert.InprojReferenceIdeal.main_v62) = v2 c
          ∧ r.2.mem ((c.tc : Thread Cert.InprojReferenceIdeal.nD Cert.InprojReferenceIdeal.τ).loc Cert.InprojReferenceIdeal.main_v63) = v3 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v1) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v3) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInproj : Cert.Inproj.Facts) (hInprojIdeal : Cert.InprojIdeal.Facts) (hInprojReferenceIdeal : Cert.InprojReferenceIdeal.Facts) (hOutproj : Cert.Outproj.Facts) (hOutprojIdeal : Cert.OutprojIdeal.Facts) (hOutprojReferenceIdeal : Cert.OutprojReferenceIdeal.Facts) (hPre_attends : Cert.Pre_attends.Facts),
    quiescent_Kernel (hKernel := hKernel)
    ∧ quiescent_KernelIdeal (hKernelIdeal := hKernelIdeal)
    ∧ quiescent_KernelIdeal_pre_attends (hKernelIdeal := hKernelIdeal) (hPre_attends := hPre_attends)
    ∧ quiescent_ReferenceIdeal (hReferenceIdeal := hReferenceIdeal)
    ∧ quiescent_ReferenceIdeal_pre_attends (hReferenceIdeal := hReferenceIdeal) (hPre_attends := hPre_attends)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ preserves_Kernel_KernelIdeal
    ∧ algebraic_KernelIdeal_ReferenceIdeal_pre_attends (hKernelIdeal := hKernelIdeal) (hReferenceIdeal := hReferenceIdeal) (hPre_attends := hPre_attends)
    ∧ preserves_Ffn_FfnIdeal
    ∧ algebraic_FfnIdeal_FfnReferenceIdeal (hFfnIdeal := hFfnIdeal) (hFfnReferenceIdeal := hFfnReferenceIdeal)
    ∧ preserves_Inproj_InprojIdeal
    ∧ algebraic_InprojIdeal_InprojReferenceIdeal (hInprojIdeal := hInprojIdeal) (hInprojReferenceIdeal := hInprojReferenceIdeal)
    ∧ preserves_Outproj_OutprojIdeal
    ∧ algebraic_OutprojIdeal_OutprojReferenceIdeal (hOutprojIdeal := hOutprojIdeal) (hOutprojReferenceIdeal := hOutprojReferenceIdeal)
-- ==== Pre_attends.lean ====
abbrev S16384x2048 : Shape := ⟨2, ![16384, 2048]⟩
abbrev S3072x16384 : Shape := ⟨2, ![3072, 16384]⟩
abbrev S64x16384x256 : Shape := ⟨3, ![64, 16384, 256]⟩
abbrev S16384 : Shape := ⟨1, ![16384]⟩
abbrev S64x256 : Shape := ⟨2, ![64, 256]⟩
abbrev S_ : Shape := ⟨0, ![]⟩
abbrev S16384x1024 : Shape := ⟨2, ![16384, 1024]⟩
abbrev S1024x16384 : Shape := ⟨2, ![1024, 16384]⟩
abbrev S1x16384x1 : Shape := ⟨3, ![1, 16384, 1]⟩
abbrev S64x1x256 : Shape := ⟨3, ![64, 1, 256]⟩

class Facts : Prop where
  shapeCasts_S16384_S64x256 : S16384.ShapeCasts S64x256
  bcast_S_S64x16384x256 : S_.BroadcastsInDim S64x16384x256 (![] : Fin 0 → Fin S64x16384x256.rank)
  slices_S16384x2048_S16384x1024_0_1024 : S16384x2048.Slices ![0, 1024] S16384x1024
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  slices_S3072x16384_S1024x16384_0_0 : S3072x16384.Slices ![0, 0] S1024x16384
  bcast_S_S1024x16384 : S_.BroadcastsInDim S1024x16384 (![] : Fin 0 → Fin S1024x16384.rank)
  reducesTo_S1024x16384_S_d0_1 : S1024x16384.ReducesTo [0, 1] S_
  bcast_S16384_S1x16384x1_1 : S16384.BroadcastsInDim S1x16384x1 (![1] : Fin 1 → Fin S1x16384x1.rank)
  bcast_S64x256_S64x1x256_0_2 : S64x256.BroadcastsInDim S64x1x256 (![0, 2] : Fin 2 → Fin S64x1x256.rank)
  bcast_S1x16384x1_S64x16384x256_0_1_2 : S1x16384x1.BroadcastsInDim S64x16384x256 (![0, 1, 2] : Fin 3 → Fin S64x16384x256.rank)
  bcast_S64x1x256_S64x16384x256_0_1_2 : S64x1x256.BroadcastsInDim S64x16384x256 (![0, 1, 2] : Fin 3 → Fin S64x16384x256.rank)
  reducesTo_S64x16384x256_S_d0_1_2 : S64x16384x256.ReducesTo [0, 1, 2] S_
  reducesTo_S64x16384x256_S64x256_d1 : S64x16384x256.ReducesTo [1] S64x256
  reducesTo_S64x256_S_d0_1 : S64x256.ReducesTo [0, 1] S_

variable [Facts]

def fn_part1 {F : FTy → Type} [FloatOps F] (main_v1 : IVec S64x256 32) (main_v3 : IVec S64x16384x256 1) (main_v16 : IVec S_ 1) (main_v17 : IVec S64x16384x256 1) (main_v18 : IVec S1x16384x1 32) : IVec S_ 1 :=
  let main_v19 : IVec S64x1x256 32 := broadcastInDim S64x1x256 ![0, 2] bcast_S64x256_S64x1x256_0_2 main_v1
  let main_v20 : IVec S64x16384x256 32 := broadcastInDim S64x16384x256 ![0, 1, 2] bcast_S1x16384x1_S64x16384x256_0_1_2 main_v18
  let main_v21 : IVec S64x16384x256 32 := broadcastInDim S64x16384x256 ![0, 1, 2] bcast_S64x1x256_S64x16384x256_0_1_2 main_v19
  let main_v22 : IVec S64x16384x256 1 := cmpi .sle main_v20 main_v21
  let main_v23 : IVec S64x16384x256 1 := ori main_v17 main_v22
  let main_c_3 : IVec S_ 1 := constantI S_ 1 1#1
  let main_v24 : IVec S_ 1 := (fun x v => Host.reduce IntOp.andi x v reducesTo_S64x16384x256_S_d0_1_2 h_S_) main_v23 main_c_3
  let main_v25 : IVec S_ 1 := andi main_v16 main_v24
  let main_c_4 : IVec S_ 1 := constantI S_ 1 0#1
  let main_v26 : IVec S64x256 1 := (fun x v => Host.reduce IntOp.ori x v reducesTo_S64x16384x256_S64x256_d1 h_S_) main_v3 main_c_4
  let main_c_5 : IVec S_ 1 := constantI S_ 1 1#1
  let main_v27 : IVec S_ 1 := (fun x v => Host.reduce IntOp.andi x v reducesTo_S64x256_S_d0_1 h_S_) main_v26 main_c_5
  let main_v28 : IVec S_ 1 := andi main_v25 main_v27
  main_v28

def fn {F : FTy → Type} [FloatOps F] (main_arg0 : FVec F S16384x2048 .bf16) (main_arg1 : FVec F S3072x16384 .bf16) (main_arg2 : FVec F S64x16384x256 .bf16) : IVec S_ 1 :=
  let main_v0 : IVec S16384 32 := iotaInDim S16384 32 0
  let main_v1 : IVec S64x256 32 := shapeCast S64x256 main_v0 shapeCasts_S16384_S64x256
  let main_cst : FVec F S_ .bf16 := constant S_ .bf16 0x0000#16
  let main_v2 : FVec F S64x16384x256 .bf16 := broadcastInDim S64x16384x256 ![] bcast_S_S64x16384x256 main_cst
  let main_v3 : IVec S64x16384x256 1 := cmpf .ogt main_arg2 main_v2
  let main_v4 : FVec F S16384x1024 .bf16 := (extractStridedSlice S16384x1024 ![0, 1024] · slices_S16384x2048_S16384x1024_0_1024) main_arg0
  let main_v5 : FVec F S16384x1024 .f32 := (extf .f32 · bitsLt_bf16_f32) main_v4
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c : IVec S_ 1 := constantI S_ 1 1#1
  let main_v9 : IVec S_ 1 := (fun x v => Host.reduce IntOp.andi x v reducesTo_S16384x1024_S_d0_1 h_S_) main_v8 main_c
  let main_v10 : FVec F S1024x16384 .bf16 := (extractStridedSlice S1024x16384 ![0, 0] · slices_S3072x16384_S1024x16384_0_0) main_arg1
  let main_v11 : FVec F S1024x16384 .f32 := (extf .f32 · bitsLt_bf16_f32) main_v10
  let main_v12 : FVec F S1024x16384 .f32 := Host.absf main_v11
  let main_cst_1 : FVec F S_ .f32 := constant S_ .f32 0x7F800000#32
  let main_v13 : FVec F S1024x16384 .f32 := broadcastInDim S1024x16384 ![] bcast_S_S1024x16384 main_cst_1
  let main_v14 : IVec S1024x16384 1 := cmpf .olt main_v12 main_v13
  let main_c_2 : IVec S_ 1 := constantI S_ 1 1#1
  let main_v15 : IVec S_ 1 := (fun x v => Host.reduce IntOp.andi x v reducesTo_S1024x16384_S_d0_1 h_S_) main_v14 main_c_2
  let main_v16 : IVec S_ 1 := andi main_v9 main_v15
  let main_v17 : IVec S64x16384x256 1 := noti main_v3
  let main_v18 : IVec S1x16384x1 32 := broadcastInDim S1x16384x1 ![1] bcast_S16384_S1x16384x1_1 main_v0
  fn_part1 (F := F) main_v1 main_v3 main_v16 main_v17 main_v18
-- ==== Kernel.lean ====
abbrev S16384x2048 : Shape := ⟨2, ![16384, 2048]⟩
abbrev S3072x16384 : Shape := ⟨2, ![3072, 16384]⟩
abbrev S64x16384x256 : Shape := ⟨3, ![64, 16384, 256]⟩
abbrev S272 : Shape := ⟨1, ![272]⟩
abbrev S16384x1024 : Shape := ⟨2, ![16384, 1024]⟩
abbrev S1024x1024 : Shape := ⟨2, ![1024, 1024]⟩
abbrev S1 : Shape := ⟨1, ![1]⟩
abbrev S1024x512 : Shape := ⟨2, ![1024, 512]⟩
abbrev S1x1024x256 : Shape := ⟨3, ![1, 1024, 256]⟩
abbrev S512x1024 : Shape := ⟨2, ![512, 1024]⟩
abbrev S8x1x512 : Shape := ⟨3, ![8, 1, 512]⟩
abbrev S8x128x512 : Shape := ⟨3, ![8, 128, 512]⟩
abbrev S512x128 : Shape := ⟨2, ![512, 128]⟩
abbrev S128x512 : Shape := ⟨2, ![128, 512]⟩
abbrev S512x512 : Shape := ⟨2, ![512, 512]⟩
abbrev S1x512x256 : Shape := ⟨3, ![1, 512, 256]⟩
abbrev S512x256 : Shape := ⟨2, ![512, 256]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩

abbrev nBuf : Space → Nat
  | .hbm => 4
  | .vmem => 15
  | .smem => 2
  | _ => 0

abbrev bufTy : (tb : Table) → Fin (tcTables nBuf tb) → BufTy
  | .hbm, ⟨0, _⟩ => ⟨S16384x2048, .bf16⟩
  | .hbm, ⟨1, _⟩ => ⟨S3072x16384, .bf16⟩
  | .hbm, ⟨2, _⟩ => ⟨S64x16384x256, .bf16⟩
  | .hbm, ⟨3, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S512x1024, .bf16⟩
  | .local _ .vmem, ⟨11, _⟩ => ⟨S512x1024, .bf16⟩
  | .local _ .vmem, ⟨12, _⟩ => ⟨S8x1x512, .f32⟩
  | .local _ .vmem, ⟨13, _⟩ => ⟨S8x1x512, .f32⟩
  | .local _ .vmem, ⟨14, _⟩ => ⟨S8x128x512, .f32⟩
  | .local _ .smem, ⟨0, _⟩ => ⟨S272, .i32⟩
  | .local _ .smem, ⟨1, _⟩ => ⟨S272, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![272], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (v1 : BitVec 32) (v3 : BitVec 32) : BitVec 1 :=
  let c512_i32 : BitVec 32 := 512#32
  let v381 : BitVec 32 := Scalar.muli v1 c512_i32
  let c512_i32_339 : BitVec 32 := 512#32
  let v382 : BitVec 32 := Scalar.addi v381 c512_i32_339
  let c1_i32 : BitVec 32 := 1#32
  let v383 : BitVec 32 := Scalar.subi v382 c1_i32
  let c0_i32_340 : BitVec 32 := 0#32
  let v385 : BitVec 1 := Scalar.cmpi .sgt v383 c0_i32_340
  let v386 : BitVec 32 := Scalar.extui v385
  let c0_i32_341 : BitVec 32 := 0#32
  let v387 : BitVec 1 := Scalar.cmpi .slt v383 c0_i32_341
  let v388 : BitVec 32 := Scalar.extui v387
  let v389 : BitVec 32 := Scalar.subi v386 v388
  let c1024_i32 : BitVec 32 := 1024#32
  let c0_i32_342 : BitVec 32 := 0#32
  let v390 : BitVec 1 := Scalar.cmpi .sgt c1024_i32 c0_i32_342
  let v391 : BitVec 32 := Scalar.extui v390
  let c0_i32_343 : BitVec 32 := 0#32
  let v392 : BitVec 1 := Scalar.cmpi .slt c1024_i32 c0_i32_343
  let v393 : BitVec 32 := Scalar.extui v392
  let v394 : BitVec 32 := Scalar.subi v391 v393
  let v395 : BitVec 1 := Scalar.cmpi .ne v389 v394
  let v396 : BitVec 32 := Scalar.remsi v383 c1024_i32
  let c0_i32_344 : BitVec 32 := 0#32
  let v397 : BitVec 1 := Scalar.cmpi .ne v396 c0_i32_344
  let v398 : BitVec 1 := Scalar.andi v395 v397
  let v384 : BitVec 32 := Scalar.divsi v383 c1024_i32
  let c1_i32_345 : BitVec 32 := 1#32
  let v399 : BitVec 32 := Scalar.subi v384 c1_i32_345
  let v400 : BitVec 32 := Scalar.select v398 v399 v384
  let v401 : BitVec 1 := Scalar.cmpi .eq v3 v400
  let v402 : BitVec 32 := Scalar.extui v401
  let c0_i32_346 : BitVec 32 := 0#32
  let v403 : BitVec 1 := Scalar.cmpi .ne v402 c0_i32_346
  v403

def cc0_transform_0 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S272) ![v0.toNat] S1.size (k0_off1_inb i)) numel1_S1
  let c1_i32 : BitVec 32 := 1#32
  let c0_i32 : BitVec 32 := 0#32
  ![v1.toNat, c1_i32.toNat]

def cc0_transform_1 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  ![c0_i32.toNat, v1.toNat]

def cc0_transform_2 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S272) ![v0.toNat] S1.size (k0_off1_inb i)) numel1_S1
  let c1_i32 : BitVec 32 := 1#32
  let c0_i32 : BitVec 32 := 0#32
  ![c1_i32.toNat, v1.toNat]

def cc0_transform_3 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c2_i32 : BitVec 32 := 2#32
  let v2 : BitVec 32 := Scalar.muli v1 c2_i32
  let c0_i32 : BitVec 32 := 0#32
  let v3 : BitVec 32 := Scalar.addi v2 c0_i32
  let v4 : Index := Scalar.indexCast arg0
  let v5 : BitVec 32 := pf.at 1 (Rect.unit (s := S272) ![v4.toNat] S1.size (k0_off1_inb i)) numel1_S1
  let c0_i32_0 : BitVec 32 := 0#32
  let c0_i32_1 : BitVec 32 := 0#32
  ![v3.toNat, v5.toNat, c0_i32_0.toNat]

def cc0_transform_4 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c2_i32 : BitVec 32 := 2#32
  let v2 : BitVec 32 := Scalar.muli v1 c2_i32
  let c1_i32 : BitVec 32 := 1#32
  let v3 : BitVec 32 := Scalar.addi v2 c1_i32
  let v4 : Index := Scalar.indexCast arg0
  let v5 : BitVec 32 := pf.at 1 (Rect.unit (s := S272) ![v4.toNat] S1.size (k0_off1_inb i)) numel1_S1
  let c0_i32 : BitVec 32 := 0#32
  let c0_i32_0 : BitVec 32 := 0#32
  ![v3.toNat, v5.toNat, c0_i32.toNat]

def cc0_transform_5 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S3072x16384 : Shape := ⟨2, ![3072, 16384]⟩
abbrev S64x16384x256 : Shape := ⟨3, ![64, 16384, 256]⟩
abbrev S16384x1024 : Shape := ⟨2, ![16384, 1024]⟩
abbrev S16384x8x128 : Shape := ⟨3, ![16384, 8, 128]⟩
abbrev S1024x16384 : Shape := ⟨2, ![1024, 16384]⟩
abbrev S64x256x16384 : Shape := ⟨3, ![64, 256, 16384]⟩
abbrev S16384x16384 : Shape := ⟨2, ![16384, 16384]⟩
abbrev S_ : Shape := ⟨0, ![]⟩
abbrev S8x16384x16384 : Shape := ⟨3, ![8, 16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S3072x16384, .bf16⟩
  | .hbm, ⟨2, _⟩ => ⟨S64x16384x256, .bf16⟩
  | .hbm, ⟨3, _⟩ => ⟨S16384x1024, .bf16⟩
  | .hbm, ⟨4, _⟩ => ⟨S16384x8x128, .bf16⟩
  | .hbm, ⟨5, _⟩ => ⟨S1024x16384, .bf16⟩
  | .hbm, ⟨6, _⟩ => ⟨S16384x1024, .bf16⟩
  | .hbm, ⟨7, _⟩ => ⟨S16384x8x128, .bf16⟩
  | .hbm, ⟨8, _⟩ => ⟨S1024x16384, .bf16⟩
  | .hbm, ⟨9, _⟩ => ⟨S16384x1024, .bf16⟩
  | .hbm, ⟨10, _⟩ => ⟨S16384x8x128, .bf16⟩
  | .hbm, ⟨11, _⟩ => ⟨S64x256x16384, .bf16⟩
  | .hbm, ⟨12, _⟩ => ⟨S16384x16384, .bf16⟩
  | .hbm, ⟨13, _⟩ => ⟨S_, .bf16⟩
  | .hbm, ⟨14, _⟩ => ⟨S16384x16384, .bf16⟩
  | .hbm, ⟨15, _⟩ => ⟨S16384x16384, .i1⟩
  | .hbm, ⟨16, _⟩ => ⟨S8x16384x16384, .f32⟩
  | .hbm, ⟨17, _⟩ => ⟨S_, .f32⟩
  | .hbm, ⟨18, _⟩ => ⟨S_, .f32⟩
  | .hbm, ⟨19, _⟩ => ⟨S8x16384x16384, .f32⟩
  | .hbm, ⟨20, _⟩ => ⟨S8x16384x16384, .f32⟩
  | .hbm, ⟨21, _⟩ => ⟨S1x16384x16384, .i1⟩
  | .hbm, ⟨22, _⟩ => ⟨S_, .f32⟩
  | .hbm, ⟨23, _⟩ => ⟨S_, .f32⟩
  | .hbm, ⟨24, _⟩ => ⟨S8x16384x16384, .i1⟩
  | .hbm, ⟨25, _⟩ => ⟨S8x16384x16384, .f32⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S8x16384x1, .f32⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S_, .f32⟩
  | .hbm, ⟨37, _⟩ => ⟨S8x16384, .f32⟩
  | .hbm, ⟨38, _⟩ => ⟨S8x16384x1, .f32⟩
  | .hbm, ⟨39, _⟩ => ⟨S8x16384x16384, .f32⟩
  | .hbm, ⟨40, _⟩ => ⟨S8x16384x16384, .f32⟩
  | .hbm, ⟨41, _⟩ => ⟨S16384x8x128, .f32⟩
  | .hbm, ⟨42, _⟩ => ⟨S8x128x16384, .f32⟩
  | .hbm, ⟨43, _⟩ => ⟨S16384x8x128, .f32⟩
  | .hbm, ⟨44, _⟩ => ⟨S16384x1024, .f32⟩
  | .hbm, ⟨45, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S1x2048 : Shape := ⟨2, ![1, 2048]⟩
abbrev S1x11264 : Shape := ⟨2, ![1, 11264]⟩
abbrev S1024x2048 : Shape := ⟨2, ![1024, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S1040x2048 : Shape := ⟨2, ![1040, 2048]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S1040x512 : Shape := ⟨2, ![1040, 512]⟩
abbrev S1024x512 : Shape := ⟨2, ![1024, 512]⟩

abbrev nBuf : Space → Nat
  | .hbm => 11
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S1x2048, .f32⟩
  | .hbm, ⟨7, _⟩ => ⟨S2048x11264, .bf16⟩
  | .hbm, ⟨8, _⟩ => ⟨S1x11264, .f32⟩
  | .hbm, ⟨9, _⟩ => ⟨S5632x2048, .bf16⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x2048, .bf16⟩
  | .local _ .vmem, ⟨18, _⟩ => ⟨S512x2048, .bf16⟩
  | .local _ .vmem, ⟨19, _⟩ => ⟨S1024x2048, .f32⟩
  | .local _ .vmem, ⟨20, _⟩ => ⟨S1024x2048, .f32⟩
  | .local _ .vmem, ⟨21, _⟩ => ⟨S1040x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnReferenceIdeal.lean ====
abbrev S16384x2048 : Shape := ⟨2, ![16384, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11264 : Shape := ⟨2, ![16384, 11264]⟩
abbrev S16386x11264 : Shape := ⟨2, ![16386, 11264]⟩
abbrev S1x11264 : Shape := ⟨2, ![1, 11264]⟩
abbrev S16384x5632 : Shape := ⟨2, ![16384, 5632]⟩

abbrev nBuf : Space → Nat
  | .hbm => 66
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x11264, .f32⟩
  | .hbm, ⟨23, _⟩ => ⟨S_, .i32⟩
  | .hbm, ⟨24, _⟩ => ⟨S_, .f32⟩
  | .hbm, ⟨25, _⟩ => ⟨S16386x11264, .f32⟩
  | .hbm, ⟨26, _⟩ => ⟨S1x11264, .f32⟩
  | .hbm, ⟨27, _⟩ => ⟨S11264, .f32⟩
  | .hbm, ⟨28, _⟩ => ⟨S16384x11264, .f32⟩
  | .hbm, ⟨29, _⟩ => ⟨S1x11264, .f32⟩
  | .hbm, ⟨30, _⟩ => ⟨S16384x11264, .f32⟩
  | .hbm, ⟨31, _⟩ => ⟨S16384x11264, .f32⟩
  | .hbm, ⟨32, _⟩ => ⟨S_, .f32⟩
  | .hbm, ⟨33, _⟩ => ⟨S16384x11264, .f32⟩
  | .hbm, ⟨34, _⟩ => ⟨S16384x11264, .f32⟩
  | .hbm, ⟨35, _⟩ => ⟨S1x11264, .f32⟩
  | .hbm, ⟨36, _⟩ => ⟨S11264, .f32⟩
  | .hbm, ⟨37, _⟩ => ⟨S16384x11264, .f32⟩
  | .hbm, ⟨38, _⟩ => ⟨S1x11264, .f32⟩
  | .hbm, ⟨39, _⟩ => ⟨S16384x11264, .f32⟩
  | .hbm, ⟨40, _⟩ => ⟨S16384x11264, .f32⟩
  | .hbm, ⟨41, _⟩ => ⟨S16384x11264, .f32⟩
  | .hbm, ⟨42, _⟩ => ⟨S1x11264, .f32⟩
  | .hbm, ⟨43, _⟩ => ⟨S11264, .f32⟩
  | .hbm, ⟨44, _⟩ => ⟨S16384x11264, .f32⟩
  | .hbm, ⟨45, _⟩ => ⟨S1x11264, .f32⟩
  | .hbm, ⟨46, _⟩ => ⟨S16384x11264, .f32⟩
  | .hbm, ⟨47, _⟩ => ⟨S16384x11264, .f32⟩
  | .hbm, ⟨48, _⟩ => ⟨S16384x11264, .f32⟩
  | .hbm, ⟨49, _⟩ => ⟨S1x11264, .f32⟩
  | .hbm, ⟨50, _⟩ => ⟨S16384x11264, .f32⟩
  | .hbm, ⟨51, _⟩ => ⟨S16384x11264, .f32⟩
  | .hbm, ⟨52, _⟩ => ⟨S16384x5632, .f32⟩
  | .hbm, ⟨53, _⟩ => ⟨S16384x5632, .f32⟩
  | .hbm, ⟨54, _⟩ => ⟨S16384x5632, .f32⟩
  | .hbm, ⟨55, _⟩ => ⟨S16384x5632, .f32⟩
  | .hbm, ⟨56, _⟩ => ⟨S_, .f32⟩
  | .hbm, ⟨57, _⟩ => ⟨S16384x5632, .f32⟩
  | .hbm, ⟨58, _⟩ => ⟨S16384x5632, .f32⟩
  | .hbm, ⟨59, _⟩ => ⟨S_, .f32⟩
  | .hbm, ⟨60, _⟩ => ⟨S16384x5632, .f32⟩
  | .hbm, ⟨61, _⟩ => ⟨S16384x5632, .f32⟩
  | .hbm, ⟨62, _⟩ => ⟨S16384x5632, .f32⟩
  | .hbm, ⟨63, _⟩ => ⟨S16384x5632, .f32⟩
  | .hbm, ⟨64, _⟩ => ⟨S16384x2048, .f32⟩
  | .hbm, ⟨65, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Inproj.lean ====
abbrev S16384x2048 : Shape := ⟨2, ![16384, 2048]⟩
abbrev S2048 : Shape := ⟨1, ![2048]⟩
abbrev S2048x5200 : Shape := ⟨2, ![2048, 5200]⟩
abbrev S128 : Shape := ⟨1, ![128]⟩
abbrev S2048x5120 : Shape := ⟨2, ![2048, 5120]⟩
abbrev S2048x80 : Shape := ⟨2, ![2048, 80]⟩
abbrev S_ : Shape := ⟨0, ![]⟩
abbrev S2048x128 : Shape := ⟨2, ![2048, 128]⟩
abbrev S1x2048 : Shape := ⟨2, ![1, 2048]⟩
abbrev S1x128 : Shape := ⟨2, ![1, 128]⟩
abbrev S128x1 : Shape := ⟨2, ![128, 1]⟩
abbrev S3072x16384 : Shape := ⟨2, ![3072, 16384]⟩
abbrev S16384x64 : Shape := ⟨2, ![16384, 64]⟩
abbrev S16x16384 : Shape := ⟨2, ![16, 16384]⟩
abbrev S1024x2048 : Shape := ⟨2, ![1024, 2048]⟩
abbrev S2048x1024 : Shape := ⟨2, ![2048, 1024]⟩
abbrev S1024x1024 : Shape := ⟨2, ![1024, 1024]⟩
abbrev S1024x64 : Shape := ⟨2, ![1024, 64]⟩
abbrev S16x1024 : Shape := ⟨2, ![16, 1024]⟩
abbrev S1024 : Shape := ⟨1, ![1024]⟩
abbrev S1024x1 : Shape := ⟨2, ![1024, 1]⟩
abbrev S1024x128 : Shape := ⟨2, ![1024, 128]⟩
abbrev S128x1024 : Shape := ⟨2, ![128, 1024]⟩
abbrev S1x1024 : Shape := ⟨2, ![1, 1024]⟩

abbrev nBuf : Space → Nat
  | .hbm => 19
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5200, .f32⟩
  | .hbm, ⟨3, _⟩ => ⟨S128, .f32⟩
  | .hbm, ⟨4, _⟩ => ⟨S128, .f32⟩
  | .hbm, ⟨5, _⟩ => ⟨S2048x5120, .f32⟩
  | .hbm, ⟨6, _⟩ => ⟨S2048x5120, .bf16⟩
  | .hbm, ⟨7, _⟩ => ⟨S2048x80, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S1x2048, .f32⟩
  | .hbm, ⟨13, _⟩ => ⟨S1x128, .f32⟩
  | .hbm, ⟨14, _⟩ => ⟨S128x1, .f32⟩
  | .hbm, ⟨15, _⟩ => ⟨S16384x2048, .bf16⟩
  | .hbm, ⟨16, _⟩ => ⟨S3072x16384, .bf16⟩
  | .hbm, ⟨17, _⟩ => ⟨S16384x64, .bf16⟩
  | .hbm, ⟨18, _⟩ => ⟨S16x16384, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | .local _ .vmem, ⟨8, _⟩ => ⟨S1x128, .f32⟩
  | .local _ .vmem, ⟨9, _⟩ => ⟨S128x1, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x64, .bf16⟩
  | .local _ .vmem, ⟨15, _⟩ => ⟨S1024x64, .bf16⟩
  | .local _ .vmem, ⟨16, _⟩ => ⟨S16x1024, .f32⟩
  | .local _ .vmem, ⟨17, _⟩ => ⟨S16x1024, .f32⟩
  | .local _ .vmem, ⟨18, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c1_i32 : BitVec 32 := 1#32
  let v13 : BitVec 1 := Scalar.cmpi .slt arg1 c1_i32
  let v14 : BitVec 32 := Scalar.extui v13
  let c0_i32_7 : BitVec 32 := 0#32
  let v15 : BitVec 1 := Scalar.cmpi .ne v14 c0_i32_7
  v15

def k0_cond4 (i : grid0.Coords) : BitVec 1 :=
  let arg1 : BitVec 32 := BitVec.ofNat 32 (i 1).val
  let c1_i32_8 : BitVec 32 := 1#32
  let v16 : BitVec 1 := Scalar.cmpi .sge arg1 c1_i32_8
  let v17 : BitVec 32 := Scalar.extui v16
  let c0_i32_9 : BitVec 32 := 0#32
  let v18 : BitVec 1 := Scalar.cmpi .ne v17 c0_i32_9
  v18

def k0_cond5 (i : grid0.Coords) : BitVec 1 :=
  let arg1 : BitVec 32 := BitVec.ofNat 32 (i 1).val
  let c2_i32_2 : BitVec 32 := 2#32
  let v6 : BitVec 1 := Scalar.cmpi .sge arg1 c2_i32_2
  let v7 : BitVec 32 := Scalar.extui v6
  let c0_i32_3 : BitVec 32 := 0#32
  let v8 : BitVec 1 := Scalar.cmpi .ne v7 c0_i32_3
  v8

def k0_cond6 (i : grid0.Coords) : BitVec 1 :=
  let arg1 : BitVec 32 := BitVec.ofNat 32 (i 1).val
  let c3_i32 : BitVec 32 := 3#32
  let v13 : BitVec 1 := Scalar.cmpi .slt arg1 c3_i32
  let v14 : BitVec 32 := Scalar.extui v13
  let c0_i32_7 : BitVec 32 := 0#32
  let v15 : BitVec 1 := Scalar.cmpi .ne v14 c0_i32_7
  v15

def k0_cond7 (i : grid0.Coords) : BitVec 1 :=
  let arg1 : BitVec 32 := BitVec.ofNat 32 (i 1).val
  let c3_i32_8 : BitVec 32 := 3#32
  let v16 : BitVec 1 := Scalar.cmpi .sge arg1 c3_i32_8
  let v17 : BitVec 32 := Scalar.extui v16
  let c0_i32_9 : BitVec 32 := 0#32
  let v18 : BitVec 1 := Scalar.cmpi .ne v17 c0_i32_9
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c1_i32_0 : BitVec 32 := 1#32
  let v1 : BitVec 32 := Scalar.divsi v0 c1_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32_0 c0_i32_2
  let v8 : BitVec 32 := Scalar.extui v7
  let c0_i32_3 : BitVec 32 := 0#32
  let v9 : BitVec 1 := Scalar.cmpi .slt c1_i32_0 c0_i32_3
  let v10 : BitVec 32 := Scalar.extui v9
  let v11 : BitVec 32 := Scalar.subi v8 v10
  let v12 : BitVec 1 := Scalar.cmpi .ne v6 v11
  let v13 : BitVec 32 := Scalar.remsi v0 c1_i32_0
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c2_i32 : BitVec 32 := 2#32
  let v18 : BitVec 32 := Scalar.muli c2_i32 v17
  let c1_i32_6 : BitVec 32 := 1#32
  let v19 : BitVec 32 := Scalar.muli v18 c1_i32_6
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v0 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_13 : BitVec 32 := 0#32
  let c0_i32_14 : BitVec 32 := 0#32
  ![c0_i32_13.toNat, v30.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32 : BitVec 32 := 1#32
  let v2 : BitVec 32 := Scalar.divsi v1 c1_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let v19 : BitVec 1 := Scalar.cmpi .eq v18 c2_i32_6
  let c2_i32_7 : BitVec 32 := 2#32
  let v20 : BitVec 32 := Scalar.muli c2_i32_7 v18
  let c1_i32_8 : BitVec 32 := 1#32
  let v21 : BitVec 32 := Scalar.addi c1_i32_8 v20
  let c4_i32 : BitVec 32 := 4#32
  let v22 : BitVec 32 := Scalar.select v19 c4_i32 v21
  let c1_i32_9 : BitVec 32 := 1#32
  let v23 : BitVec 32 := Scalar.muli v22 c1_i32_9
  let c1_i32_10 : BitVec 32 := 1#32
  let c0_i32_11 : BitVec 32 := 0#32
  let v24 : BitVec 1 := Scalar.cmpi .eq c1_i32_10 c0_i32_11
  let c1_i32_12 : BitVec 32 := 1#32
  let v25 : BitVec 32 := Scalar.select v24 c1_i32_12 c1_i32_10
  let v26 : BitVec 32 := Scalar.remsi v1 v25
  let c0_i32_13 : BitVec 32 := 0#32
  let v27 : BitVec 1 := Scalar.cmpi .ne v26 c0_i32_13
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let v31 : BitVec 1 := Scalar.andi v30 v27
  let v32 : BitVec 32 := Scalar.addi v26 v25
  let v33 : BitVec 32 := Scalar.select v31 v32 v26
  let v34 : BitVec 32 := Scalar.addi v23 v33
  let c0_i32_16 : BitVec 32 := 0#32
  let c0_i32_17 : BitVec 32 := 0#32
  ![c0_i32_16.toNat, v34.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== InprojReferenceIdeal.lean ====
abbrev S16384x2048 : Shape := ⟨2, ![16384, 2048]⟩
abbrev S2048 : Shape := ⟨1, ![2048]⟩
abbrev S2048x5200 : Shape := ⟨2, ![2048, 5200]⟩
abbrev S128 : Shape := ⟨1, ![128]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5200 : Shape := ⟨2, ![16384, 5200]⟩
abbrev S16384x1024 : Shape := ⟨2, ![16384, 1024]⟩
abbrev S16384x64 : Shape := ⟨2, ![16384, 64]⟩
abbrev S16384x16 : Shape := ⟨2, ![16384, 16]⟩
abbrev S16384x8x128 : Shape := ⟨3, ![16384, 8, 128]⟩
abbrev S16384x8 : Shape := ⟨2, ![16384, 8]⟩
abbrev S16384x8x1 : Shape := ⟨3, ![16384, 8, 1]⟩
abbrev S1x1x128 : Shape := ⟨3, ![1, 1, 128]⟩
abbrev S16384x3072 : Shape := ⟨2, ![16384, 3072]⟩
abbrev S3072x16384 : Shape := ⟨2, ![3072, 16384]⟩
abbrev S16x16384 : Shape := ⟨2, ![16, 16384]⟩

abbrev nBuf : Space → Nat
  | .hbm => 81
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5200, .f32⟩
  | .hbm, ⟨3, _⟩ => ⟨S128, .f32⟩
  | .hbm, ⟨4, _⟩ => ⟨S128, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x5200, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x64, .f32⟩
  | .hbm, ⟨28, _⟩ => ⟨S16384x16, .f32⟩
  | .hbm, ⟨29, _⟩ => ⟨S_, .f32⟩
  | .hbm, ⟨30, _⟩ => ⟨S16384x16, .f32⟩
  | .hbm, ⟨31, _⟩ => ⟨S16384x16, .f32⟩
  | .hbm, ⟨32, _⟩ => ⟨S_, .f32⟩
  | .hbm, ⟨33, _⟩ => ⟨S16384x16, .f32⟩
  | .hbm, ⟨34, _⟩ => ⟨S16384x16, .f32⟩
  | .hbm, ⟨35, _⟩ => ⟨S16384x8x128, .f32⟩
  | .hbm, ⟨36, _⟩ => ⟨S16384x8x128, .f32⟩
  | .hbm, ⟨37, _⟩ => ⟨S_, .f32⟩
  | .hbm, ⟨38, _⟩ => ⟨S16384x8, .f32⟩
  | .hbm, ⟨39, _⟩ => ⟨S16384x8x1, .f32⟩
  | .hbm, ⟨40, _⟩ => ⟨S_, .f32⟩
  | .hbm, ⟨41, _⟩ => ⟨S16384x8x1, .f32⟩
  | .hbm, ⟨42, _⟩ => ⟨S16384x8x1, .f32⟩
  | .hbm, ⟨43, _⟩ => ⟨S_, .f32⟩
  | .hbm, ⟨44, _⟩ => ⟨S16384x8x1, .f32⟩
  | .hbm, ⟨45, _⟩ => ⟨S16384x8x1, .f32⟩
  | .hbm, ⟨46, _⟩ => ⟨S16384x8x1, .f32⟩
  | .hbm, ⟨47, _⟩ => ⟨S16384x8x128, .f32⟩
  | .hbm, ⟨48, _⟩ => ⟨S16384x8x128, .f32⟩
  | .hbm, ⟨49, _⟩ => ⟨S1x1x128, .f32⟩
  | .hbm, ⟨50, _⟩ => ⟨S16384x8x128, .f32⟩
  | .hbm, ⟨51, _⟩ => ⟨S16384x8x128, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S16384x8x128, .f32⟩
  | .hbm, ⟨57, _⟩ => ⟨S16384x8x128, .f32⟩
  | .hbm, ⟨58, _⟩ => ⟨S_, .f32⟩
  | .hbm, ⟨59, _⟩ => ⟨S16384x8, .f32⟩
  | .hbm, ⟨60, _⟩ => ⟨S16384x8x1, .f32⟩
  | .hbm, ⟨61, _⟩ => ⟨S_, .f32⟩
  | .hbm, ⟨62, _⟩ => ⟨S16384x8x1, .f32⟩
  | .hbm, ⟨63, _⟩ => ⟨S16384x8x1, .f32⟩
  | .hbm, ⟨64, _⟩ => ⟨S_, .f32⟩
  | .hbm, ⟨65, _⟩ => ⟨S16384x8x1, .f32⟩
  | .hbm, ⟨66, _⟩ => ⟨S16384x8x1, .f32⟩
  | .hbm, ⟨67, _⟩ => ⟨S16384x8x1, .f32⟩
  | .hbm, ⟨68, _⟩ => ⟨S16384x8x128, .f32⟩
  | .hbm, ⟨69, _⟩ => ⟨S16384x8x128, .f32⟩
  | .hbm, ⟨70, _⟩ => ⟨S1x1x128, .f32⟩
  | .hbm, ⟨71, _⟩ => ⟨S16384x8x128, .f32⟩
  | .hbm, ⟨72, _⟩ => ⟨S16384x8x128, .f32⟩
  | .hbm, ⟨73, _⟩ => ⟨S16384x1024, .f32⟩
  | .hbm, ⟨74, _⟩ => ⟨S16384x2048, .f32⟩
  | .hbm, ⟨75, _⟩ => ⟨S16384x3072, .f32⟩
  | .hbm, ⟨76, _⟩ => ⟨S3072x16384, .f32⟩
  | .hbm, ⟨77, _⟩ => ⟨S16384x2048, .bf16⟩
  | .hbm, ⟨78, _⟩ => ⟨S3072x16384, .bf16⟩
  | .hbm, ⟨79, _⟩ => ⟨S16384x64, .bf16⟩
  | .hbm, ⟨80, _⟩ => ⟨S16x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Outproj.lean ====
abbrev S16384x1024 : Shape := ⟨2, ![16384, 1024]⟩
abbrev S2048x2048 : Shape := ⟨2, ![2048, 2048]⟩
abbrev S16384x2048 : Shape := ⟨2, ![16384, 2048]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048x2048, .bf16⟩
  | .hbm, ⟨5, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutprojReferenceIdeal.lean ====
abbrev S16384x1024 : Shape := ⟨2, ![16384, 1024]⟩
abbrev S2048x2048 : Shape := ⟨2, ![2048, 2048]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Attn.Kernel.Runs.lean ====
/- The kernel body run once per pair of decisions, on symbolic staging buffers. -/
module

public import proofs.«01_k».proof.Proof.Attn.Kernel.Tables

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Bits) ℕ (UR sig nD τ) ℕ

/-! ## The body on symbolic staging memrefs, one run per pair of decisions -/

variable (c : Dev nD) (i : grid0.Coords)
  (arg3 : Memref sig .tc .vmem S1024x1024 .bf16) (harg3 : arg3.IsWhole)
  (arg4 : Memref sig .tc .vmem S1024x512 .bf16) (harg4 : arg4.IsWhole)
  (arg5 : Memref sig .tc .vmem S1024x1024 .bf16) (harg5 : arg5.IsWhole)
  (arg6 : Memref sig .tc .vmem S1x1024x256 .bf16) (harg6 : arg6.IsWhole)
  (arg7 : Memref sig .tc .vmem S1x1024x256 .bf16) (harg7 : arg7.IsWhole)
  (arg8 : Memref sig .tc .vmem S512x1024 .bf16) (harg8 : arg8.IsWhole)
  (T0 T1 : S272.Idx → BitVec 32)
  (x0 : S1024x1024.Idx → Elt Bits .bf16)
  (x1 : S1024x512.Idx → Elt Bits .bf16)
  (x2 : S1024x1024.Idx → Elt Bits .bf16)
  (x3 : S1x1024x256.Idx → Elt Bits .bf16)
  (x4 : S1x1024x256.Idx → Elt Bits .bf16)

/-- The body as the pipeline calls it, on these memrefs. -/
abbrev bodyOn : Prog (TpuEff nD τ sig (Elt Bits) Λ₀ .tc) PUnit :=
  cc0_attn i tQ (Memref.isWhole_whole _) tK (Memref.isWhole_whole _) arg3 harg3 arg4 harg4 arg5 harg5 arg6 harg6 arg7 harg7 arg8 harg8 sM (Memref.isWhole_whole _) sL (Memref.isWhole_whole _) sA (Memref.isWhole_whole _)

/-- The five inputs' staging buffers at their blocks and the body's halves of the tables. -/
abbrev held : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tQ.view.loc (c : Thread nD τ) ↦{fullShare.right} T0)
    ∗ (tK.view.loc (c : Thread nD τ) ↦{fullShare.right} T1))

/-- The contents of the scratches. -/
abbrev BM : Type := Buf (Elt Bits) ((c : Thread nD τ).loc cc0_scratch0)
abbrev BL : Type := Buf (Elt Bits) ((c : Thread nD τ).loc cc0_scratch1)
abbrev BA : Type := Buf (Elt Bits) ((c : Thread nD τ).loc cc0_scratch2)
/-- The three scratches at given contents. -/
abbrev scr (a0 : BM c) (a1 : BL c) (a2 : BA c) : sProp 𝕄 :=
  iprop((sM.view.loc (c : Thread nD τ) ↦{fullShare} a0) ∗ (sL.view.loc (c : Thread nD τ) ↦{fullShare} a1) ∗ (sA.view.loc (c : Thread nD τ) ↦{fullShare} a2))
/-- A staging buffer of the output, through which its contents are stated. -/
abbrev VO : View sig .tc .vmem S512x1024 .bf16 := (Memref.whole cc0_stg5_0 : Memref sig .tc .vmem S512x1024 .bf16).view

set_option backward.proofsInPublic true in
set_option maxHeartbeats 8000000 in
/-- The body at the only block of keys: what it leaves in the scratches and the pieces it stores of the output, found by running it. -/
noncomputable def runA (hc : CFirst i T1) (hl : CLast i T0 T1) :
    Σ' (pcs : List (View.Piece (Elt Bits) S512x1024 .bf16)) (o0 : BM c) (o1 : BL c), { o2 : BA c //
      ∀ (a0 : BM c) (a1 : BL c) (a2 : BA c) (K : PUnit → sProp 𝕄),
        iprop(held c arg3 arg4 arg5 arg6 arg7 T0 T1 x0 x1 x2 x3 x4 ∗ (∃ d, owns (c : Thread nD τ) arg8 fullShare d) ∗ scr c a0 a1 a2
          ∗ (iprop(held c arg3 arg4 arg5 arg6 arg7 T0 T1 x0 x1 x2 x3 x4 ∗ (∃ f, arg8.view.loc (c : Thread nD τ) ↦[arg8.view.set]{fullShare} arg8.view.writes (Elt Bits) f pcs) ∗ scr c o0 o1 o2) -∗ K ⟨⟩))
          ⊢ wp frame (wpE (defs₀ (F := Bits)) Variants.none c none) Set.univ (bodyOn i arg3 harg3 arg4 harg4 arg5 harg5 arg6 harg6 arg7 harg7 arg8 harg8) K } :=
  ⟨_, _, _, _, fun (a0 : BM c) (a1 : BL c) (a2 : BA c) K => by
    unfold owns
    rw [bodyOn, cc0_attn_eq_skeleton]; unfold cc0_attn_skel
    iintro ⟨⟨H0, H1, H2, H3, H4, HT0, HT1⟩, ⟨%d5, %f5, -, HO⟩, ⟨HS0, HS1, HS2⟩, Hk⟩
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = Scalar.cmpi = _; exact hc) | (guard_target = k0_cond2 _ _ = _; exact hl))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO]
    · iexists _; iexact HO
    isplitl [HS0]; · iexact HS0
    isplitl [HS1]; · iexact HS1
    iexact HS2⟩

/-- The pieces stored there tile the output's block. -/
theorem coverA (hc : CFirst i T1) (hl : CLast i T0 T1) (y : S512x1024.Idx) :
    ∃ pc ∈ (runA c i arg3 harg3 arg4 harg4 arg5 harg5 arg6 harg6 arg7 harg7 arg8 harg8 T0 T1 x0 x1 x2 x3 x4 hc hl).1, y ∈ pc.1.set :=
  View.cover_of_tiledL (runA c i arg3 harg3 arg4 harg4 arg5 harg5 arg6 harg6 arg7 harg7 arg8 harg8 T0 T1 x0 x1 x2 x3 x4 hc hl).1 S512x128.size (by sl_kernel_rfl) y

/-- The output's block after it: the pieces read back. -/
def outA (hc : CFirst i T1) (hl : CLast i T0 T1) : S512x1024.Idx → Elt Bits .bf16 :=
  VO.read (Elt Bits) (VO.writes (Elt Bits) VO.junk (runA c i arg3 harg3 arg4 harg4 arg5 harg5 arg6 harg6 arg7 harg7 arg8 harg8 T0 T1 x0 x1 x2 x3 x4 hc hl).1)

set_option backward.proofsInPublic true in
set_option maxHeartbeats 8000000 in
/-- The body at the first of several blocks of keys: what it leaves in the scratches, found by running it. -/
noncomputable def runB (hc : CFirst i T1) (hl : ¬CLast i T0 T1) :
    Σ' (o0 : BM c) (o1 : BL c), { o2 : BA c //
      ∀ (a0 : BM c) (a1 : BL c) (a2 : BA c) (y : S512x1024.Idx → Elt Bits .bf16) (K : PUnit → sProp 𝕄),
        iprop(held c arg3 arg4 arg5 arg6 arg7 T0 T1 x0 x1 x2 x3 x4 ∗ owns (c : Thread nD τ) arg8 fullShare y ∗ scr c a0 a1 a2
          ∗ (iprop(held c arg3 arg4 arg5 arg6 arg7 T0 T1 x0 x1 x2 x3 x4 ∗ owns (c : Thread nD τ) arg8 fullShare y ∗ scr c o0 o1 o2) -∗ K ⟨⟩))
          ⊢ wp frame (wpE (defs₀ (F := Bits)) Variants.none c none) Set.univ (bodyOn i arg3 harg3 arg4 harg4 arg5 harg5 arg6 harg6 arg7 harg7 arg8 harg8) K } :=
  ⟨_, _, _, fun (a0 : BM c) (a1 : BL c) (a2 : BA c) (y : S512x1024.Idx → Elt Bits .bf16) K => by
    unfold owns
    rw [bodyOn, cc0_attn_eq_skeleton]; unfold cc0_attn_skel
    iintro ⟨⟨H0, H1, H2, H3, H4, HT0, HT1⟩, ⟨%f5, %hf5, HO⟩, ⟨HS0, HS1, HS2⟩, Hk⟩
    obtain rfl := harg8.eq_unread hf5
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = Scalar.cmpi = _; exact hc) | (guard_target = ¬(k0_cond2 _ _ = _); exact hl))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO]
    · iexists _; isplitr; · ipureintro; exact harg8.read_unread _
      iexact HO
    isplitl [HS0]; · iexact HS0
    isplitl [HS1]; · iexact HS1
    iexact HS2⟩

set_option backward.proofsInPublic true in
set_option maxHeartbeats 8000000 in
/-- The body at the last of several: what it leaves in the scratches and the pieces it stores of the output, found by running it. -/
noncomputable def runC (a0 : BM c) (a1 : BL c) (a2 : BA c) (hc : ¬CFirst i T1) (hl : CLast i T0 T1) :
    Σ' (pcs : List (View.Piece (Elt Bits) S512x1024 .bf16)) (o0 : BM c) (o1 : BL c), { o2 : BA c //
      ∀ (K : PUnit → sProp 𝕄),
        iprop(held c arg3 arg4 arg5 arg6 arg7 T0 T1 x0 x1 x2 x3 x4 ∗ (∃ d, owns (c : Thread nD τ) arg8 fullShare d) ∗ scr c a0 a1 a2
          ∗ (iprop(held c arg3 arg4 arg5 arg6 arg7 T0 T1 x0 x1 x2 x3 x4 ∗ (∃ f, arg8.view.loc (c : Thread nD τ) ↦[arg8.view.set]{fullShare} arg8.view.writes (Elt Bits) f pcs) ∗ scr c o0 o1 o2) -∗ K ⟨⟩))
          ⊢ wp frame (wpE (defs₀ (F := Bits)) Variants.none c none) Set.univ (bodyOn i arg3 harg3 arg4 harg4 arg5 harg5 arg6 harg6 arg7 harg7 arg8 harg8) K } :=
  ⟨_, _, _, _, fun K => by
    unfold owns
    rw [bodyOn, cc0_attn_eq_skeleton]; unfold cc0_attn_skel
    iintro ⟨⟨H0, H1, H2, H3, H4, HT0, HT1⟩, ⟨%d5, %f5, -, HO⟩, ⟨HS0, HS1, HS2⟩, Hk⟩
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = Scalar.cmpi = _; exact hc) | (guard_target = k0_cond2 _ _ = _; exact hl))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO]
    · iexists _; iexact HO
    isplitl [HS0]; · iexact HS0
    isplitl [HS1]; · iexact HS1
    iexact HS2⟩

/-- The pieces stored there tile the output's block. -/
theorem coverC (a0 : BM c) (a1 : BL c) (a2 : BA c) (hc : ¬CFirst i T1) (hl : CLast i T0 T1) (y : S512x1024.Idx) :
    ∃ pc ∈ (runC c i arg3 harg3 arg4 harg4 arg5 harg5 arg6 harg6 arg7 harg7 arg8 harg8 T0 T1 x0 x1 x2 x3 x4 a0 a1 a2 hc hl).1, y ∈ pc.1.set :=
  View.cover_of_tiledL (runC c i arg3 harg3 arg4 harg4 arg5 harg5 arg6 harg6 arg7 harg7 arg8 harg8 T0 T1 x0 x1 x2 x3 x4 a0 a1 a2 hc hl).1 S512x128.size (by sl_kernel_rfl) y

/-- The output's block after it: the pieces read back. -/
def outC (a0 : BM c) (a1 : BL c) (a2 : BA c) (hc : ¬CFirst i T1) (hl : CLast i T0 T1) : S512x1024.Idx → Elt Bits .bf16 :=
  VO.read (Elt Bits) (VO.writes (Elt Bits) VO.junk (runC c i arg3 harg3 arg4 harg4 arg5 harg5 arg6 harg6 arg7 harg7 arg8 harg8 T0 T1 x0 x1 x2 x3 x4 a0 a1 a2 hc hl).1)

set_option backward.proofsInPublic true in
set_option maxHeartbeats 8000000 in
/-- The body at a middle one: what it leaves in the scratches, found by running it. -/
noncomputable def runD (a0 : BM c) (a1 : BL c) (a2 : BA c) (hc : ¬CFirst i T1) (hl : ¬CLast i T0 T1) :
    Σ' (o0 : BM c) (o1 : BL c), { o2 : BA c //
      ∀ (y : S512x1024.Idx → Elt Bits .bf16) (K : PUnit → sProp 𝕄),
        iprop(held c arg3 arg4 arg5 arg6 arg7 T0 T1 x0 x1 x2 x3 x4 ∗ owns (c : Thread nD τ) arg8 fullShare y ∗ scr c a0 a1 a2
          ∗ (iprop(held c arg3 arg4 arg5 arg6 arg7 T0 T1 x0 x1 x2 x3 x4 ∗ owns (c : Thread nD τ) arg8 fullShare y ∗ scr c o0 o1 o2) -∗ K ⟨⟩))
          ⊢ wp frame (wpE (defs₀ (F := Bits)) Variants.none c none) Set.univ (bodyOn i arg3 harg3 arg4 harg4 arg5 harg5 arg6 harg6 arg7 harg7 arg8 harg8) K } :=
  ⟨_, _, _, fun (y : S512x1024.Idx → Elt Bits .bf16) K => by
    unfold owns
    rw [bodyOn, cc0_attn_eq_skeleton]; unfold cc0_attn_skel
    iintro ⟨⟨H0, H1, H2, H3, H4, HT0, HT1⟩, ⟨%f5, %hf5, HO⟩, ⟨HS0, HS1, HS2⟩, Hk⟩
    obtain rfl := harg8.eq_unread hf5
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = Scalar.cmpi = _; exact hc) | (guard_target = ¬(k0_cond2 _ _ = _); exact hl))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO]
    · iexists _; isplitr; · ipureintro; exact harg8.read_unread _
      iexact HO
    isplitl [HS0]; · iexact HS0
    isplitl [HS1]; · iexact HS1
    iexact HS2⟩

end Cert.Kernel.Attn

end
-- ==== Proof.Attn.KernelIdeal.Tables.lean ====
/- The grid's tables in closed form, the pipeline at them, and what holds at each grid point. -/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

/-! ## The two tables of the grid, in closed form -/

/-- The block of queries of grid point `n`, a byte per point. -/
def qbN (n : ℕ) : ℕ := (0x1f1f1f1f1f1f1f1f1f1f1f1f1f1f1f1f1e1e1e1e1e1e1e1e1e1e1e1e1e1e1e1e1d1d1d1d1d1d1d1d1d1d1d1d1d1d1d1c1c1c1c1c1c1c1c1c1c1c1c1c1c1c1b1b1b1b1b1b1b1b1b1b1b1b1b1b1a1a1a1a1a1a1a1a1a1a1a1a1a1a19191919191919191919191919181818181818181818181818181717171717171717171717171616161616161616161616161515151515151515151515141414141414141414141413131313131313131313121212121212121212121111111111111111111010101010101010100f0f0f0f0f0f0f0f0e0e0e0e0e0e0e0e0d0d0d0d0d0d0d0c0c0c0c0c0c0c0b0b0b0b0b0b0a0a0a0a0a0a090909090908080808080707070706060606050505040404030302020100 >>> (8 * n)) % 256
/-- The block of keys of grid point `n`, a byte per point. -/
def kbN (n : ℕ) : ℕ := (0xf0e0d0c0b0a090807060504030201000f0e0d0c0b0a090807060504030201000e0d0c0b0a090807060504030201000e0d0c0b0a090807060504030201000d0c0b0a090807060504030201000d0c0b0a090807060504030201000c0b0a090807060504030201000c0b0a090807060504030201000b0a090807060504030201000b0a090807060504030201000a090807060504030201000a090807060504030201000908070605040302010009080706050403020100080706050403020100080706050403020100070605040302010007060504030201000605040302010006050403020100050403020100050403020100040302010004030201000302010003020100020100020100010001000000 >>> (8 * n)) % 256

theorem lit0_eq : ∀ i : Fin 272, lit0 i = BitVec.ofNat 32 (qbN i.val) := by decide +kernel
theorem lit1_eq : ∀ i : Fin 272, lit1 i = BitVec.ofNat 32 (kbN i.val) := by decide +kernel

/-- The first table's contents: the query block of each point. -/
def tabQ : S272.Idx → BitVec 32 := fun x => BitVec.ofNat 32 (qbN (S272.rowMajor x).val)
/-- The second table's contents: the key block of each point. -/
def tabK : S272.Idx → BitVec 32 := fun x => BitVec.ofNat 32 (kbN (S272.rowMajor x).val)

theorem tabQ_lit : (fun i => lit0 (S272.rowMajor i)) = tabQ := funext fun i => lit0_eq _
theorem tabK_lit : (fun i => lit1 (S272.rowMajor i)) = tabK := funext fun i => lit1_eq _

/-- The tables and scratches the kernel is handed, whole. -/
abbrev tQ : Memref sig .tc .smem S272 .i32 := Memref.whole main_c
abbrev tK : Memref sig .tc .smem S272 .i32 := Memref.whole main_c_0
abbrev sM : Memref sig .tc .vmem S8x1x512 .f32 := Memref.whole cc0_scratch0
abbrev sL : Memref sig .tc .vmem S8x1x512 .f32 := Memref.whole cc0_scratch1
abbrev sA : Memref sig .tc .vmem S8x128x512 .f32 := Memref.whole cc0_scratch2

set_option backward.proofsInPublic true in
/-- The tables' contents the pipeline runs at. -/
def pfN : pre0.Contents (Elt Ideal) := fun | ⟨0, _⟩ => tabQ | ⟨1, _⟩ => tabK | ⟨_ + 2, h⟩ => absurd h (by simp)

/-! ## Every window's block lies in its array at every point -/

theorem inb_0 : ∀ i : grid0.Coords, ∀ a, (cc0_transform_0 k0_off1_inb numel1_S1 pfN i a + 1) * S1024x1024.size a ≤ S16384x2048.size a := by decide +kernel
theorem inb_1 : ∀ i : grid0.Coords, ∀ a, (cc0_transform_1 k0_off1_inb numel1_S1 pfN i a + 1) * S1024x512.size a ≤ S3072x16384.size a := by decide +kernel
theorem inb_2 : ∀ i : grid0.Coords, ∀ a, (cc0_transform_2 k0_off1_inb numel1_S1 pfN i a + 1) * S1024x1024.size a ≤ S3072x16384.size a := by decide +kernel
theorem inb_3 : ∀ i : grid0.Coords, ∀ a, (cc0_transform_3 k0_off1_inb numel1_S1 pfN i a + 1) * S1x1024x256.size a ≤ S64x16384x256.size a := by decide +kernel
theorem inb_4 : ∀ i : grid0.Coords, ∀ a, (cc0_transform_4 k0_off1_inb numel1_S1 pfN i a + 1) * S1x1024x256.size a ≤ S64x16384x256.size a := by decide +kernel
theorem inb_5 : ∀ i : grid0.Coords, ∀ a, (cc0_transform_5 k0_off1_inb numel1_S1 pfN i a + 1) * S512x1024.size a ≤ S16384x1024.size a := by decide +kernel

theorem ok_pfN : ok0 (F := Ideal) pfN :=
  ⟨fun i => ⟨inb_0 i, .inr (Affine.block_words_dvd (by decide) (by decide))⟩,
   fun i => ⟨inb_1 i, .inr (Affine.block_words_dvd (by decide) (by decide))⟩,
   fun i => ⟨inb_2 i, .inr (Affine.block_words_dvd (by decide) (by decide))⟩,
   fun i => ⟨inb_3 i, .inr (Affine.block_words_dvd (by decide) (by decide))⟩,
   fun i => ⟨inb_4 i, .inr (Affine.block_words_dvd (by decide) (by decide))⟩,
   fun i => ⟨inb_5 i, .inr (Affine.block_words_dvd (by decide) (by decide))⟩⟩

/-- The contents as an admissible choice, and the pipeline at it. -/
def adm : (pcfg0 (F := Ideal)).Adm := ⟨pfN, ok_pfN⟩
abbrev cfgA : Pipeline.Cfg sig Λ₀ := cfg0 (F := Ideal) adm
abbrev pcs : Fin 1 → Pipeline.Cfg sig Λ₀ := Pipeline.pin (pcfgs (F := Ideal)) fun _ => adm
/-- Point `t`'s coordinates. -/
abbrev crd (t : Fin cfgA.N) : cfgA.grid.Coords := cfgA.grid.coords t

/-! ## What the tables say at a point -/

/-- The words the body reads of the two tables at the point with coordinates `i`. -/
abbrev wdQ (i : grid0.Coords) (T : S272.Idx → BitVec 32) : BitVec 32 :=
  View.readAt (Elt Ideal) tQ.view (Rect.unit (s := S272) (k0_off1 i) S1.size (k0_off1_inb i)).toLoadRect T (Shape.Idx.first (numel1_S1.symm ▸ Nat.one_pos))
abbrev wdK (i : grid0.Coords) (T : S272.Idx → BitVec 32) : BitVec 32 :=
  View.readAt (Elt Ideal) tK.view (Rect.unit (s := S272) (k0_off1 i) S1.size (k0_off1_inb i)).toLoadRect T (Shape.Idx.first (numel1_S1.symm ▸ Nat.one_pos))
/-- The body's first condition: this is the first block of keys. -/
abbrev CFirst (i : grid0.Coords) (T1 : S272.Idx → BitVec 32) : Prop :=
  (Scalar.cmpi .ne (Scalar.extui (Scalar.cmpi .eq (wdK i T1) 0#32)) 0#32) = 1#1
/-- Its second: this is the last block of keys. -/
abbrev CLast (i : grid0.Coords) (T0 T1 : S272.Idx → BitVec 32) : Prop := k0_cond2 (wdQ i T0) (wdK i T1) = 1#1

/-- The point starts its block of queries. -/
abbrev First (t : Fin cfgA.N) : Prop := kbN t.val = 0
/-- The point ends its block of queries. -/
abbrev Last (t : Fin cfgA.N) : Prop := kbN t.val = qbN t.val / 2

/-- What the frame needs of a point: the body's two conditions, the output's schedule, and the step to the next point. -/
abbrev FactsAt (t : Fin cfgA.N) : Prop :=
  (CFirst (crd t) tabK ↔ First t) ∧ (CLast (crd t) tabQ tabK ↔ Last t)
  ∧ cfgA.idle (5 : Fin 6) (cfgA.grid.coords t) = !(decide (Last t)) ∧ (cfgA.win (5 : Fin 6)).flush t = decide (Last t)
  ∧ (t.val = 0 → First t)

theorem facts_lo : ∀ t : Fin cfgA.N, t.val < 136 → FactsAt t := by decide +kernel
theorem facts_hi : ∀ t : Fin cfgA.N, 136 ≤ t.val → FactsAt t := by decide +kernel
theorem factsAt (t : Fin cfgA.N) : FactsAt t := by
  rcases Nat.lt_or_ge t.val 136 with h | h
  · exact facts_lo t h
  · exact facts_hi t h

theorem fresh5 (t : Fin cfgA.N) : cfgA.fresh (5 : Fin 6) t.val = true :=
  Pipeline.Cfg.fresh_tab cfgA (5 : Fin 6) (fun _ => true) rfl (fun t => by
    obtain ⟨-, -, hi, hf, -⟩ := factsAt t
    rw [hi, hf]; by_cases h : Last t <;> simp [h]) t.val (Nat.le_of_lt t.isLt)

end Cert.KernelIdeal.Attn

end
-- ==== Proof.Attn.KernelIdeal.Runs.lean ====
/- The kernel body run once per pair of decisions, on symbolic staging buffers. -/
module

public import proofs.«01_k».proof.Proof.Attn.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

/-! ## The body on symbolic staging memrefs, one run per pair of decisions -/

variable (c : Dev nD) (i : grid0.Coords)
  (arg3 : Memref sig .tc .vmem S1024x1024 .bf16) (harg3 : arg3.IsWhole)
  (arg4 : Memref sig .tc .vmem S1024x512 .bf16) (harg4 : arg4.IsWhole)
  (arg5 : Memref sig .tc .vmem S1024x1024 .bf16) (harg5 : arg5.IsWhole)
  (arg6 : Memref sig .tc .vmem S1x1024x256 .bf16) (harg6 : arg6.IsWhole)
  (arg7 : Memref sig .tc .vmem S1x1024x256 .bf16) (harg7 : arg7.IsWhole)
  (arg8 : Memref sig .tc .vmem S512x1024 .bf16) (harg8 : arg8.IsWhole)
  (T0 T1 : S272.Idx → BitVec 32)
  (x0 : S1024x1024.Idx → Elt Ideal .bf16)
  (x1 : S1024x512.Idx → Elt Ideal .bf16)
  (x2 : S1024x1024.Idx → Elt Ideal .bf16)
  (x3 : S1x1024x256.Idx → Elt Ideal .bf16)
  (x4 : S1x1024x256.Idx → Elt Ideal .bf16)

/-- The body as the pipeline calls it, on these memrefs. -/
abbrev bodyOn : Prog (TpuEff nD τ sig (Elt Ideal) Λ₀ .tc) PUnit :=
  cc0_attn i tQ (Memref.isWhole_whole _) tK (Memref.isWhole_whole _) arg3 harg3 arg4 harg4 arg5 harg5 arg6 harg6 arg7 harg7 arg8 harg8 sM (Memref.isWhole_whole _) sL (Memref.isWhole_whole _) sA (Memref.isWhole_whole _)

/-- The five inputs' staging buffers at their blocks and the body's halves of the tables. -/
abbrev held : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tQ.view.loc (c : Thread nD τ) ↦{fullShare.right} T0)
    ∗ (tK.view.loc (c : Thread nD τ) ↦{fullShare.right} T1))

/-- The contents of the scratches. -/
abbrev BM : Type := Buf (Elt Ideal) ((c : Thread nD τ).loc cc0_scratch0)
abbrev BL : Type := Buf (Elt Ideal) ((c : Thread nD τ).loc cc0_scratch1)
abbrev BA : Type := Buf (Elt Ideal) ((c : Thread nD τ).loc cc0_scratch2)
/-- The three scratches at given contents. -/
abbrev scr (a0 : BM c) (a1 : BL c) (a2 : BA c) : sProp 𝕄 :=
  iprop((sM.view.loc (c : Thread nD τ) ↦{fullShare} a0) ∗ (sL.view.loc (c : Thread nD τ) ↦{fullShare} a1) ∗ (sA.view.loc (c : Thread nD τ) ↦{fullShare} a2))
/-- A staging buffer of the output, through which its contents are stated. -/
abbrev VO : View sig .tc .vmem S512x1024 .bf16 := (Memref.whole cc0_stg5_0 : Memref sig .tc .vmem S512x1024 .bf16).view

set_option backward.proofsInPublic true in
set_option maxHeartbeats 8000000 in
/-- The body at the only block of keys: what it leaves in the scratches and the pieces it stores of the output, found by running it. -/
noncomputable def runA (hc : CFirst i T1) (hl : CLast i T0 T1) :
    Σ' (pcs : List (View.Piece (Elt Ideal) S512x1024 .bf16)) (o0 : BM c) (o1 : BL c), { o2 : BA c //
      ∀ (a0 : BM c) (a1 : BL c) (a2 : BA c) (K : PUnit → sProp 𝕄),
        iprop(held c arg3 arg4 arg5 arg6 arg7 T0 T1 x0 x1 x2 x3 x4 ∗ (∃ d, owns (c : Thread nD τ) arg8 fullShare d) ∗ scr c a0 a1 a2
          ∗ (iprop(held c arg3 arg4 arg5 arg6 arg7 T0 T1 x0 x1 x2 x3 x4 ∗ (∃ f, arg8.view.loc (c : Thread nD τ) ↦[arg8.view.set]{fullShare} arg8.view.writes (Elt Ideal) f pcs) ∗ scr c o0 o1 o2) -∗ K ⟨⟩))
          ⊢ wp frame (wpE (defs₀ (F := Ideal)) Variants.none c none) Set.univ (bodyOn i arg3 harg3 arg4 harg4 arg5 harg5 arg6 harg6 arg7 harg7 arg8 harg8) K } :=
  ⟨_, _, _, _, fun (a0 : BM c) (a1 : BL c) (a2 : BA c) K => by
    unfold owns
    rw [bodyOn, cc0_attn_eq_skeleton]; unfold cc0_attn_skel
    iintro ⟨⟨H0, H1, H2, H3, H4, HT0, HT1⟩, ⟨%d5, %f5, -, HO⟩, ⟨HS0, HS1, HS2⟩, Hk⟩
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = Scalar.cmpi = _; exact hc) | (guard_target = k0_cond2 _ _ = _; exact hl))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO]
    · iexists _; iexact HO
    isplitl [HS0]; · iexact HS0
    isplitl [HS1]; · iexact HS1
    iexact HS2⟩

/-- The pieces stored there tile the output's block. -/
theorem coverA (hc : CFirst i T1) (hl : CLast i T0 T1) (y : S512x1024.Idx) :
    ∃ pc ∈ (runA c i arg3 harg3 arg4 harg4 arg5 harg5 arg6 harg6 arg7 harg7 arg8 harg8 T0 T1 x0 x1 x2 x3 x4 hc hl).1, y ∈ pc.1.set :=
  View.cover_of_tiledL (runA c i arg3 harg3 arg4 harg4 arg5 harg5 arg6 harg6 arg7 harg7 arg8 harg8 T0 T1 x0 x1 x2 x3 x4 hc hl).1 S512x128.size (by sl_kernel_rfl) y

/-- The output's block after it: the pieces read back. -/
def outA (hc : CFirst i T1) (hl : CLast i T0 T1) : S512x1024.Idx → Elt Ideal .bf16 :=
  VO.read (Elt Ideal) (VO.writes (Elt Ideal) VO.junk (runA c i arg3 harg3 arg4 harg4 arg5 harg5 arg6 harg6 arg7 harg7 arg8 harg8 T0 T1 x0 x1 x2 x3 x4 hc hl).1)

set_option backward.proofsInPublic true in
set_option maxHeartbeats 8000000 in
/-- The body at the first of several blocks of keys: what it leaves in the scratches, found by running it. -/
noncomputable def runB (hc : CFirst i T1) (hl : ¬CLast i T0 T1) :
    Σ' (o0 : BM c) (o1 : BL c), { o2 : BA c //
      ∀ (a0 : BM c) (a1 : BL c) (a2 : BA c) (y : S512x1024.Idx → Elt Ideal .bf16) (K : PUnit → sProp 𝕄),
        iprop(held c arg3 arg4 arg5 arg6 arg7 T0 T1 x0 x1 x2 x3 x4 ∗ owns (c : Thread nD τ) arg8 fullShare y ∗ scr c a0 a1 a2
          ∗ (iprop(held c arg3 arg4 arg5 arg6 arg7 T0 T1 x0 x1 x2 x3 x4 ∗ owns (c : Thread nD τ) arg8 fullShare y ∗ scr c o0 o1 o2) -∗ K ⟨⟩))
          ⊢ wp frame (wpE (defs₀ (F := Ideal)) Variants.none c none) Set.univ (bodyOn i arg3 harg3 arg4 harg4 arg5 harg5 arg6 harg6 arg7 harg7 arg8 harg8) K } :=
  ⟨_, _, _, fun (a0 : BM c) (a1 : BL c) (a2 : BA c) (y : S512x1024.Idx → Elt Ideal .bf16) K => by
    unfold owns
    rw [bodyOn, cc0_attn_eq_skeleton]; unfold cc0_attn_skel
    iintro ⟨⟨H0, H1, H2, H3, H4, HT0, HT1⟩, ⟨%f5, %hf5, HO⟩, ⟨HS0, HS1, HS2⟩, Hk⟩
    obtain rfl := harg8.eq_unread hf5
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = Scalar.cmpi = _; exact hc) | (guard_target = ¬(k0_cond2 _ _ = _); exact hl))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO]
    · iexists _; isplitr; · ipureintro; exact harg8.read_unread _
      iexact HO
    isplitl [HS0]; · iexact HS0
    isplitl [HS1]; · iexact HS1
    iexact HS2⟩

set_option backward.proofsInPublic true in
set_option maxHeartbeats 8000000 in
/-- The body at the last of several: what it leaves in the scratches and the pieces it stores of the output, found by running it. -/
noncomputable def runC (a0 : BM c) (a1 : BL c) (a2 : BA c) (hc : ¬CFirst i T1) (hl : CLast i T0 T1) :
    Σ' (pcs : List (View.Piece (Elt Ideal) S512x1024 .bf16)) (o0 : BM c) (o1 : BL c), { o2 : BA c //
      ∀ (K : PUnit → sProp 𝕄),
        iprop(held c arg3 arg4 arg5 arg6 arg7 T0 T1 x0 x1 x2 x3 x4 ∗ (∃ d, owns (c : Thread nD τ) arg8 fullShare d) ∗ scr c a0 a1 a2
          ∗ (iprop(held c arg3 arg4 arg5 arg6 arg7 T0 T1 x0 x1 x2 x3 x4 ∗ (∃ f, arg8.view.loc (c : Thread nD τ) ↦[arg8.view.set]{fullShare} arg8.view.writes (Elt Ideal) f pcs) ∗ scr c o0 o1 o2) -∗ K ⟨⟩))
          ⊢ wp frame (wpE (defs₀ (F := Ideal)) Variants.none c none) Set.univ (bodyOn i arg3 harg3 arg4 harg4 arg5 harg5 arg6 harg6 arg7 harg7 arg8 harg8) K } :=
  ⟨_, _, _, _, fun K => by
    unfold owns
    rw [bodyOn, cc0_attn_eq_skeleton]; unfold cc0_attn_skel
    iintro ⟨⟨H0, H1, H2, H3, H4, HT0, HT1⟩, ⟨%d5, %f5, -, HO⟩, ⟨HS0, HS1, HS2⟩, Hk⟩
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = Scalar.cmpi = _; exact hc) | (guard_target = k0_cond2 _ _ = _; exact hl))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO]
    · iexists _; iexact HO
    isplitl [HS0]; · iexact HS0
    isplitl [HS1]; · iexact HS1
    iexact HS2⟩

/-- The pieces stored there tile the output's block. -/
theorem coverC (a0 : BM c) (a1 : BL c) (a2 : BA c) (hc : ¬CFirst i T1) (hl : CLast i T0 T1) (y : S512x1024.Idx) :
    ∃ pc ∈ (runC c i arg3 harg3 arg4 harg4 arg5 harg5 arg6 harg6 arg7 harg7 arg8 harg8 T0 T1 x0 x1 x2 x3 x4 a0 a1 a2 hc hl).1, y ∈ pc.1.set :=
  View.cover_of_tiledL (runC c i arg3 harg3 arg4 harg4 arg5 harg5 arg6 harg6 arg7 harg7 arg8 harg8 T0 T1 x0 x1 x2 x3 x4 a0 a1 a2 hc hl).1 S512x128.size (by sl_kernel_rfl) y

/-- The output's block after it: the pieces read back. -/
def outC (a0 : BM c) (a1 : BL c) (a2 : BA c) (hc : ¬CFirst i T1) (hl : CLast i T0 T1) : S512x1024.Idx → Elt Ideal .bf16 :=
  VO.read (Elt Ideal) (VO.writes (Elt Ideal) VO.junk (runC c i arg3 harg3 arg4 harg4 arg5 harg5 arg6 harg6 arg7 harg7 arg8 harg8 T0 T1 x0 x1 x2 x3 x4 a0 a1 a2 hc hl).1)

set_option backward.proofsInPublic true in
set_option maxHeartbeats 8000000 in
/-- The body at a middle one: what it leaves in the scratches, found by running it. -/
noncomputable def runD (a0 : BM c) (a1 : BL c) (a2 : BA c) (hc : ¬CFirst i T1) (hl : ¬CLast i T0 T1) :
    Σ' (o0 : BM c) (o1 : BL c), { o2 : BA c //
      ∀ (y : S512x1024.Idx → Elt Ideal .bf16) (K : PUnit → sProp 𝕄),
        iprop(held c arg3 arg4 arg5 arg6 arg7 T0 T1 x0 x1 x2 x3 x4 ∗ owns (c : Thread nD τ) arg8 fullShare y ∗ scr c a0 a1 a2
          ∗ (iprop(held c arg3 arg4 arg5 arg6 arg7 T0 T1 x0 x1 x2 x3 x4 ∗ owns (c : Thread nD τ) arg8 fullShare y ∗ scr c o0 o1 o2) -∗ K ⟨⟩))
          ⊢ wp frame (wpE (defs₀ (F := Ideal)) Variants.none c none) Set.univ (bodyOn i arg3 harg3 arg4 harg4 arg5 harg5 arg6 harg6 arg7 harg7 arg8 harg8) K } :=
  ⟨_, _, _, fun (y : S512x1024.Idx → Elt Ideal .bf16) K => by
    unfold owns
    rw [bodyOn, cc0_attn_eq_skeleton]; unfold cc0_attn_skel
    iintro ⟨⟨H0, H1, H2, H3, H4, HT0, HT1⟩, ⟨%f5, %hf5, HO⟩, ⟨HS0, HS1, HS2⟩, Hk⟩
    obtain rfl := harg8.eq_unread hf5
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = Scalar.cmpi = _; exact hc) | (guard_target = ¬(k0_cond2 _ _ = _); exact hl))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO]
    · iexists _; isplitr; · ipureintro; exact harg8.read_unread _
      iexact HO
    isplitl [HS0]; · iexact HS0
    isplitl [HS1]; · iexact HS1
    iexact HS2⟩

end Cert.KernelIdeal.Attn

end
-- ==== Proof.Attn.KernelIdeal.Frame.lean ====
/- The pipeline's proof data, the body obligation at every point, and the launch. -/
module

public import proofs.«01_k».proof.Proof.Attn.KernelIdeal.Runs

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The launch memory as a valuation of core `c`, and every buffer's contents where the call begins. -/
abbrev VH (c : Dev nD) (b : Ref sig .tc) : Buf (Elt Ideal) ((c : Thread nD τ).loc b) :=
  StableHlo.after (hostOps0 (F := Ideal)) (fun b => m (c, b)) b

/-! ## A point's staging memrefs and blocks -/

abbrev ms0 (t : Fin cfgA.N) : Memref sig .tc .vmem S1024x1024 .bf16 := spec0_0.stage (cfgA.slots t (0 : Fin 6))
abbrev hs0 (t : Fin cfgA.N) : (ms0 t).IsWhole := hstage0_0 ((cfgA.slots t (0 : Fin 6)).cast nbuf0_0)
abbrev ms1 (t : Fin cfgA.N) : Memref sig .tc .vmem S1024x512 .bf16 := spec0_1.stage (cfgA.slots t (1 : Fin 6))
abbrev hs1 (t : Fin cfgA.N) : (ms1 t).IsWhole := hstage0_1 ((cfgA.slots t (1 : Fin 6)).cast nbuf0_1)
abbrev ms2 (t : Fin cfgA.N) : Memref sig .tc .vmem S1024x1024 .bf16 := spec0_2.stage (cfgA.slots t (2 : Fin 6))
abbrev hs2 (t : Fin cfgA.N) : (ms2 t).IsWhole := hstage0_2 ((cfgA.slots t (2 : Fin 6)).cast nbuf0_2)
abbrev ms3 (t : Fin cfgA.N) : Memref sig .tc .vmem S1x1024x256 .bf16 := spec0_3.stage (cfgA.slots t (3 : Fin 6))
abbrev hs3 (t : Fin cfgA.N) : (ms3 t).IsWhole := hstage0_3 ((cfgA.slots t (3 : Fin 6)).cast nbuf0_3)
abbrev ms4 (t : Fin cfgA.N) : Memref sig .tc .vmem S1x1024x256 .bf16 := spec0_4.stage (cfgA.slots t (4 : Fin 6))
abbrev hs4 (t : Fin cfgA.N) : (ms4 t).IsWhole := hstage0_4 ((cfgA.slots t (4 : Fin 6)).cast nbuf0_4)
abbrev ms5 (t : Fin cfgA.N) : Memref sig .tc .vmem S512x1024 .bf16 := spec0_5.stage (cfgA.slots t (5 : Fin 6))
abbrev hs5 (t : Fin cfgA.N) : (ms5 t).IsWhole := hstage0_5 ((cfgA.slots t (5 : Fin 6)).cast nbuf0_5)

/-- Window `w`'s block at point `t`, read off its array where the call begins. -/
def iblk (c : Dev nD) (w : Fin cfgA.W) (t : Fin cfgA.N) : ((cfgA.win w).xblock (crd t)).Idx → Elt Ideal (cfgA.win w).elt :=
  ((cfgA.win w).blk t).view.read (Elt Ideal) (VH m c (Pipeline.arrRef spec0 w))

/-! ## What the output's block and the scratches hold after each point -/

/-- One step: from what they held before point `t` to what they hold after it. -/
def step (c : Dev nD) (t : Fin cfgA.N) (p : (S512x1024.Idx → Elt Ideal .bf16) × BM c × BL c × BA c) : (S512x1024.Idx → Elt Ideal .bf16) × BM c × BL c × BA c :=
  if h0 : First t then
    if h1 : Last t then
      let r := runA c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) ((factsAt t).1.mpr h0) ((factsAt t).2.1.mpr h1)
      (outA c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) ((factsAt t).1.mpr h0) ((factsAt t).2.1.mpr h1), r.2.1, r.2.2.1, r.2.2.2.1)
    else
      let r := runB c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) ((factsAt t).1.mpr h0) (fun h => h1 ((factsAt t).2.1.mp h))
      (default, r.1, r.2.1, r.2.2.1)
  else
    if h1 : Last t then
      let r := runC c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) p.2.1 p.2.2.1 p.2.2.2 (fun h => h0 ((factsAt t).1.mp h)) ((factsAt t).2.1.mpr h1)
      (outC c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) p.2.1 p.2.2.1 p.2.2.2 (fun h => h0 ((factsAt t).1.mp h)) ((factsAt t).2.1.mpr h1), r.2.1, r.2.2.1, r.2.2.2.1)
    else
      let r := runD c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) p.2.1 p.2.2.1 p.2.2.2 (fun h => h0 ((factsAt t).1.mp h)) (fun h => h1 ((factsAt t).2.1.mp h))
      (default, r.1, r.2.1, r.2.2.1)

/-- What they hold before point `n`. -/
def traj (c : Dev nD) : (n : ℕ) → (S512x1024.Idx → Elt Ideal .bf16) × BM c × BL c × BA c
  | 0 => (default, default, default, default)
  | n + 1 => if h : n < cfgA.N then step m c ⟨n, h⟩ (traj c n) else (default, default, default, default)

theorem traj_succ (c : Dev nD) (t : Fin cfgA.N) : traj m c (t.val + 1) = step m c t (traj m c t.val) := by
  rw [traj, dif_pos t.isLt]

/-- The invariant before point `t`: the scratches at what the points so far have left there (anything before the first),
    the generator's register, the body's halves of the tables. -/
def Phi (c : Dev nD) (t : Fin (cfgA.N + 1)) : sProp 𝕄 :=
  iprop((∃ a : BM c × BL c × BA c, ⌜t.val ≠ 0 → a = (traj m c t.val).2⌝ ∗ scr c a.1 a.2.1 a.2.2) ∗ (∃ r, prngReg c r)
    ∗ (tQ.view.loc (c : Thread nD τ) ↦{fullShare.right} tabQ) ∗ (tK.view.loc (c : Thread nD τ) ↦{fullShare.right} tabK))

/-- The proof data of the pipeline on core `c`. -/
def dats (_ : Fin 1) (c : Dev nD) : Dat τ (Elt Ideal) Unit ℕ (UR sig nD τ) ℕ cfgA c where
  A w := VH m c (Pipeline.arrRef spec0 w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => iblk m c (4 : Fin 6) t
    | ⟨5, _⟩ => (traj m c (t.val + 1)).1
  Φ t := Phi m c t
  q w := Pipeline.shareOf spec0 w
  owed _ := 0

theorem after_0 (c : Dev nD) (t : Fin cfgA.N) : (dats m 0 c).after (0 : Fin 6) t = iblk m c (0 : Fin 6) t := rfl
theorem after_1 (c : Dev nD) (t : Fin cfgA.N) : (dats m 0 c).after (1 : Fin 6) t = iblk m c (1 : Fin 6) t := rfl
theorem after_2 (c : Dev nD) (t : Fin cfgA.N) : (dats m 0 c).after (2 : Fin 6) t = iblk m c (2 : Fin 6) t := rfl
theorem after_3 (c : Dev nD) (t : Fin cfgA.N) : (dats m 0 c).after (3 : Fin 6) t = iblk m c (3 : Fin 6) t := rfl
theorem after_4 (c : Dev nD) (t : Fin cfgA.N) : (dats m 0 c).after (4 : Fin 6) t = iblk m c (4 : Fin 6) t := rfl
theorem after_5 (c : Dev nD) (t : Fin cfgA.N) : (dats m 0 c).after (5 : Fin 6) t = (traj m c (t.val + 1)).1 := rfl

/-- Input window 0 holds its block when the body runs. -/
theorem before_0 (c : Dev nD) (t : Fin cfgA.N) (d) : (dats m 0 c).before (0 : Fin 6) t d = iblk m c (0 : Fin 6) t :=
  ((dats m 0 c).before_in_eq_fetched (0 : Fin 6) rfl (fun _ => rfl) (fun _ _ _ => rfl) (fun t => by rw [after_0]; unfold Dat.blockOf iblk; rfl) t d).trans
    (by unfold Dat.fetched Dat.blockOf iblk; rfl)
/-- Input window 1 holds its block when the body runs. -/
theorem before_1 (c : Dev nD) (t : Fin cfgA.N) (d) : (dats m 0 c).before (1 : Fin 6) t d = iblk m c (1 : Fin 6) t :=
  ((dats m 0 c).before_in_eq_fetched (1 : Fin 6) rfl (fun _ => rfl) (fun _ _ _ => rfl) (fun t => by rw [after_1]; unfold Dat.blockOf iblk; rfl) t d).trans
    (by unfold Dat.fetched Dat.blockOf iblk; rfl)
/-- Input window 2 holds its block when the body runs. -/
theorem before_2 (c : Dev nD) (t : Fin cfgA.N) (d) : (dats m 0 c).before (2 : Fin 6) t d = iblk m c (2 : Fin 6) t :=
  ((dats m 0 c).before_in_eq_fetched (2 : Fin 6) rfl (fun _ => rfl) (fun _ _ _ => rfl) (fun t => by rw [after_2]; unfold Dat.blockOf iblk; rfl) t d).trans
    (by unfold Dat.fetched Dat.blockOf iblk; rfl)
/-- Input window 3 holds its block when the body runs. -/
theorem before_3 (c : Dev nD) (t : Fin cfgA.N) (d) : (dats m 0 c).before (3 : Fin 6) t d = iblk m c (3 : Fin 6) t :=
  ((dats m 0 c).before_in_eq_fetched (3 : Fin 6) rfl (fun _ => rfl) (fun _ _ _ => rfl) (fun t => by rw [after_3]; unfold Dat.blockOf iblk; rfl) t d).trans
    (by unfold Dat.fetched Dat.blockOf iblk; rfl)
/-- Input window 4 holds its block when the body runs. -/
theorem before_4 (c : Dev nD) (t : Fin cfgA.N) (d) : (dats m 0 c).before (4 : Fin 6) t d = iblk m c (4 : Fin 6) t :=
  ((dats m 0 c).before_in_eq_fetched (4 : Fin 6) rfl (fun _ => rfl) (fun _ _ _ => rfl) (fun t => by rw [after_4]; unfold Dat.blockOf iblk; rfl) t d).trans
    (by unfold Dat.fetched Dat.blockOf iblk; rfl)
/-- The output's buffer holds nothing a point has stored when the body runs. -/
theorem before_5 (c : Dev nD) (t : Fin cfgA.N) (d) : (dats m 0 c).before (5 : Fin 6) t d = d := by
  rw [(dats m 0 c).before_out_traj (5 : Fin 6) rfl (fun _ _ => rfl) (fun t ht hi hf => by rw [fresh5] at hf; exact absurd hf (by decide)) t.val t rfl d,
    fresh5, if_pos rfl]

/-! ## The body obligation -/

/-- The body at point `t` on its staging memrefs, as the pipeline calls it. -/
abbrev bodyAt (t : Fin cfgA.N) : Prog (TpuEff nD τ sig (Elt Ideal) Λ₀ .tc) PUnit := bodyOn (crd t) (ms0 t) (hs0 t) (ms1 t) (hs1 t) (ms2 t) (hs2 t) (ms3 t) (hs3 t) (ms4 t) (hs4 t) (ms5 t) (hs5 t)

set_option maxHeartbeats 4000000 in
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before (0 : Fin 6) t d))
        ∗ (∃ d, owns (c : Thread nD τ) (ms1 t) fullShare ((dats m 0 c).before (1 : Fin 6) t d))
        ∗ (∃ d, owns (c : Thread nD τ) (ms2 t) fullShare ((dats m 0 c).before (2 : Fin 6) t d))
        ∗ (∃ d, owns (c : Thread nD τ) (ms3 t) fullShare ((dats m 0 c).before (3 : Fin 6) t d))
        ∗ (∃ d, owns (c : Thread nD τ) (ms4 t) fullShare ((dats m 0 c).before (4 : Fin 6) t d))
        ∗ (∃ d, owns (c : Thread nD τ) (ms5 t) fullShare ((dats m 0 c).before (5 : Fin 6) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  obtain ⟨hF, hL, i5, f5, hz⟩ := factsAt t
  by_cases h0 : First t
  · by_cases h1 : Last t
    · rewrite [show cfgA.idle (5 : Fin 6) (cfgA.grid.coords t) = false from by rw [i5, decide_eq_true h1]; rfl]
      simp only [before_0, before_1, before_2, before_3, before_4, before_5, after_0, after_1, after_2, after_3, after_4, after_5, f5, h1, decide_true, decide_false]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi; simp only [Fin.val_castSucc, Fin.val_succ, traj_succ]
      iintro ⟨⟨⟨%a, %ha, HS⟩, Hg, HT0, HT1⟩, Ho, ⟨%d0, H0⟩, ⟨%d1, H1⟩, ⟨%d2, H2⟩, ⟨%d3, H3⟩, ⟨%d4, H4⟩, ⟨%d5, H5⟩⟩
      iapply ((runA c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) (hF.mpr h0) (hL.mpr h1)).2.2.2.2 a.1 a.2.1 a.2.2 _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [HS]; · iexact HS
      iintro ⟨⟨H0, H1, H2, H3, H4, HT0, HT1⟩, ⟨%e5, H5⟩, HS⟩
      isplitl [HS Hg HT0 HT1]
      · isplitl [HS]
        · iexists (step m c t (traj m c t.val)).2; isplitr
          · ipureintro; intro _; rfl
          unfold step; simp only [dif_pos h0, dif_pos h1]; iexact HS
        isplitl [Hg]; · iexact Hg
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro; unfold step; simp only [dif_pos h0, dif_pos h1]
        exact View.read_writes_of_cover _ _ _ _ _ (coverA c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) (hF.mpr h0) (hL.mpr h1))
    · rewrite [show cfgA.idle (5 : Fin 6) (cfgA.grid.coords t) = true from by rw [i5, decide_eq_false h1]; rfl]
      simp only [before_0, before_1, before_2, before_3, before_4, before_5, after_0, after_1, after_2, after_3, after_4, after_5, f5, h1, decide_true, decide_false]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi; simp only [Fin.val_castSucc, Fin.val_succ, traj_succ]
      iintro ⟨⟨⟨%a, %ha, HS⟩, Hg, HT0, HT1⟩, Ho, ⟨%d0, H0⟩, ⟨%d1, H1⟩, ⟨%d2, H2⟩, ⟨%d3, H3⟩, ⟨%d4, H4⟩, ⟨%d5, H5⟩⟩
      iapply ((runB c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) (hF.mpr h0) (fun h => h1 (hL.mp h))).2.2.2 a.1 a.2.1 a.2.2 _ _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexact H5
      isplitl [HS]; · iexact HS
      iintro ⟨⟨H0, H1, H2, H3, H4, HT0, HT1⟩, H5, HS⟩
      isplitl [HS Hg HT0 HT1]
      · isplitl [HS]
        · iexists (step m c t (traj m c t.val)).2; isplitr
          · ipureintro; intro _; rfl
          unfold step; simp only [dif_pos h0, dif_neg h1]; iexact HS
        isplitl [Hg]; · iexact Hg
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists d5; iexact H5
  · by_cases h1 : Last t
    · rewrite [show cfgA.idle (5 : Fin 6) (cfgA.grid.coords t) = false from by rw [i5, decide_eq_true h1]; rfl]
      simp only [before_0, before_1, before_2, before_3, before_4, before_5, after_0, after_1, after_2, after_3, after_4, after_5, f5, h1, decide_true, decide_false]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi; simp only [Fin.val_castSucc, Fin.val_succ, traj_succ]
      iintro ⟨⟨⟨%a, %ha, HS⟩, Hg, HT0, HT1⟩, Ho, ⟨%d0, H0⟩, ⟨%d1, H1⟩, ⟨%d2, H2⟩, ⟨%d3, H3⟩, ⟨%d4, H4⟩, ⟨%d5, H5⟩⟩
      obtain rfl := ha (fun h => h0 (hz h))
      iapply ((runC c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) (traj m c t.val).2.1 (traj m c t.val).2.2.1 (traj m c t.val).2.2.2 (fun h => h0 (hF.mp h)) (hL.mpr h1)).2.2.2.2 _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [HS]; · iexact HS
      iintro ⟨⟨H0, H1, H2, H3, H4, HT0, HT1⟩, ⟨%e5, H5⟩, HS⟩
      isplitl [HS Hg HT0 HT1]
      · isplitl [HS]
        · iexists (step m c t (traj m c t.val)).2; isplitr
          · ipureintro; intro _; rfl
          unfold step; simp only [dif_neg h0, dif_pos h1]; iexact HS
        isplitl [Hg]; · iexact Hg
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro; unfold step; simp only [dif_neg h0, dif_pos h1]
        exact View.read_writes_of_cover _ _ _ _ _ (coverC c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) (traj m c t.val).2.1 (traj m c t.val).2.2.1 (traj m c t.val).2.2.2 (fun h => h0 (hF.mp h)) (hL.mpr h1))
    · rewrite [show cfgA.idle (5 : Fin 6) (cfgA.grid.coords t) = true from by rw [i5, decide_eq_false h1]; rfl]
      simp only [before_0, before_1, before_2, before_3, before_4, before_5, after_0, after_1, after_2, after_3, after_4, after_5, f5, h1, decide_true, decide_false]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi; simp only [Fin.val_castSucc, Fin.val_succ, traj_succ]
      iintro ⟨⟨⟨%a, %ha, HS⟩, Hg, HT0, HT1⟩, Ho, ⟨%d0, H0⟩, ⟨%d1, H1⟩, ⟨%d2, H2⟩, ⟨%d3, H3⟩, ⟨%d4, H4⟩, ⟨%d5, H5⟩⟩
      obtain rfl := ha (fun h => h0 (hz h))
      iapply ((runD c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) (traj m c t.val).2.1 (traj m c t.val).2.2.1 (traj m c t.val).2.2.2 (fun h => h0 (hF.mp h)) (fun h => h1 (hL.mp h))).2.2.2 _ _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexact H5
      isplitl [HS]; · iexact HS
      iintro ⟨⟨H0, H1, H2, H3, H4, HT0, HT1⟩, H5, HS⟩
      isplitl [HS Hg HT0 HT1]
      · isplitl [HS]
        · iexists (step m c t (traj m c t.val)).2; isplitr
          · ipureintro; intro _; rfl
          unfold step; simp only [dif_neg h0, dif_neg h1]; iexact HS
        isplitl [Hg]; · iexact Hg
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists d5; iexact H5

/-- The library's body obligation, at every point. -/
theorem body_obligation (c : Dev nD) : BodyObligation (dats m 0 c) (defs₀ (F := Ideal)) Variants.none () Set.univ := fun t => by
  rw [bigSep_W0]
  exact sound_body m c t

/-! ## The launch -/

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(Pipeline.ΦA spec0 c ∗ Pipeline.ΦT pre0 adm.1 c) ⊢ (dats m 0 c).Φ 0 := by
  rw [show (dats m 0 c).Φ 0 = Phi m c 0 from rfl]
  unfold Pipeline.ΦA Pipeline.ΦT
  rw [prefHeld_eq, scopedRest0_eq]
  unfold Phi
  iintro ⟨⟨⟨⟨%a0, HS0⟩, ⟨%a1, HS1⟩, ⟨%a2, HS2⟩⟩, Hg⟩, HT0, HT1⟩
  isplitl [HS0 HS1 HS2]
  · iexists (a0, a1, a2); isplitr
    · ipureintro; intro h; exact absurd rfl h
    isplitl [HS0]; · iexact HS0
    isplitl [HS1]; · iexact HS1
    iexact HS2
  isplitl [Hg]; · iexact Hg
  isplitl [HT0]; · iexact HT0
  iexact HT1

theorem phi_exit (c : Dev nD) : (dats m 0 c).Φ (Fin.last cfgA.N) ⊢ Pipeline.ΦA spec0 c := by
  rw [show (dats m 0 c).Φ (Fin.last cfgA.N) = Phi m c (Fin.last _) from rfl]
  unfold Pipeline.ΦA
  rw [scopedRest0_eq]
  unfold Phi
  iintro ⟨⟨%a, -, HS0, HS1, HS2⟩, Hg, -, -⟩
  isplitr [Hg]; swap
  · iexact Hg
  isplitl [HS0]
  · iexists a.1; iexact HS0
  isplitl [HS1]
  · iexists a.2.1; iexact HS1
  iexists a.2.2; iexact HS2

theorem V_pre (c : Dev nD) (j : Fin 2) : VH m c (pre0.ref j) = adm.1 j := by
  fin_cases j
  · refine Eq.trans ?_ tabQ_lit; rfl
  · refine Eq.trans ?_ tabK_lit; rfl

/-- The three argument arrays where the call begins: what the launch memory holds. -/
theorem V_arg0 (c : Dev nD) : VH m c main_arg0 = m ((c : Thread nD τ).loc main_arg0) := rfl
theorem V_arg1 (c : Dev nD) : VH m c main_arg1 = m ((c : Thread nD τ).loc main_arg1) := rfl
theorem V_arg2 (c : Dev nD) : VH m c main_arg2 = m ((c : Thread nD τ).loc main_arg2) := rfl

set_option backward.isDefEq.respectTransparency.types false in
set_option maxHeartbeats 4000000 in
/-- From any memory with zero counters every execution ends, every window's array as the pipeline leaves it, the other
    buffers as the host's operations left them and every counter at zero. -/
theorem run_main : θ_run (defs (F := Ideal)) (onTc (τ := τ) (main (F := Ideal))) ⟨m, fun _ => 0, ρ⟩
    (fun r => Pipeline.FramePost pcs (dats m) 0 (VH m) r ∧ r.2.sem = fun _ => 0) :=
  RDat.θ_run_frameP_track_shared (pcfgs (F := Ideal)) (fun _ => adm) 0 (launch₀0 (F := Ideal)) defs₀ Variants.none
    (fun c => (dats m 0 c).toR) m ρ main
    (fun c => (body_obligation m c).toR) (fun c w _ => rfl) (fun _ _ => rfl) (VH m)
    (Pipeline.hmainP_prefix (pcfgs (F := Ideal)) 0 defs₀ Variants.none m main hostOps0 hostOps0_sub ⟨rfl, rfl⟩ main_chain)
    (fun _ _ => rfl) (fun c j => V_pre m c j) (fun c => phi_intro m c) (fun c => phi_exit m c)
    _ (fun r h => ⟨RDat.FramePost.toDat pcs (dats m) 0 (VH m) r h.1, h.2⟩)

/-- The frame: every execution ends, the argument arrays unchanged and every counter at zero. -/
theorem frame_holds : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).1 (0 : Fin 6)).trans ((dats m 0 c).arrAt_in (0 : Fin 6) rfl _),
     ((h.1 c).1 (1 : Fin 6)).trans ((dats m 0 c).arrAt_in (1 : Fin 6) rfl _),
     ((h.1 c).1 (3 : Fin 6)).trans ((dats m 0 c).arrAt_in (3 : Fin 6) rfl _)⟩, h.2⟩) (run_main m ρ)

end Cert.KernelIdeal.Attn

end
-- ==== Proof.Attn.Softmax.lean ====
/- The softmax over the extended reals: shifting the scores changes nothing, and the division may be done last. -/
module

public import Idealize.ShloMosaic.PureOps.Ideal
public import Idealize.ShloMosaic.PureOps.Ideal.Laws
public import Mathlib.Algebra.BigOperators.Fin
public import Mathlib.Data.Finset.Fold
public import Mathlib.Data.EReal.Operations

@[expose] public section

noncomputable section

namespace Cert.Softmax

open Idealize.ShloMosaic

/-- A sum of extended reals times a nonnegative real. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A sum of reals, read in the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real of finite absolute value is a real. -/
theorem exists_real {x : EReal} (h : max x (-x) < ⊤) : ∃ r : ℝ, x = r := by
  induction x with
  | bot => simp at h
  | top => simp at h
  | coe r => exact ⟨r, rfl⟩

section
variable {N : ℕ} (kept : Fin N → Prop) [DecidablePred kept] (x : Fin N → ℝ) (v : Fin N → EReal)

/-- The weight of a kept score, zero for one not kept. -/
def wgt (s : Fin N) : ℝ := if kept s then Real.rpow 2 (x s) else 0
/-- The score in the natural exponent, −∞ for one not kept. -/
def score (s : Fin N) : EReal := if kept s then (x s : EReal) * ((Real.log 2 : ℝ) : EReal) else ⊥

theorem wgt_nonneg (s : Fin N) : 0 ≤ wgt kept x s := by
  unfold wgt; split
  · exact Real.rpow_nonneg (by norm_num) _
  · exact le_rfl

theorem exp2_eq (s : Fin N) : Ideal.exp2 ((if kept s then 0 else ⊥) + (x s : EReal)) = (wgt kept x s : EReal) := by
  unfold wgt; by_cases h : kept s
  · rw [if_pos h, if_pos h, zero_add, Ideal.exp2_coe]
  · rw [if_neg h, if_neg h, EReal.bot_add, Ideal.exp2_bot, EReal.coe_zero]

theorem exp_eq (μ : ℝ) (s : Fin N) : Ideal.exp (score kept x s - (μ : EReal)) = ((wgt kept x s * Real.exp (-μ) : ℝ) : EReal) := by
  unfold score wgt; by_cases h : kept s
  · rw [if_pos h, if_pos h, ← EReal.coe_mul, ← EReal.coe_sub, Ideal.exp_coe]
    refine congrArg _ ?_
    show _ = (2 : ℝ) ^ (x s) * _
    rw [Real.rpow_def_of_pos (by norm_num), ← Real.exp_add]
    refine congrArg Real.exp ?_
    ring
  · rw [if_neg h, if_neg h, EReal.bot_sub, Ideal.exp_bot, zero_mul, EReal.coe_zero]

/-- The maximum of the scores of a set with a kept one is a real. -/
theorem max_real (hk : ∃ s, kept s) : ∃ μ : ℝ, (Finset.univ : Finset (Fin N)).fold max ⊥ (score kept x) = (μ : EReal) := by
  obtain ⟨s, hs⟩ := hk
  have hsc : ∀ t, kept t → score kept x t = ((x t * Real.log 2 : ℝ) : EReal) := fun t ht => by
    unfold score; rw [if_pos ht, EReal.coe_mul]
  have h1 : (Finset.univ : Finset (Fin N)).fold max ⊥ (score kept x) < ⊤ := by
    rw [Finset.fold_max_lt]
    refine ⟨bot_lt_top, fun t _ => ?_⟩
    by_cases ht : kept t
    · rw [hsc t ht]; exact EReal.coe_lt_top _
    · unfold score; rw [if_neg ht]; exact bot_lt_top
  have h2 : ⊥ < (Finset.univ : Finset (Fin N)).fold max ⊥ (score kept x) := by
    rw [Finset.lt_fold_max]
    exact Or.inr ⟨s, Finset.mem_univ s, by rw [hsc s hs]; exact EReal.bot_lt_coe _⟩
  exact ⟨_, (EReal.coe_toReal h1.ne h2.ne').symm⟩

theorem total_pos (hk : ∃ s, kept s) : 0 < ∑ s, wgt kept x s := by
  obtain ⟨s, hs⟩ := hk
  refine Finset.sum_pos' (fun t _ => wgt_nonneg kept x t) ⟨s, Finset.mem_univ s, ?_⟩
  unfold wgt; rw [if_pos hs]; exact Real.rpow_pos_of_pos (by norm_num) _

/-- The weighted values over the weights are the values weighted by the shifted softmax. -/
theorem softmax_eq (hk : ∃ s, kept s) (μ : ℝ) :
    Ideal.div (∑ s, v s * Ideal.exp2 ((if kept s then 0 else ⊥) + (x s : EReal))) (∑ s, Ideal.exp2 ((if kept s then 0 else ⊥) + (x s : EReal)))
      = ∑ s, v s * Ideal.div (Ideal.exp (score kept x s - (μ : EReal))) (0 + ∑ t, Ideal.exp (score kept x t - (μ : EReal))) := by
  have hE := total_pos kept x hk
  have he : Real.exp (-μ) ≠ 0 := (Real.exp_pos _).ne'
  simp only [exp2_eq, exp_eq, zero_add, sum_coe]
  rw [Ideal.div_coe hE.ne', sum_mul_real _ _ _ (by positivity)]
  refine Finset.sum_congr rfl fun s _ => ?_
  rw [← Finset.sum_mul, Ideal.div_coe (mul_ne_zero hE.ne' he), ← EReal.coe_mul, mul_assoc, ← EReal.coe_mul]
  refine congrArg (fun r : ℝ => v s * (r : EReal)) ?_
  field_simp

end

end Cert.Softmax

end
-- ==== Proof.Attn.KernelIdeal.Steps.lean ====
/- What the body leaves in its scratches and stores of its output, as a recursion over the heads. -/
module

public import proofs.«01_k».proof.Proof.Attn.KernelIdeal.Frame

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

/-! ## The body's sixteen steps, written as a recursion over the heads

A step takes the scores of 512 keys of the block for one head and adds their weights to the head's running sum and their
weighted values to the head's running product. -/

theorem inbL (h : ℕ) : ∀ a, (![h % 8, 0, 0] : Fin 3 → ℕ) a + S1x1x512.size a ≤ S8x1x512.size a := by
  intro a; have := Nat.mod_lt h (y := 8) (by omega); fin_cases a <;> simp [S1x1x512, S8x1x512] <;> omega
theorem inbA (h : ℕ) : ∀ a, (![h % 8, 0, 0] : Fin 3 → ℕ) a + S1x128x512.size a ≤ S8x128x512.size a := by
  intro a; have := Nat.mod_lt h (y := 8) (by omega); fin_cases a <;> simp [S1x128x512, S8x128x512] <;> omega
theorem inbK (h b : ℕ) : ∀ a, (![512 * (b % 2), 128 * (h % 8)] : Fin 2 → ℕ) a + S512x128.size a ≤ S1024x1024.size a := by
  intro a; have := Nat.mod_lt h (y := 8) (by omega); have := Nat.mod_lt b (y := 2) (by omega)
  fin_cases a <;> simp [S512x128, S1024x1024] <;> omega
theorem inbQ (h : ℕ) : ∀ a, (![128 * (h % 8), 0] : Fin 2 → ℕ) a + S128x512.size a ≤ S1024x512.size a := by
  intro a; have := Nat.mod_lt h (y := 8) (by omega)
  fin_cases a <;> simp [S128x512, S1024x512] <;> omega
theorem inbV (h b : ℕ) : ∀ a, (![128 * (h % 8), 512 * (b % 2)] : Fin 2 → ℕ) a + S128x512.size a ≤ S1024x1024.size a := by
  intro a; have := Nat.mod_lt h (y := 8) (by omega); have := Nat.mod_lt b (y := 2) (by omega)
  fin_cases a <;> simp [S128x512, S1024x1024] <;> omega
theorem inbM (b : ℕ) : ∀ a, (![0, 512 * (b % 2), 0] : Fin 3 → ℕ) a + S1x512x256.size a ≤ S1x1024x256.size a := by
  intro a; have := Nat.mod_lt b (y := 2) (by omega)
  fin_cases a <;> simp [S1x512x256, S1x1024x256] <;> omega
theorem inbO (h : ℕ) : ∀ a, (![0, 128 * (h % 8)] : Fin 2 → ℕ) a + S512x128.size a ≤ S512x1024.size a := by
  intro a; have := Nat.mod_lt h (y := 8) (by omega)
  fin_cases a <;> simp [S512x128, S512x1024] <;> omega

abbrev RL (h : ℕ) : Rect S8x1x512 := Rect.unit (s := S8x1x512) ![h % 8, 0, 0] S1x1x512.size (inbL h)
abbrev RA (h : ℕ) : Rect S8x128x512 := Rect.unit (s := S8x128x512) ![h % 8, 0, 0] S1x128x512.size (inbA h)
abbrev RO (h : ℕ) : Rect S512x1024 := Rect.unit (s := S512x1024) ![0, 128 * (h % 8)] S512x128.size (inbO h)

variable (c : Dev nD) (i : grid0.Coords)
  (arg3 : Memref sig .tc .vmem S1024x1024 .bf16) (harg3 : arg3.IsWhole)
  (arg4 : Memref sig .tc .vmem S1024x512 .bf16) (harg4 : arg4.IsWhole)
  (arg5 : Memref sig .tc .vmem S1024x1024 .bf16) (harg5 : arg5.IsWhole)
  (arg6 : Memref sig .tc .vmem S1x1024x256 .bf16) (harg6 : arg6.IsWhole)
  (arg7 : Memref sig .tc .vmem S1x1024x256 .bf16) (harg7 : arg7.IsWhole)
  (arg8 : Memref sig .tc .vmem S512x1024 .bf16) (harg8 : arg8.IsWhole)
  (T0 T1 : S272.Idx → BitVec 32)
  (x0 : S1024x1024.Idx → Elt Ideal .bf16)
  (x1 : S1024x512.Idx → Elt Ideal .bf16)
  (x2 : S1024x1024.Idx → Elt Ideal .bf16)
  (x3 : S1x1024x256.Idx → Elt Ideal .bf16)
  (x4 : S1x1024x256.Idx → Elt Ideal .bf16)

/-- The loads of step `(h, b)`: keys, queries, values, the two halves of the mask. -/
def ldK (h b : ℕ) : Vec Ideal S512x128 .bf16 := View.readAt (Elt Ideal) arg3.view (Rect.unit (s := S1024x1024) ![512 * (b % 2), 128 * (h % 8)] S512x128.size (inbK h b)).toLoadRect (arg3.view.rep x0)
def ldQ (h : ℕ) : Vec Ideal S128x512 .bf16 := View.readAt (Elt Ideal) arg4.view (Rect.unit (s := S1024x512) ![128 * (h % 8), 0] S128x512.size (inbQ h)).toLoadRect (arg4.view.rep x1)
def ldV (h b : ℕ) : Vec Ideal S128x512 .bf16 := View.readAt (Elt Ideal) arg5.view (Rect.unit (s := S1024x1024) ![128 * (h % 8), 512 * (b % 2)] S128x512.size (inbV h b)).toLoadRect (arg5.view.rep x2)
def ldM (x3 : S1x1024x256.Idx → Elt Ideal .bf16) (b : ℕ) : Vec Ideal S1x512x256 .bf16 := View.readAt (Elt Ideal) arg6.view (Rect.unit (s := S1x1024x256) ![0, 512 * (b % 2), 0] S1x512x256.size (inbM b)).toLoadRect (arg6.view.rep x3)

/-- The step's scores and its mask. -/
def scores (h b : ℕ) : FVec Ideal S512x512 .f32 := k0_pay14 (ldK arg3 x0 h b) (ldQ arg4 x1 h)
def mask (b : ℕ) : FVec Ideal S512x512 .f32 := k0_pay21 (ldM arg6 x3 b) (ldM arg7 x4 b)

/-- The step on a head's running sum, and on its running product. -/
def stepL (h b : ℕ) (old : Vec Ideal S1x1x512 .f32) : FVec Ideal S1x1x512 .f32 :=
  k0_pay30 (scores arg3 arg4 x0 x1 h b) (mask arg6 arg7 x3 x4 b) old
def stepA (h b : ℕ) (old : Vec Ideal S1x128x512 .f32) : FVec Ideal S1x128x512 .f32 :=
  k0_pay31 (scores arg3 arg4 x0 x1 h b) (mask arg6 arg7 x3 x4 b) old (ldV arg5 x2 h b)

/-- The stores into the sums' scratch after `n` heads, over the earlier stores `tl`; `rd` is the first load of a head. -/
def lsL (tl : List (View.Piece (Elt Ideal) S8x1x512 .f32)) (rd : List (View.Piece (Elt Ideal) S8x1x512 .f32) → ℕ → Vec Ideal S1x1x512 .f32) :
    ℕ → List (View.Piece (Elt Ideal) S8x1x512 .f32)
  | 0 => tl
  | n + 1 => ⟨RL n, stepL arg3 arg4 arg6 arg7 x0 x1 x3 x4 n 1 (sL.view.readCov (⟨RL n, stepL arg3 arg4 arg6 arg7 x0 x1 x3 x4 n 0 (rd (lsL tl rd n) n)⟩ :: lsL tl rd n) (RL n).toLoadRect)⟩
      :: ⟨RL n, stepL arg3 arg4 arg6 arg7 x0 x1 x3 x4 n 0 (rd (lsL tl rd n) n)⟩ :: lsL tl rd n
/-- Likewise into the products' scratch. -/
def lsA (tl : List (View.Piece (Elt Ideal) S8x128x512 .f32)) (rd : List (View.Piece (Elt Ideal) S8x128x512 .f32) → ℕ → Vec Ideal S1x128x512 .f32) :
    ℕ → List (View.Piece (Elt Ideal) S8x128x512 .f32)
  | 0 => tl
  | n + 1 => ⟨RA n, stepA arg3 arg4 arg5 arg6 arg7 x0 x1 x2 x3 x4 n 1 (sA.view.readCov (⟨RA n, stepA arg3 arg4 arg5 arg6 arg7 x0 x1 x2 x3 x4 n 0 (rd (lsA tl rd n) n)⟩ :: lsA tl rd n) (RA n).toLoadRect)⟩
      :: ⟨RA n, stepA arg3 arg4 arg5 arg6 arg7 x0 x1 x2 x3 x4 n 0 (rd (lsA tl rd n) n)⟩ :: lsA tl rd n
/-- The stores into the output after `n` heads, from the lists of the two scratches. -/
def lsO (L : List (View.Piece (Elt Ideal) S8x1x512 .f32)) (A : List (View.Piece (Elt Ideal) S8x128x512 .f32)) : ℕ → List (View.Piece (Elt Ideal) S512x1024 .bf16)
  | 0 => []
  | n + 1 => ⟨RO n, k0_pay3 (sA.view.readCov A (RA n).toLoadRect) (sL.view.readCov L (RL n).toLoadRect)⟩ :: lsO L A n

variable {arg3 arg4 arg5 arg6 arg7 x0 x1 x2 x3 x4} in
theorem lsL_ext {tl} {rd} {n : ℕ} {L' : List (View.Piece (Elt Ideal) S8x1x512 .f32)} {d0 d1 : Vec Ideal S1x1x512 .f32} (hL : L' = lsL arg3 arg4 arg6 arg7 x0 x1 x3 x4 tl rd n)
    (h0 : d0 = stepL arg3 arg4 arg6 arg7 x0 x1 x3 x4 n 0 (rd L' n)) (h1 : d1 = stepL arg3 arg4 arg6 arg7 x0 x1 x3 x4 n 1 (sL.view.readCov (⟨RL n, d0⟩ :: L') (RL n).toLoadRect)) :
    (⟨RL n, d1⟩ :: ⟨RL n, d0⟩ :: L' : List (View.Piece (Elt Ideal) S8x1x512 .f32)) = lsL arg3 arg4 arg6 arg7 x0 x1 x3 x4 tl rd (n + 1) := by
  subst h1 h0 hL; rfl
variable {arg3 arg4 arg5 arg6 arg7 x0 x1 x2 x3 x4} in
theorem lsA_ext {tl} {rd} {n : ℕ} {L' : List (View.Piece (Elt Ideal) S8x128x512 .f32)} {d0 d1 : Vec Ideal S1x128x512 .f32} (hL : L' = lsA arg3 arg4 arg5 arg6 arg7 x0 x1 x2 x3 x4 tl rd n)
    (h0 : d0 = stepA arg3 arg4 arg5 arg6 arg7 x0 x1 x2 x3 x4 n 0 (rd L' n)) (h1 : d1 = stepA arg3 arg4 arg5 arg6 arg7 x0 x1 x2 x3 x4 n 1 (sA.view.readCov (⟨RA n, d0⟩ :: L') (RA n).toLoadRect)) :
    (⟨RA n, d1⟩ :: ⟨RA n, d0⟩ :: L' : List (View.Piece (Elt Ideal) S8x128x512 .f32)) = lsA arg3 arg4 arg5 arg6 arg7 x0 x1 x2 x3 x4 tl rd (n + 1) := by
  subst h1 h0 hL; rfl

/-- The stores that begin a block of queries: both scratches zeroed. -/
def tlL : List (View.Piece (Elt Ideal) S8x1x512 .f32) := [⟨Rect.unit (s := S8x1x512) ![0, 0, 0] S8x1x512.size inb_S8x1x512_S8x1x512_0_0_0, (k0_pay12 : FVec Ideal S8x1x512 .f32)⟩]
def tlA : List (View.Piece (Elt Ideal) S8x128x512 .f32) := [⟨Rect.unit (s := S8x128x512) ![0, 0, 0] S8x128x512.size inb_S8x128x512_S8x128x512_0_0_0, (k0_pay13 : FVec Ideal S8x128x512 .f32)⟩]

/-- The two lists at a first block of keys, and at a later one. -/
abbrev firstL := lsL arg3 arg4 arg6 arg7 x0 x1 x3 x4 tlL (fun L n => sL.view.readCov L (RL n).toLoadRect) 8
abbrev firstA := lsA arg3 arg4 arg5 arg6 arg7 x0 x1 x2 x3 x4 tlA (fun L n => sA.view.readCov L (RA n).toLoadRect) 8
abbrev laterL (a1 : BL c) := lsL arg3 arg4 arg6 arg7 x0 x1 x3 x4 [] (fun _ n => View.readAt (Elt Ideal) sL.view (RL n).toLoadRect a1) 8
abbrev laterA (a2 : BA c) := lsA arg3 arg4 arg5 arg6 arg7 x0 x1 x2 x3 x4 [] (fun _ n => View.readAt (Elt Ideal) sA.view (RA n).toLoadRect a2) 8

theorem lsA_L : runA.sl.HS1_17 arg3 arg4 arg6 arg7 x0 x1 x3 x4 = (firstL arg3 arg4 arg6 arg7 x0 x1 x3 x4) := by
  refine lsL_ext (n := 7) ?_ (by rfl) (by rfl)
  refine lsL_ext (n := 6) ?_ (by rfl) (by rfl)
  refine lsL_ext (n := 5) ?_ (by rfl) (by rfl)
  refine lsL_ext (n := 4) ?_ (by rfl) (by rfl)
  refine lsL_ext (n := 3) ?_ (by rfl) (by rfl)
  refine lsL_ext (n := 2) ?_ (by rfl) (by rfl)
  refine lsL_ext (n := 1) ?_ (by rfl) (by rfl)
  refine lsL_ext (n := 0) ?_ (by rfl) (by rfl)
  rfl

theorem lsA_A : runA.sl.HS2_17 arg3 arg4 arg5 arg6 arg7 x0 x1 x2 x3 x4 = (firstA arg3 arg4 arg5 arg6 arg7 x0 x1 x2 x3 x4) := by
  refine lsA_ext (n := 7) ?_ (by rfl) (by rfl)
  refine lsA_ext (n := 6) ?_ (by rfl) (by rfl)
  refine lsA_ext (n := 5) ?_ (by rfl) (by rfl)
  refine lsA_ext (n := 4) ?_ (by rfl) (by rfl)
  refine lsA_ext (n := 3) ?_ (by rfl) (by rfl)
  refine lsA_ext (n := 2) ?_ (by rfl) (by rfl)
  refine lsA_ext (n := 1) ?_ (by rfl) (by rfl)
  refine lsA_ext (n := 0) ?_ (by rfl) (by rfl)
  rfl

theorem runA_L (hc : CFirst i T1) (hl : CLast i T0 T1) : (runA c i arg3 harg3 arg4 harg4 arg5 harg5 arg6 harg6 arg7 harg7 arg8 harg8 T0 T1 x0 x1 x2 x3 x4 hc hl).2.2.1 = sL.view.writes (Elt Ideal) sL.view.junk (firstL arg3 arg4 arg6 arg7 x0 x1 x3 x4) := by
  unfold runA; dsimp only; rw [lsA_L]
theorem runA_A (hc : CFirst i T1) (hl : CLast i T0 T1) : (runA c i arg3 harg3 arg4 harg4 arg5 harg5 arg6 harg6 arg7 harg7 arg8 harg8 T0 T1 x0 x1 x2 x3 x4 hc hl).2.2.2.1 = sA.view.writes (Elt Ideal) sA.view.junk (firstA arg3 arg4 arg5 arg6 arg7 x0 x1 x2 x3 x4) := by
  unfold runA; dsimp only; rw [lsA_A]
theorem runA_O (hc : CFirst i T1) (hl : CLast i T0 T1) : (runA c i arg3 harg3 arg4 harg4 arg5 harg5 arg6 harg6 arg7 harg7 arg8 harg8 T0 T1 x0 x1 x2 x3 x4 hc hl).1 = lsO (firstL arg3 arg4 arg6 arg7 x0 x1 x3 x4) (firstA arg3 arg4 arg5 arg6 arg7 x0 x1 x2 x3 x4) 8 := by
  unfold runA; dsimp only; rw [← lsA_L, ← lsA_A]; rfl

theorem lsB_L : runB.sl.HS1_17 arg3 arg4 arg6 arg7 x0 x1 x3 x4 = (firstL arg3 arg4 arg6 arg7 x0 x1 x3 x4) := by
  refine lsL_ext (n := 7) ?_ (by rfl) (by rfl)
  refine lsL_ext (n := 6) ?_ (by rfl) (by rfl)
  refine lsL_ext (n := 5) ?_ (by rfl) (by rfl)
  refine lsL_ext (n := 4) ?_ (by rfl) (by rfl)
  refine lsL_ext (n := 3) ?_ (by rfl) (by rfl)
  refine lsL_ext (n := 2) ?_ (by rfl) (by rfl)
  refine lsL_ext (n := 1) ?_ (by rfl) (by rfl)
  refine lsL_ext (n := 0) ?_ (by rfl) (by rfl)
  rfl

theorem lsB_A : runB.sl.HS2_17 arg3 arg4 arg5 arg6 arg7 x0 x1 x2 x3 x4 = (firstA arg3 arg4 arg5 arg6 arg7 x0 x1 x2 x3 x4) := by
  refine lsA_ext (n := 7) ?_ (by rfl) (by rfl)
  refine lsA_ext (n := 6) ?_ (by rfl) (by rfl)
  refine lsA_ext (n := 5) ?_ (by rfl) (by rfl)
  refine lsA_ext (n := 4) ?_ (by rfl) (by rfl)
  refine lsA_ext (n := 3) ?_ (by rfl) (by rfl)
  refine lsA_ext (n := 2) ?_ (by rfl) (by rfl)
  refine lsA_ext (n := 1) ?_ (by rfl) (by rfl)
  refine lsA_ext (n := 0) ?_ (by rfl) (by rfl)
  rfl

theorem runB_L (hc : CFirst i T1) (hl : ¬CLast i T0 T1) : (runB c i arg3 harg3 arg4 harg4 arg5 harg5 arg6 harg6 arg7 harg7 arg8 harg8 T0 T1 x0 x1 x2 x3 x4 hc hl).2.1 = sL.view.writes (Elt Ideal) sL.view.junk (firstL arg3 arg4 arg6 arg7 x0 x1 x3 x4) := by
  unfold runB; dsimp only; rw [lsB_L]
theorem runB_A (hc : CFirst i T1) (hl : ¬CLast i T0 T1) : (runB c i arg3 harg3 arg4 harg4 arg5 harg5 arg6 harg6 arg7 harg7 arg8 harg8 T0 T1 x0 x1 x2 x3 x4 hc hl).2.2.1 = sA.view.writes (Elt Ideal) sA.view.junk (firstA arg3 arg4 arg5 arg6 arg7 x0 x1 x2 x3 x4) := by
  unfold runB; dsimp only; rw [lsB_A]

theorem lsC_L (a1 : BL c) : runC.sl.HS1_16 c arg3 arg4 arg6 arg7 x0 x1 x3 x4 a1 = (laterL c arg3 arg4 arg6 arg7 x0 x1 x3 x4 a1) := by
  refine lsL_ext (n := 7) ?_ (by rfl) (by rfl)
  refine lsL_ext (n := 6) ?_ (by rfl) (by rfl)
  refine lsL_ext (n := 5) ?_ (by rfl) (by rfl)
  refine lsL_ext (n := 4) ?_ (by rfl) (by rfl)
  refine lsL_ext (n := 3) ?_ (by rfl) (by rfl)
  refine lsL_ext (n := 2) ?_ (by rfl) (by rfl)
  refine lsL_ext (n := 1) ?_ (by rfl) (by rfl)
  refine lsL_ext (n := 0) ?_ (by rfl) (by rfl)
  rfl

theorem lsC_A (a2 : BA c) : runC.sl.HS2_16 c arg3 arg4 arg5 arg6 arg7 x0 x1 x2 x3 x4 a2 = (laterA c arg3 arg4 arg5 arg6 arg7 x0 x1 x2 x3 x4 a2) := by
  refine lsA_ext (n := 7) ?_ (by rfl) (by rfl)
  refine lsA_ext (n := 6) ?_ (by rfl) (by rfl)
  refine lsA_ext (n := 5) ?_ (by rfl) (by rfl)
  refine lsA_ext (n := 4) ?_ (by rfl) (by rfl)
  refine lsA_ext (n := 3) ?_ (by rfl) (by rfl)
  refine lsA_ext (n := 2) ?_ (by rfl) (by rfl)
  refine lsA_ext (n := 1) ?_ (by rfl) (by rfl)
  refine lsA_ext (n := 0) ?_ (by rfl) (by rfl)
  rfl

theorem runC_L (a0 : BM c) (a1 : BL c) (a2 : BA c) (hc : ¬CFirst i T1) (hl : CLast i T0 T1) : (runC c i arg3 harg3 arg4 harg4 arg5 harg5 arg6 harg6 arg7 harg7 arg8 harg8 T0 T1 x0 x1 x2 x3 x4 a0 a1 a2 hc hl).2.2.1 = sL.view.writes (Elt Ideal) sL.view.junk (laterL c arg3 arg4 arg6 arg7 x0 x1 x3 x4 a1) := by
  unfold runC; dsimp only; rw [lsC_L]
theorem runC_A (a0 : BM c) (a1 : BL c) (a2 : BA c) (hc : ¬CFirst i T1) (hl : CLast i T0 T1) : (runC c i arg3 harg3 arg4 harg4 arg5 harg5 arg6 harg6 arg7 harg7 arg8 harg8 T0 T1 x0 x1 x2 x3 x4 a0 a1 a2 hc hl).2.2.2.1 = sA.view.writes (Elt Ideal) sA.view.junk (laterA c arg3 arg4 arg5 arg6 arg7 x0 x1 x2 x3 x4 a2) := by
  unfold runC; dsimp only; rw [lsC_A]
theorem runC_O (a0 : BM c) (a1 : BL c) (a2 : BA c) (hc : ¬CFirst i T1) (hl : CLast i T0 T1) : (runC c i arg3 harg3 arg4 harg4 arg5 harg5 arg6 harg6 arg7 harg7 arg8 harg8 T0 T1 x0 x1 x2 x3 x4 a0 a1 a2 hc hl).1 = lsO (laterL c arg3 arg4 arg6 arg7 x0 x1 x3 x4 a1) (laterA c arg3 arg4 arg5 arg6 arg7 x0 x1 x2 x3 x4 a2) 8 := by
  unfold runC; dsimp only; rw [← lsC_L, ← lsC_A]; rfl

theorem lsD_L (a1 : BL c) : runD.sl.HS1_16 c arg3 arg4 arg6 arg7 x0 x1 x3 x4 a1 = (laterL c arg3 arg4 arg6 arg7 x0 x1 x3 x4 a1) := by
  refine lsL_ext (n := 7) ?_ (by rfl) (by rfl)
  refine lsL_ext (n := 6) ?_ (by rfl) (by rfl)
  refine lsL_ext (n := 5) ?_ (by rfl) (by rfl)
  refine lsL_ext (n := 4) ?_ (by rfl) (by rfl)
  refine lsL_ext (n := 3) ?_ (by rfl) (by rfl)
  refine lsL_ext (n := 2) ?_ (by rfl) (by rfl)
  refine lsL_ext (n := 1) ?_ (by rfl) (by rfl)
  refine lsL_ext (n := 0) ?_ (by rfl) (by rfl)
  rfl

theorem lsD_A (a2 : BA c) : runD.sl.HS2_16 c arg3 arg4 arg5 arg6 arg7 x0 x1 x2 x3 x4 a2 = (laterA c arg3 arg4 arg5 arg6 arg7 x0 x1 x2 x3 x4 a2) := by
  refine lsA_ext (n := 7) ?_ (by rfl) (by rfl)
  refine lsA_ext (n := 6) ?_ (by rfl) (by rfl)
  refine lsA_ext (n := 5) ?_ (by rfl) (by rfl)
  refine lsA_ext (n := 4) ?_ (by rfl) (by rfl)
  refine lsA_ext (n := 3) ?_ (by rfl) (by rfl)
  refine lsA_ext (n := 2) ?_ (by rfl) (by rfl)
  refine lsA_ext (n := 1) ?_ (by rfl) (by rfl)
  refine lsA_ext (n := 0) ?_ (by rfl) (by rfl)
  rfl

theorem runD_L (a0 : BM c) (a1 : BL c) (a2 : BA c) (hc : ¬CFirst i T1) (hl : ¬CLast i T0 T1) : (runD c i arg3 harg3 arg4 harg4 arg5 harg5 arg6 harg6 arg7 harg7 arg8 harg8 T0 T1 x0 x1 x2 x3 x4 a0 a1 a2 hc hl).2.1 = sL.view.writes (Elt Ideal) sL.view.junk (laterL c arg3 arg4 arg6 arg7 x0 x1 x3 x4 a1) := by
  unfold runD; dsimp only; rw [lsD_L]
theorem runD_A (a0 : BM c) (a1 : BL c) (a2 : BA c) (hc : ¬CFirst i T1) (hl : ¬CLast i T0 T1) : (runD c i arg3 harg3 arg4 harg4 arg5 harg5 arg6 harg6 arg7 harg7 arg8 harg8 T0 T1 x0 x1 x2 x3 x4 a0 a1 a2 hc hl).2.2.1 = sA.view.writes (Elt Ideal) sA.view.junk (laterA c arg3 arg4 arg5 arg6 arg7 x0 x1 x2 x3 x4 a2) := by
  unfold runD; dsimp only; rw [lsD_A]

end Cert.KernelIdeal.Attn

end
-- ==== Proof.Attn.KernelIdeal.Point.lean ====
/- The steps read at an index. -/
module

public import proofs.«01_k».proof.Proof.Attn.KernelIdeal.Steps
public import Idealize.ShloMosaic.Lib.Pointwise
public import Idealize.ShloMosaic.Lib.Pipeline.ValueKit.Acc

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

/-! ## The payloads of a step, read at an index -/

theorem scores_at (x : FVec Ideal S512x128 .bf16) (y : FVec Ideal S128x512 .bf16) (j q : Fin 512) :
    (k0_pay14 x y : FVec Ideal S512x512 .f32) (ix2 j q) = ∑ d : Fin 128, x (ix2 j d) * y (ix2 d q) := by
  pointwise [k0_pay14]

theorem sum_at (s m : FVec Ideal S512x512 .f32) (old : FVec Ideal S1x1x512 .f32) (q : Fin 512) :
    (k0_pay30 s m old : FVec Ideal S1x1x512 .f32) (ix3 0 0 q) = old (ix3 0 0 q) + ∑ j : Fin 512, Ideal.exp2 (m (ix2 j q) + s (ix2 j q)) := by
  pointwise [k0_pay30, k0_pay29]; rfl

theorem prod_at (s m : FVec Ideal S512x512 .f32) (old : FVec Ideal S1x128x512 .f32) (v : FVec Ideal S128x512 .bf16) (d : Fin 128) (q : Fin 512) :
    (k0_pay31 s m old v : FVec Ideal S1x128x512 .f32) (ix3 0 d q) = old (ix3 0 d q) + ∑ j : Fin 512, v (ix2 d j) * Ideal.exp2 (m (ix2 j q) + s (ix2 j q)) := by
  pointwise [k0_pay31, k0_pay29]; rfl

theorem mask_at (u v : FVec Ideal S1x512x256 .bf16) (j q : Fin 512) :
    (k0_pay21 u v : FVec Ideal S512x512 .f32) (ix2 j q)
      = if 0 < (if h : q.val < 256 then u (ix3 0 j ⟨q.val, h⟩) else v (ix3 0 j ⟨q.val - 256, by omega⟩)) then 0 else ⊥ := by
  have hn : Named.named (F := Ideal) κ "mask" (φ := .bf16) 0xF14A#16 = (⊥ : EReal) := IdealRules.named_const.ideal_named_scalar _ _ _ _ rfl
  pointwise [k0_pay21, hn]

theorem quot_at (a : FVec Ideal S1x128x512 .f32) (l : FVec Ideal S1x1x512 .f32) (q : Fin 512) (d : Fin 128) :
    (k0_pay3 a l : FVec Ideal S512x128 .bf16) (ix2 q d) = Ideal.div (a (ix3 0 d q)) (l (ix3 0 0 q)) := by
  pointwise [k0_pay3]

theorem zeroL_at (j) : (k0_pay12 : FVec Ideal S8x1x512 .f32) j = 0 := by
  pointwise [k0_pay12]
theorem zeroA_at (j) : (k0_pay13 : FVec Ideal S8x128x512 .f32) j = 0 := by
  pointwise [k0_pay13]

/-! ## One block of keys -/

variable (c : Dev nD)
  (arg3 : Memref sig .tc .vmem S1024x1024 .bf16) (arg4 : Memref sig .tc .vmem S1024x512 .bf16)
  (arg5 : Memref sig .tc .vmem S1024x1024 .bf16)
  (arg6 : Memref sig .tc .vmem S1x1024x256 .bf16) (arg7 : Memref sig .tc .vmem S1x1024x256 .bf16)
  (x0 : S1024x1024.Idx → Elt Ideal .bf16) (x1 : S1024x512.Idx → Elt Ideal .bf16) (x2 : S1024x1024.Idx → Elt Ideal .bf16)
  (x3 x4 : S1x1024x256.Idx → Elt Ideal .bf16)

/-- Row `128·h + d`: coordinate `d` of head `h`. -/
abbrev hd (h : Fin 8) (d : Fin 128) : Fin 1024 := ⟨128 * h.val + d.val, by omega⟩

/-- The weight of key `s` of the block for query `q` of head `h`. -/
def wt (h : Fin 8) (s : Fin 1024) (q : Fin 512) : EReal :=
  Ideal.exp2 ((if (0 : EReal) < (if hq : q.val < 256 then x3 (ix3 0 s ⟨q.val, hq⟩) else x4 (ix3 0 s ⟨q.val - 256, by omega⟩)) then 0 else ⊥)
    + ∑ d : Fin 128, (x0 (ix2 s (hd h d)) : EReal) * x1 (ix2 (hd h d) q))

theorem ldK_at (h : Fin 8) (b : Fin 2) (j : Fin 512) (d : Fin 128) :
    ldK arg3 x0 h b (ix2 j d) = x0 (ix2 ⟨512 * b.val + j.val, by omega⟩ (hd h d)) := by
  unfold ldK; rw [View.readAt_rep]
  refine congrArg x0 (funext fun a => Fin.ext ?_)
  fin_cases a <;> simp [LoadRect.idx, Rect.toLoadRect, Rect.unit, Nat.mod_eq_of_lt b.isLt, Nat.mod_eq_of_lt h.isLt]
theorem ldQ_at (h : Fin 8) (d : Fin 128) (q : Fin 512) :
    ldQ arg4 x1 h (ix2 d q) = x1 (ix2 (hd h d) q) := by
  unfold ldQ; rw [View.readAt_rep]
  refine congrArg x1 (funext fun a => Fin.ext ?_)
  fin_cases a <;> simp [LoadRect.idx, Rect.toLoadRect, Rect.unit, Nat.mod_eq_of_lt h.isLt]
theorem ldV_at (h : Fin 8) (b : Fin 2) (d : Fin 128) (j : Fin 512) :
    ldV arg5 x2 h b (ix2 d j) = x2 (ix2 (hd h d) ⟨512 * b.val + j.val, by omega⟩) := by
  unfold ldV; rw [View.readAt_rep]
  refine congrArg x2 (funext fun a => Fin.ext ?_)
  fin_cases a <;> simp [LoadRect.idx, Rect.toLoadRect, Rect.unit, Nat.mod_eq_of_lt b.isLt, Nat.mod_eq_of_lt h.isLt]
theorem ldM_at (b : Fin 2) (j : Fin 512) (q : Fin 256) :
    ldM arg6 x3 b (ix3 0 j q) = x3 (ix3 0 ⟨512 * b.val + j.val, by omega⟩ q) := by
  unfold ldM; rw [View.readAt_rep]
  refine congrArg x3 (funext fun a => Fin.ext ?_)
  fin_cases a <;> simp [LoadRect.idx, Rect.toLoadRect, Rect.unit, Nat.mod_eq_of_lt b.isLt]

theorem stepL_at (h : Fin 8) (b : Fin 2) (old) (q : Fin 512) :
    stepL arg3 arg4 arg6 arg7 x0 x1 x3 x4 h b old (ix3 0 0 q)
      = old (ix3 0 0 q) + ∑ j : Fin 512, wt x0 x1 x3 x4 h ⟨512 * b.val + j.val, by omega⟩ q := by
  unfold stepL mask scores
  rw [sum_at]
  refine congrArg (old (ix3 0 0 q) + ·) (Finset.sum_congr rfl fun j _ => ?_)
  rw [mask_at, scores_at]
  simp only [ldM_at, ldK_at, ldQ_at]
  rfl

theorem stepA_at (h : Fin 8) (b : Fin 2) (old) (d : Fin 128) (q : Fin 512) :
    stepA arg3 arg4 arg5 arg6 arg7 x0 x1 x2 x3 x4 h b old (ix3 0 d q)
      = old (ix3 0 d q) + ∑ j : Fin 512, (x2 (ix2 (hd h d) ⟨512 * b.val + j.val, by omega⟩) : EReal) * wt x0 x1 x3 x4 h ⟨512 * b.val + j.val, by omega⟩ q := by
  unfold stepA mask scores
  rw [prod_at]
  refine congrArg (old (ix3 0 d q) + ·) (Finset.sum_congr rfl fun j _ => ?_)
  rw [mask_at, scores_at]
  simp only [ldM_at, ldK_at, ldQ_at, ldV_at]
  rfl

/-- A sum over a block's 1024 keys is the sum over its two halves. -/
theorem sum_halves (f : Fin 1024 → EReal) :
    ∑ j : Fin 512, f ⟨512 * (0 : Fin 2).val + j.val, by simp; omega⟩ + ∑ j : Fin 512, f ⟨512 * (1 : Fin 2).val + j.val, by simp; omega⟩ = ∑ s : Fin 1024, f s := by
  rw [Fin.sum_univ_add (a := 512) (b := 512) f]
  refine congrArg₂ (· + ·) (Finset.sum_congr rfl fun j _ => congrArg f (Fin.ext ?_)) (Finset.sum_congr rfl fun j _ => congrArg f (Fin.ext ?_)) <;> simp <;> omega

theorem stepL_both (h : Fin 8) (old) (q : Fin 512) :
    stepL arg3 arg4 arg6 arg7 x0 x1 x3 x4 h 1 (stepL arg3 arg4 arg6 arg7 x0 x1 x3 x4 h 0 old) (ix3 0 0 q)
      = old (ix3 0 0 q) + ∑ s : Fin 1024, wt x0 x1 x3 x4 h s q := by
  have h1 := stepL_at arg3 arg4 arg6 arg7 x0 x1 x3 x4 h 1 (stepL arg3 arg4 arg6 arg7 x0 x1 x3 x4 h 0 old) q
  have h0 := stepL_at arg3 arg4 arg6 arg7 x0 x1 x3 x4 h 0 old q
  refine h1.trans ?_
  refine (congrArg (· + _) h0).trans ?_
  rw [add_assoc, sum_halves (fun s => wt x0 x1 x3 x4 h s q)]

theorem stepA_both (h : Fin 8) (old) (d : Fin 128) (q : Fin 512) :
    stepA arg3 arg4 arg5 arg6 arg7 x0 x1 x2 x3 x4 h 1 (stepA arg3 arg4 arg5 arg6 arg7 x0 x1 x2 x3 x4 h 0 old) (ix3 0 d q)
      = old (ix3 0 d q) + ∑ s : Fin 1024, (x2 (ix2 (hd h d) s) : EReal) * wt x0 x1 x3 x4 h s q := by
  have h1 := stepA_at arg3 arg4 arg5 arg6 arg7 x0 x1 x2 x3 x4 h 1 (stepA arg3 arg4 arg5 arg6 arg7 x0 x1 x2 x3 x4 h 0 old) d q
  have h0 := stepA_at arg3 arg4 arg5 arg6 arg7 x0 x1 x2 x3 x4 h 0 old d q
  refine h1.trans ?_
  refine (congrArg (· + _) h0).trans ?_
  rw [add_assoc, sum_halves (fun s => (x2 (ix2 (hd h d) s) : EReal) * wt x0 x1 x3 x4 h s q)]

/-! ## The scratches after a block -/

theorem RL_emb (h : Fin 8) (q : Fin 512) : (RL h).emb (ix3 0 0 q) = ix3 h 0 q := by
  funext a; refine Fin.ext ?_
  fin_cases a <;> simp [Rect.emb, Rect.unit, Nat.mod_eq_of_lt h.isLt]
theorem RA_emb (h : Fin 8) (d : Fin 128) (q : Fin 512) : (RA h).emb (ix3 0 d q) = ix3 h d q := by
  funext a; refine Fin.ext ?_
  fin_cases a <;> simp [Rect.emb, Rect.unit, Nat.mod_eq_of_lt h.isLt]
theorem RO_emb (h : Fin 8) (q : Fin 512) (d : Fin 128) : (RO h).emb (ix2 q d) = ix2 q (hd h d) := by
  funext a; refine Fin.ext ?_
  fin_cases a <;> simp [Rect.emb, Rect.unit, Nat.mod_eq_of_lt h.isLt]
theorem RL_off (n : ℕ) (hn : n < 8) (h : Fin 8) (hne : h.val ≠ n) (q : Fin 512) : (ix3 h 0 q : S8x1x512.Idx) ∉ (RL n).set := by
  intro hm; rw [Rect.mem_set_unit] at hm
  have h0 := hm 0
  simp [Nat.mod_eq_of_lt hn] at h0
  omega
theorem RA_off (n : ℕ) (hn : n < 8) (h : Fin 8) (hne : h.val ≠ n) (d : Fin 128) (q : Fin 512) : (ix3 h d q : S8x128x512.Idx) ∉ (RA n).set := by
  intro hm; rw [Rect.mem_set_unit] at hm
  have h0 := hm 0
  simp [Nat.mod_eq_of_lt hn] at h0
  omega
theorem RO_off (n : ℕ) (hn : n < 8) (h : Fin 8) (hne : h.val ≠ n) (q : Fin 512) (d : Fin 128) : (ix2 q (hd h d) : S512x1024.Idx) ∉ (RO n).set := by
  intro hm; rw [Rect.mem_set_unit] at hm
  have h0 := hm 1
  simp [Nat.mod_eq_of_lt hn] at h0
  omega

/-- Off a store's rectangle the earlier stores are read. -/
theorem canon_off {s : Shape} {e : EltTy} (r : Rect s) (w : r.shape.Idx → Elt Ideal e) (L : List (View.Piece (Elt Ideal) s e)) {y : s.Idx}
    (h : y ∉ r.set) : View.canon (⟨r, w⟩ :: L) y = View.canon L y :=
  View.canon_cons_of_not_mem (⟨r, w⟩ : View.Piece (Elt Ideal) s e) L h

theorem canon_lsL (tl rd) (h : Fin 8) (q : Fin 512) : ∀ n, n ≤ 8 →
    View.canon (lsL arg3 arg4 arg6 arg7 x0 x1 x3 x4 tl rd n) (ix3 h 0 q)
      = if h.val < n then rd (lsL arg3 arg4 arg6 arg7 x0 x1 x3 x4 tl rd h) h (ix3 0 0 q) + ∑ s : Fin 1024, wt x0 x1 x3 x4 h s q
        else View.canon tl (ix3 h 0 q)
  | 0, _ => by simp [lsL]
  | n + 1, hn => by
    have ih := canon_lsL tl rd h q n (by omega)
    rw [lsL]
    by_cases e : h.val = n
    · subst e
      rw [if_pos (Nat.lt_succ_self _), View.readCov_cons_toLoadRect, ← RL_emb, View.canon_cons_emb, stepL_both]
    · rw [canon_off _ _ _ (RL_off n (by omega) h e q), canon_off _ _ _ (RL_off n (by omega) h e q), ih]
      by_cases hl : h.val < n
      · rw [if_pos hl, if_pos (by omega)]
      · rw [if_neg hl, if_neg (by omega)]

theorem canon_lsA (tl rd) (h : Fin 8) (d : Fin 128) (q : Fin 512) : ∀ n, n ≤ 8 →
    View.canon (lsA arg3 arg4 arg5 arg6 arg7 x0 x1 x2 x3 x4 tl rd n) (ix3 h d q)
      = if h.val < n then rd (lsA arg3 arg4 arg5 arg6 arg7 x0 x1 x2 x3 x4 tl rd h) h (ix3 0 d q) + ∑ s : Fin 1024, (x2 (ix2 (hd h d) s) : EReal) * wt x0 x1 x3 x4 h s q
        else View.canon tl (ix3 h d q)
  | 0, _ => by simp [lsA]
  | n + 1, hn => by
    have ih := canon_lsA tl rd h d q n (by omega)
    rw [lsA]
    by_cases e : h.val = n
    · subst e
      rw [if_pos (Nat.lt_succ_self _), View.readCov_cons_toLoadRect, ← RA_emb, View.canon_cons_emb, stepA_both]
    · rw [canon_off _ _ _ (RA_off n (by omega) h e d q), canon_off _ _ _ (RA_off n (by omega) h e d q), ih]
      by_cases hl : h.val < n
      · rw [if_pos hl, if_pos (by omega)]
      · rw [if_neg hl, if_neg (by omega)]

theorem canon_tlL (y) : View.canon tlL y = (0 : EReal) := by
  have e : (Rect.unit (s := S8x1x512) ![0, 0, 0] S8x1x512.size inb_S8x1x512_S8x1x512_0_0_0).emb y = y := by
    funext a; refine Fin.ext ?_
    fin_cases a <;> simp [Rect.emb, Rect.unit]
  unfold tlL; rw [← e, View.canon_cons_emb]; exact zeroL_at _
theorem canon_tlA (y) : View.canon tlA y = (0 : EReal) := by
  have e : (Rect.unit (s := S8x128x512) ![0, 0, 0] S8x128x512.size inb_S8x128x512_S8x128x512_0_0_0).emb y = y := by
    funext a; refine Fin.ext ?_
    fin_cases a <;> simp [Rect.emb, Rect.unit]
  unfold tlA; rw [← e, View.canon_cons_emb]; exact zeroA_at _

/-- After a first block of keys: its sums of weights, and of weighted values. -/
theorem canon_firstL (h : Fin 8) (q : Fin 512) :
    View.canon (firstL arg3 arg4 arg6 arg7 x0 x1 x3 x4) (ix3 h 0 q) = ∑ s : Fin 1024, wt x0 x1 x3 x4 h s q := by
  rw [firstL, canon_lsL _ _ _ _ _ _ _ _ _ _ _ _ 8 le_rfl, if_pos h.isLt, View.readCov_eq_canon']
  have e : (RL h).toLoadRect.idx (ix3 0 0 q) = ix3 h 0 q := RL_emb h q
  show View.canon _ ((RL h).toLoadRect.idx (ix3 0 0 q)) + _ = _
  rw [e, canon_lsL _ _ _ _ _ _ _ _ _ _ _ _ h.val (by omega), if_neg (lt_irrefl _), canon_tlL, zero_add]
theorem canon_firstA (h : Fin 8) (d : Fin 128) (q : Fin 512) :
    View.canon (firstA arg3 arg4 arg5 arg6 arg7 x0 x1 x2 x3 x4) (ix3 h d q) = ∑ s : Fin 1024, (x2 (ix2 (hd h d) s) : EReal) * wt x0 x1 x3 x4 h s q := by
  rw [firstA, canon_lsA _ _ _ _ _ _ _ _ _ _ _ _ _ _ _ 8 le_rfl, if_pos h.isLt, View.readCov_eq_canon']
  have e : (RA h).toLoadRect.idx (ix3 0 d q) = ix3 h d q := RA_emb h d q
  show View.canon _ ((RA h).toLoadRect.idx (ix3 0 d q)) + _ = _
  rw [e, canon_lsA _ _ _ _ _ _ _ _ _ _ _ _ _ _ _ h.val (by omega), if_neg (lt_irrefl _), canon_tlA, zero_add]

/-- After a later block: what the scratch held, and the block's sums. -/
theorem canon_laterL (a1 : BL c) (h : Fin 8) (q : Fin 512) :
    View.canon (laterL c arg3 arg4 arg6 arg7 x0 x1 x3 x4 a1) (ix3 h 0 q)
      = sL.view.read (Elt Ideal) a1 (ix3 h 0 q) + ∑ s : Fin 1024, wt x0 x1 x3 x4 h s q := by
  rw [laterL, canon_lsL _ _ _ _ _ _ _ _ _ _ _ _ 8 le_rfl, if_pos h.isLt]
  have e : (RL h).toLoadRect.idx (ix3 0 0 q) = ix3 h 0 q := RL_emb h q
  rw [View.readAt_apply, e]
theorem canon_laterA (a2 : BA c) (h : Fin 8) (d : Fin 128) (q : Fin 512) :
    View.canon (laterA c arg3 arg4 arg5 arg6 arg7 x0 x1 x2 x3 x4 a2) (ix3 h d q)
      = sA.view.read (Elt Ideal) a2 (ix3 h d q) + ∑ s : Fin 1024, (x2 (ix2 (hd h d) s) : EReal) * wt x0 x1 x3 x4 h s q := by
  rw [laterA, canon_lsA _ _ _ _ _ _ _ _ _ _ _ _ _ _ _ 8 le_rfl, if_pos h.isLt]
  have e : (RA h).toLoadRect.idx (ix3 0 d q) = ix3 h d q := RA_emb h d q
  rw [View.readAt_apply, e]

/-- The output's block: each head's products over its sums. -/
theorem canon_lsO (L A) (h : Fin 8) (q : Fin 512) (d : Fin 128) : ∀ n, n ≤ 8 → h.val < n →
    View.canon (lsO L A n) (ix2 q (hd h d)) = Ideal.div (View.canon A (ix3 h d q)) (View.canon L (ix3 h 0 q))
  | n + 1, hn, hl => by
    rw [lsO]
    by_cases e : h.val = n
    · subst e
      have e1 : (RA h).toLoadRect.idx (ix3 0 d q) = ix3 h d q := RA_emb h d q
      have e2 : (RL h).toLoadRect.idx (ix3 0 0 q) = ix3 h 0 q := RL_emb h q
      rw [← RO_emb, View.canon_cons_emb, quot_at, View.readCov_eq_canon', View.readCov_eq_canon']
      show Ideal.div (View.canon A ((RA h).toLoadRect.idx (ix3 0 d q))) (View.canon L ((RL h).toLoadRect.idx (ix3 0 0 q))) = _
      rw [e1, e2]
    · rw [canon_off _ _ _ (RO_off n (by omega) h e q d)]
      exact canon_lsO L A h q d n (by omega) (by omega)

end Cert.KernelIdeal.Attn

end
-- ==== Proof.Attn.KernelIdeal.Traj.lean ====
/- The scratches after each point, and the array the kernel leaves. -/
module

public import proofs.«01_k».proof.Proof.Attn.KernelIdeal.Point
public import Idealize.ShloMosaic.Lib.Pipeline.Value
public import Idealize.ShloMosaic.Lib.Pipeline.ValueKit.Geometry

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (c : Dev nD)

/-! ## The arrays, and a point's blocks of them -/

/-- Keys (columns from 1024 on of the first), queries and values (rows of the second), the mask. -/
abbrev aNat : S16384x2048.Idx → EReal := m (c, main_arg0)
abbrev aTr : S3072x16384.Idx → EReal := m (c, main_arg1)
abbrev aKeep : S64x16384x256.Idx → EReal := m (c, main_arg2)

/-- Key `s` of block `b`, query `q` of block `b`. -/
def key (b : ℕ) (s : Fin 1024) : Fin 16384 := ⟨(1024 * b + s.val) % 16384, Nat.mod_lt _ (by omega)⟩
def qry (b : ℕ) (q : Fin 512) : Fin 16384 := ⟨(512 * b + q.val) % 16384, Nat.mod_lt _ (by omega)⟩

/-- Columns of the keys, rows of the queries and of the values, and the mask's page and lane of a query. -/
abbrev colK (h : Fin 8) (d : Fin 128) : Fin 2048 := ⟨1024 + 128 * h.val + d.val, by omega⟩
abbrev rowQ (h : Fin 8) (d : Fin 128) : Fin 3072 := ⟨128 * h.val + d.val, by omega⟩
abbrev rowV (h : Fin 8) (d : Fin 128) : Fin 3072 := ⟨1024 + 128 * h.val + d.val, by omega⟩
abbrev page (q : Fin 16384) : Fin 64 := ⟨q.val / 256, by omega⟩
abbrev lane (q : Fin 16384) : Fin 256 := ⟨q.val % 256, by omega⟩

/-- The weight the kernel gives key `s` for query `q` in head `h`. -/
def W (h : Fin 8) (s q : Fin 16384) : EReal :=
  Ideal.exp2 ((if (0 : EReal) < aKeep m c (ix3 (page q) s (lane q)) then 0 else ⊥)
    + ∑ d : Fin 128, aNat m c (ix2 s (colK h d)) * aTr m c (ix2 (rowQ h d) q))

theorem win_index : ∀ t : Fin cfgA.N,
    ((cfgA.win (0 : Fin 6)).index t (0 : Fin 2) = kbN t.val ∧ (cfgA.win (0 : Fin 6)).index t (1 : Fin 2) = 1)
    ∧ ((cfgA.win (1 : Fin 6)).index t (0 : Fin 2) = 0 ∧ (cfgA.win (1 : Fin 6)).index t (1 : Fin 2) = qbN t.val)
    ∧ ((cfgA.win (2 : Fin 6)).index t (0 : Fin 2) = 1 ∧ (cfgA.win (2 : Fin 6)).index t (1 : Fin 2) = kbN t.val)
    ∧ ((cfgA.win (3 : Fin 6)).index t (0 : Fin 3) = 2 * qbN t.val ∧ (cfgA.win (3 : Fin 6)).index t (1 : Fin 3) = kbN t.val ∧ (cfgA.win (3 : Fin 6)).index t (2 : Fin 3) = 0)
    ∧ ((cfgA.win (4 : Fin 6)).index t (0 : Fin 3) = 2 * qbN t.val + 1 ∧ (cfgA.win (4 : Fin 6)).index t (1 : Fin 3) = kbN t.val ∧ (cfgA.win (4 : Fin 6)).index t (2 : Fin 3) = 0)
    ∧ ((cfgA.win (5 : Fin 6)).index t (0 : Fin 2) = qbN t.val ∧ (cfgA.win (5 : Fin 6)).index t (1 : Fin 2) = 0) := by decide +kernel

theorem tab_lt : ∀ t : Fin cfgA.N, qbN t.val < 32 ∧ kbN t.val < 16 ∧ kbN t.val ≤ qbN t.val / 2 := by decide +kernel
/-- A point that does not begin its block of queries continues the point before it. -/
theorem tab_pred : ∀ t : Fin cfgA.N, kbN t.val ≠ 0 → t.val ≠ 0 ∧ qbN (t.val - 1) = qbN t.val ∧ kbN (t.val - 1) + 1 = kbN t.val := by decide +kernel
/-- Every block of queries has its last point. -/
theorem tab_last : ∀ b : Fin 32, ∃ t : Fin cfgA.N, Last t ∧ qbN t.val = b.val := by decide +kernel

theorem iblk0_at (t : Fin cfgA.N) (s : Fin 1024) (h : Fin 8) (d : Fin 128) :
    (iblk m c (0 : Fin 6) t : S1024x1024.Idx → EReal) (ix2 s (hd h d)) = aNat m c (ix2 (key (kbN t.val) s) (colK h d)) := by
  have hi := (win_index t).1
  have hb := tab_lt t
  unfold iblk
  rw [View.read_apply]
  show VH m c main_arg0 _ = _
  rw [V_arg0]
  refine congrArg (aNat m c) (funext fun a => Fin.ext ?_)
  refine ((cfgA.win (0 : Fin 6)).rect_emb_val t _ a).trans ?_
  fin_cases a
  · show (cfgA.win (0 : Fin 6)).index t (0 : Fin 2) * 1024 + s.val = (1024 * kbN t.val + s.val) % 16384
    rw [hi.1, Nat.mod_eq_of_lt (by omega)]; omega
  · show (cfgA.win (0 : Fin 6)).index t (1 : Fin 2) * 1024 + (128 * h.val + d.val) = 1024 + 128 * h.val + d.val
    rw [hi.2]; omega
theorem iblk1_at (t : Fin cfgA.N) (h : Fin 8) (d : Fin 128) (q : Fin 512) :
    (iblk m c (1 : Fin 6) t : S1024x512.Idx → EReal) (ix2 (hd h d) q) = aTr m c (ix2 (rowQ h d) (qry (qbN t.val) q)) := by
  have hi := (win_index t).2.1
  have hb := tab_lt t
  unfold iblk
  rw [View.read_apply]
  show VH m c main_arg1 _ = _
  rw [V_arg1]
  refine congrArg (aTr m c) (funext fun a => Fin.ext ?_)
  refine ((cfgA.win (1 : Fin 6)).rect_emb_val t _ a).trans ?_
  fin_cases a
  · show (cfgA.win (1 : Fin 6)).index t (0 : Fin 2) * 1024 + (128 * h.val + d.val) = 128 * h.val + d.val
    rw [hi.1]; omega
  · show (cfgA.win (1 : Fin 6)).index t (1 : Fin 2) * 512 + q.val = (512 * qbN t.val + q.val) % 16384
    rw [hi.2, Nat.mod_eq_of_lt (by omega)]; omega
theorem iblk2_at (t : Fin cfgA.N) (h : Fin 8) (d : Fin 128) (s : Fin 1024) :
    (iblk m c (2 : Fin 6) t : S1024x1024.Idx → EReal) (ix2 (hd h d) s) = aTr m c (ix2 (rowV h d) (key (kbN t.val) s)) := by
  have hi := (win_index t).2.2.1
  have hb := tab_lt t
  unfold iblk
  rw [View.read_apply]
  show VH m c main_arg1 _ = _
  rw [V_arg1]
  refine congrArg (aTr m c) (funext fun a => Fin.ext ?_)
  refine ((cfgA.win (2 : Fin 6)).rect_emb_val t _ a).trans ?_
  fin_cases a
  · show (cfgA.win (2 : Fin 6)).index t (0 : Fin 2) * 1024 + (128 * h.val + d.val) = 1024 + 128 * h.val + d.val
    rw [hi.1]; omega
  · show (cfgA.win (2 : Fin 6)).index t (1 : Fin 2) * 1024 + s.val = (1024 * kbN t.val + s.val) % 16384
    rw [hi.2, Nat.mod_eq_of_lt (by omega)]; omega
theorem iblk3_at (t : Fin cfgA.N) (s : Fin 1024) (q : Fin 512) (hq : q.val < 256) :
    (iblk m c (3 : Fin 6) t : S1x1024x256.Idx → EReal) (ix3 0 s ⟨q.val, hq⟩)
      = aKeep m c (ix3 (page (qry (qbN t.val) q)) (key (kbN t.val) s) (lane (qry (qbN t.val) q))) := by
  have hi := (win_index t).2.2.2.1
  have hb := tab_lt t
  unfold iblk
  rw [View.read_apply]
  show VH m c main_arg2 _ = _
  rw [V_arg2]
  refine congrArg (aKeep m c) (funext fun a => Fin.ext ?_)
  refine ((cfgA.win (3 : Fin 6)).rect_emb_val t _ a).trans ?_
  fin_cases a
  · show (cfgA.win (3 : Fin 6)).index t (0 : Fin 3) * 1 + 0 = (512 * qbN t.val + q.val) % 16384 / 256
    rw [hi.1, Nat.mod_eq_of_lt (by omega)]; omega
  · show (cfgA.win (3 : Fin 6)).index t (1 : Fin 3) * 1024 + s.val = (1024 * kbN t.val + s.val) % 16384
    rw [hi.2.1, Nat.mod_eq_of_lt (by omega)]; omega
  · show (cfgA.win (3 : Fin 6)).index t (2 : Fin 3) * 256 + q.val = (512 * qbN t.val + q.val) % 16384 % 256
    rw [hi.2.2, Nat.mod_eq_of_lt (a := 512 * qbN t.val + q.val) (by omega)]; omega
theorem iblk4_at (t : Fin cfgA.N) (s : Fin 1024) (q : Fin 512) (hq : ¬q.val < 256) :
    (iblk m c (4 : Fin 6) t : S1x1024x256.Idx → EReal) (ix3 0 s ⟨q.val - 256, by omega⟩)
      = aKeep m c (ix3 (page (qry (qbN t.val) q)) (key (kbN t.val) s) (lane (qry (qbN t.val) q))) := by
  have hi := (win_index t).2.2.2.2.1
  have hb := tab_lt t
  unfold iblk
  rw [View.read_apply]
  show VH m c main_arg2 _ = _
  rw [V_arg2]
  refine congrArg (aKeep m c) (funext fun a => Fin.ext ?_)
  refine ((cfgA.win (4 : Fin 6)).rect_emb_val t _ a).trans ?_
  fin_cases a
  · show (cfgA.win (4 : Fin 6)).index t (0 : Fin 3) * 1 + 0 = (512 * qbN t.val + q.val) % 16384 / 256
    rw [hi.1, Nat.mod_eq_of_lt (by omega)]; omega
  · show (cfgA.win (4 : Fin 6)).index t (1 : Fin 3) * 1024 + s.val = (1024 * kbN t.val + s.val) % 16384
    rw [hi.2.1, Nat.mod_eq_of_lt (by omega)]; omega
  · show (cfgA.win (4 : Fin 6)).index t (2 : Fin 3) * 256 + (q.val - 256) = (512 * qbN t.val + q.val) % 16384 % 256
    rw [hi.2.2, Nat.mod_eq_of_lt (a := 512 * qbN t.val + q.val) (by omega)]; omega

/-- A point's weights are the arrays' weights. -/
theorem wt_at (t : Fin cfgA.N) (h : Fin 8) (s : Fin 1024) (q : Fin 512) :
    wt (iblk m c (0 : Fin 6) t) (iblk m c (1 : Fin 6) t) (iblk m c (3 : Fin 6) t) (iblk m c (4 : Fin 6) t) h s q
      = W m c h (key (kbN t.val) s) (qry (qbN t.val) q) := by
  unfold wt W
  refine congrArg Ideal.exp2 (congrArg₂ (· + ·) ?_ (Finset.sum_congr rfl fun d _ => ?_))
  · by_cases hq : q.val < 256
    · rw [dif_pos hq]; exact congrArg (fun v : EReal => if 0 < v then (0 : EReal) else ⊥) (iblk3_at m c t s q hq)
    · rw [dif_neg hq]; exact congrArg (fun v : EReal => if 0 < v then (0 : EReal) else ⊥) (iblk4_at m c t s q hq)
  · exact congrArg₂ (· * ·) (iblk0_at m c t s h d) (iblk1_at m c t h d q)

/-! ## What the scratches hold after a point -/

/-- The sums over the first `n` blocks of keys. -/
def sumL (h : Fin 8) (q : Fin 16384) (n : ℕ) : EReal := ∑ b ∈ Finset.range n, ∑ s : Fin 1024, W m c h (key b s) q
def sumA (h : Fin 8) (d : Fin 128) (q : Fin 16384) (n : ℕ) : EReal :=
  ∑ b ∈ Finset.range n, ∑ s : Fin 1024, aTr m c (ix2 (rowV h d) (key b s)) * W m c h (key b s) q

theorem blockL (t : Fin cfgA.N) (h : Fin 8) (q : Fin 512) :
    ∑ s : Fin 1024, wt (iblk m c (0 : Fin 6) t) (iblk m c (1 : Fin 6) t) (iblk m c (3 : Fin 6) t) (iblk m c (4 : Fin 6) t) h s q
      = ∑ s : Fin 1024, W m c h (key (kbN t.val) s) (qry (qbN t.val) q) :=
  Finset.sum_congr rfl fun s _ => wt_at m c t h s q
theorem blockA (t : Fin cfgA.N) (h : Fin 8) (d : Fin 128) (q : Fin 512) (x2 : S1024x1024.Idx → Elt Ideal .bf16) (e2 : x2 = iblk m c (2 : Fin 6) t) :
    ∑ s : Fin 1024, (x2 (ix2 (hd h d) s) : EReal) * wt (iblk m c (0 : Fin 6) t) (iblk m c (1 : Fin 6) t) (iblk m c (3 : Fin 6) t) (iblk m c (4 : Fin 6) t) h s q
      = ∑ s : Fin 1024, aTr m c (ix2 (rowV h d) (key (kbN t.val) s)) * W m c h (key (kbN t.val) s) (qry (qbN t.val) q) :=
  Finset.sum_congr rfl fun s _ => congrArg₂ (· * ·) (by rw [e2]; exact iblk2_at m c t h d s) (wt_at m c t h s q)

/-- What holds after point `t`. -/
def After (t : Fin cfgA.N) (p : (S512x1024.Idx → Elt Ideal .bf16) × BM c × BL c × BA c) : Prop :=
  (∀ (h : Fin 8) (q : Fin 512), sL.view.read (Elt Ideal) p.2.2.1 (ix3 h 0 q) = sumL m c h (qry (qbN t.val) q) (kbN t.val + 1))
  ∧ (∀ (h : Fin 8) (d : Fin 128) (q : Fin 512), sA.view.read (Elt Ideal) p.2.2.2 (ix3 h d q) = sumA m c h d (qry (qbN t.val) q) (kbN t.val + 1))
  ∧ (Last t → ∀ (h : Fin 8) (q : Fin 512) (d : Fin 128), p.1 (ix2 q (hd h d))
      = Ideal.div (sumA m c h d (qry (qbN t.val) q) (kbN t.val + 1)) (sumL m c h (qry (qbN t.val) q) (kbN t.val + 1)))

theorem first_L (t : Fin cfgA.N) (h0 : First t) (h : Fin 8) (q : Fin 512) :
    View.canon (firstL (ms0 t) (ms1 t) (ms3 t) (ms4 t) (iblk m c (0 : Fin 6) t) (iblk m c (1 : Fin 6) t) (iblk m c (3 : Fin 6) t) (iblk m c (4 : Fin 6) t)) (ix3 h 0 q)
      = sumL m c h (qry (qbN t.val) q) (kbN t.val + 1) := by
  rw [canon_firstL, blockL, sumL, Finset.sum_range_succ, show kbN t.val = 0 from h0]; simp
theorem first_A (t : Fin cfgA.N) (h0 : First t) (h : Fin 8) (d : Fin 128) (q : Fin 512) :
    View.canon (firstA (ms0 t) (ms1 t) (ms2 t) (ms3 t) (ms4 t) (iblk m c (0 : Fin 6) t) (iblk m c (1 : Fin 6) t) (iblk m c (2 : Fin 6) t) (iblk m c (3 : Fin 6) t) (iblk m c (4 : Fin 6) t)) (ix3 h d q)
      = sumA m c h d (qry (qbN t.val) q) (kbN t.val + 1) := by
  rw [canon_firstA, blockA m c t h d q _ rfl, sumA, Finset.sum_range_succ, show kbN t.val = 0 from h0]; simp

theorem later_L (t t' : Fin cfgA.N) (e1 : qbN t'.val = qbN t.val) (e2 : kbN t'.val + 1 = kbN t.val) (p) (hp : After m c t' p) (h : Fin 8) (q : Fin 512) :
    View.canon (laterL c (ms0 t) (ms1 t) (ms3 t) (ms4 t) (iblk m c (0 : Fin 6) t) (iblk m c (1 : Fin 6) t) (iblk m c (3 : Fin 6) t) (iblk m c (4 : Fin 6) t) p.2.2.1) (ix3 h 0 q)
      = sumL m c h (qry (qbN t.val) q) (kbN t.val + 1) := by
  rw [canon_laterL, blockL, hp.1, e1, e2, sumL, sumL, Finset.sum_range_succ]
theorem later_A (t t' : Fin cfgA.N) (e1 : qbN t'.val = qbN t.val) (e2 : kbN t'.val + 1 = kbN t.val) (p) (hp : After m c t' p) (h : Fin 8) (d : Fin 128) (q : Fin 512) :
    View.canon (laterA c (ms0 t) (ms1 t) (ms2 t) (ms3 t) (ms4 t) (iblk m c (0 : Fin 6) t) (iblk m c (1 : Fin 6) t) (iblk m c (2 : Fin 6) t) (iblk m c (3 : Fin 6) t) (iblk m c (4 : Fin 6) t) p.2.2.2) (ix3 h d q)
      = sumA m c h d (qry (qbN t.val) q) (kbN t.val + 1) := by
  rw [canon_laterA, blockA m c t h d q _ rfl, hp.2.1, e1, e2, sumA, sumA, Finset.sum_range_succ]

theorem after_step (t : Fin cfgA.N) (p) (hp : ¬First t → ∃ t' : Fin cfgA.N, qbN t'.val = qbN t.val ∧ kbN t'.val + 1 = kbN t.val ∧ After m c t' p) :
    After m c t (step m c t p) := by
  by_cases h0 : First t
  · by_cases h1 : Last t
    · unfold step; rw [dif_pos h0, dif_pos h1]
      refine ⟨fun h q => ?_, fun h d q => ?_, fun _ h q d => ?_⟩
      · dsimp only; rw [runA_L, View.read_writes_junk_eq_canon]; exact first_L m c t h0 h q
      · dsimp only; rw [runA_A, View.read_writes_junk_eq_canon]; exact first_A m c t h0 h d q
      · dsimp only; unfold outA; rw [runA_O, View.read_writes_junk_eq_canon, canon_lsO _ _ h q d 8 le_rfl h.isLt, first_L m c t h0, first_A m c t h0]
    · unfold step; rw [dif_pos h0, dif_neg h1]
      refine ⟨fun h q => ?_, fun h d q => ?_, fun hl => absurd hl h1⟩
      · dsimp only; rw [runB_L, View.read_writes_junk_eq_canon]; exact first_L m c t h0 h q
      · dsimp only; rw [runB_A, View.read_writes_junk_eq_canon]; exact first_A m c t h0 h d q
  · obtain ⟨t', e1, e2, hp⟩ := hp h0
    by_cases h1 : Last t
    · unfold step; rw [dif_neg h0, dif_pos h1]
      refine ⟨fun h q => ?_, fun h d q => ?_, fun _ h q d => ?_⟩
      · dsimp only; rw [runC_L, View.read_writes_junk_eq_canon]; exact later_L m c t t' e1 e2 p hp h q
      · dsimp only; rw [runC_A, View.read_writes_junk_eq_canon]; exact later_A m c t t' e1 e2 p hp h d q
      · dsimp only; unfold outC; rw [runC_O, View.read_writes_junk_eq_canon, canon_lsO _ _ h q d 8 le_rfl h.isLt, later_L m c t t' e1 e2 p hp, later_A m c t t' e1 e2 p hp]
    · unfold step; rw [dif_neg h0, dif_neg h1]
      refine ⟨fun h q => ?_, fun h d q => ?_, fun hl => absurd hl h1⟩
      · dsimp only; rw [runD_L, View.read_writes_junk_eq_canon]; exact later_L m c t t' e1 e2 p hp h q
      · dsimp only; rw [runD_A, View.read_writes_junk_eq_canon]; exact later_A m c t t' e1 e2 p hp h d q

theorem after_traj : ∀ (n : ℕ) (hn : n < cfgA.N), After m c ⟨n, hn⟩ (traj m c (n + 1))
  | 0, hn => by
    rw [traj_succ m c ⟨0, hn⟩]
    exact after_step m c ⟨0, hn⟩ _ fun h => absurd ((factsAt ⟨0, hn⟩).2.2.2.2 rfl) h
  | n + 1, hn => by
    rw [traj_succ m c ⟨n + 1, hn⟩]
    refine after_step m c ⟨n + 1, hn⟩ _ fun h => ?_
    obtain ⟨-, e1, e2⟩ := tab_pred ⟨n + 1, hn⟩ h
    exact ⟨⟨n, by omega⟩, e1, e2, after_traj n (by omega)⟩

/-! ## The output array -/

/-- What the kernel leaves at query `q`, coordinate `d` of head `h`: the weighted values over the weights, of the keys of the
    blocks up to the query's own. -/
def outAt (q : Fin 16384) (h : Fin 8) (d : Fin 128) : EReal :=
  Ideal.div (sumA m c h d q (q.val / 1024 + 1)) (sumL m c h q (q.val / 1024 + 1))
def G : S16384x1024.Idx → EReal := fun i => outAt m c (i 0) ⟨(i 1).val / 128, by have := (i 1).isLt; simp [S16384x1024] at this; omega⟩ ⟨(i 1).val % 128, by omega⟩

theorem xsize_5 : ∀ t : Fin cfgA.N, (cfgA.win (5 : Fin 6)).xsize (crd t) (0 : Fin 2) = 512 ∧ (cfgA.win (5 : Fin 6)).xsize (crd t) (1 : Fin 2) = 1024 := by
  decide +kernel

theorem flushed_5 (t : Fin cfgA.N) (hl : Last t) (y : S512x1024.Idx) :
    (traj m c (t.val + 1)).1 y = G m c (((cfgA.win (5 : Fin 6)).blk t).view.emb y) := by
  have hi := (win_index t).2.2.2.2.2
  have hb := tab_lt t
  have y0 : (y 0).val < 512 := (y 0).isLt
  have y1 : (y 1).val < 1024 := (y 1).isLt
  have ey : y = ix2 (y 0) (hd ⟨(y 1).val / 128, by omega⟩ ⟨(y 1).val % 128, by omega⟩) := by
    funext a; refine Fin.ext ?_
    fin_cases a
    · rfl
    · show (y 1).val = 128 * ((y 1).val / 128) + (y 1).val % 128
      omega
  have hA := (after_traj m c t.val t.isLt).2.2 hl ⟨(y 1).val / 128, by omega⟩ (y 0) ⟨(y 1).val % 128, by omega⟩
  refine (congrArg (traj m c (t.val + 1)).1 ey).trans (hA.trans ?_)
  have e0 : (((cfgA.win (5 : Fin 6)).blk t).view.emb y (0 : Fin 2)).val = 512 * qbN t.val + (y 0).val := by
    refine ((cfgA.win (5 : Fin 6)).rect_emb_val t y (0 : Fin 2)).trans ?_
    show (cfgA.win (5 : Fin 6)).index t (0 : Fin 2) * 512 + (y 0).val = _
    rw [hi.1]; omega
  have e1 : (((cfgA.win (5 : Fin 6)).blk t).view.emb y (1 : Fin 2)).val = (y 1).val := by
    refine ((cfgA.win (5 : Fin 6)).rect_emb_val t y (1 : Fin 2)).trans ?_
    show (cfgA.win (5 : Fin 6)).index t (1 : Fin 2) * 1024 + (y 1).val = _
    rw [hi.2]; omega
  have eq0 : qry (qbN t.val) (y 0) = ((cfgA.win (5 : Fin 6)).blk t).view.emb y (0 : Fin 2) := by
    refine Fin.ext ?_
    rw [e0]; exact Nat.mod_eq_of_lt (by omega)
  have hk : kbN t.val = (((cfgA.win (5 : Fin 6)).blk t).view.emb y (0 : Fin 2)).val / 1024 := by
    rw [e0, show kbN t.val = qbN t.val / 2 from hl]; omega
  unfold G outAt
  simp only [e1]
  rw [← hk, ← eq0]

theorem arr_out : (dats m 0 c).arrAt (5 : Fin 6) cfgA.N = G m c := by
  refine (dats m 0 c).arrAt_eq_of_cover (5 : Fin 6) (G m c) (fun t hf => ?_) (fun i => ?_)
  · have hl : Last t := by
      have := (factsAt t).2.2.2.1; rw [hf] at this; exact of_decide_eq_true this.symm
    funext y
    rw [View.read_apply]
    exact flushed_5 m c t hl y
  · have i0 : (i (0 : Fin 2)).val < 16384 := (i (0 : Fin 2)).isLt
    have i1 : (i (1 : Fin 2)).val < 1024 := (i (1 : Fin 2)).isLt
    obtain ⟨t, hl, hb⟩ := tab_last ⟨(i (0 : Fin 2)).val / 512, by omega⟩
    have hi := (win_index t).2.2.2.2.2
    have hx := xsize_5 t
    refine ⟨t, by rw [(factsAt t).2.2.2.1]; exact decide_eq_true hl, ((cfgA.win (5 : Fin 6)).emb_mem_blk_iff t i).mpr fun a => ?_⟩
    fin_cases a
    · show (cfgA.win (5 : Fin 6)).index t (0 : Fin 2) * 512 ≤ (i (0 : Fin 2)).val ∧ (i (0 : Fin 2)).val < (cfgA.win (5 : Fin 6)).index t (0 : Fin 2) * 512 + (cfgA.win (5 : Fin 6)).xsize (crd t) (0 : Fin 2)
      rw [hi.1, hx.1]; have hb' : qbN t.val = (i (0 : Fin 2)).val / 512 := hb; rw [hb']; constructor <;> omega
    · show (cfgA.win (5 : Fin 6)).index t (1 : Fin 2) * 1024 ≤ (i (1 : Fin 2)).val ∧ (i (1 : Fin 2)).val < (cfgA.win (5 : Fin 6)).index t (1 : Fin 2) * 1024 + (cfgA.win (5 : Fin 6)).xsize (crd t) (1 : Fin 2)
      rw [hi.2, hx.2]; constructor <;> omega

variable (ρ : Dev nD → PrngReg) in
/-- The run: the result buffer ends at `G`, the arguments unchanged. -/
theorem run_value : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1 c).1 (5 : Fin 6)).trans (arr_out m c),
     ((h.1 c).1 (0 : Fin 6)).trans ((dats m 0 c).arrAt_in (0 : Fin 6) rfl _),
     ((h.1 c).1 (1 : Fin 6)).trans ((dats m 0 c).arrAt_in (1 : Fin 6) rfl _),
     ((h.1 c).1 (3 : Fin 6)).trans ((dats m 0 c).arrAt_in (3 : Fin 6) rfl _)⟩) (run_main m ρ)

end Cert.KernelIdeal.Attn

end
-- ==== Proof.Attn.Ref.lean ====
/- The reference's attention, read at a query, a head and a column: a softmax over the kept keys, shifted by its maximum. -/
module

public import proofs.«01_k».proof.Proof.Gen.ReferenceIdeal.Read
public import proofs.«01_k».proof.Proof.Attn.Softmax
public import proofs.«01_k».proof.Proof.Attn.KernelIdeal.Traj
public import Idealize.ShloMosaic.PureOps.Reduce

@[expose] public section

noncomputable section

namespace Cert.ReferenceIdeal.Attn

open Cert.ReferenceIdeal Cert.ReferenceIdeal.Gen Cert.ReferenceIdeal.Read Idealize.ShloMosaic Cert.Softmax
open Cert.KernelIdeal.Attn (colK rowQ rowV page lane)

variable (x0 : S16384x2048.Idx → EReal) (x1 : S3072x16384.Idx → EReal) (x2 : S64x16384x256.Idx → EReal)

/-- Query `q` attends to key `s`. -/
def Kept (q s : Fin 16384) : Prop := (0 : EReal) < x2 (ix3 (page q) s (lane q))
instance (q : Fin 16384) : DecidablePred (Kept x2 q) := fun s => inferInstanceAs (Decidable (_ < _))

/-- The score of query `q` with key `s` in head `h`. -/
def dotAt (h : Fin 8) (q s : Fin 16384) : EReal := ∑ d : Fin 128, x0 (ix2 s (colK h d)) * x1 (ix2 (rowQ h d) q)

theorem key_at (h : Fin 8) (q s : Fin 16384) (d : Fin 128) :
    val_main_v1 (F := Ideal) x0 (ridx_main_v12 (ix3 h q s) d) = x0 (ix2 s (colK h d)) := by
  rw [val_main_v1_apply, val_main_v0_apply]
  refine congrArg x0 (funext fun a => Fin.ext ?_)
  match a with
  | ⟨0, _⟩ => show ((s.val * 8 + h.val) * 128 + d.val) / 1024 = s.val; omega
  | ⟨1, _⟩ => show 1024 + ((s.val * 8 + h.val) * 128 + d.val) % 1024 = 1024 + 128 * h.val + d.val; omega

theorem query_at (h : Fin 8) (q s : Fin 16384) (d : Fin 128) :
    val_main_v4 (F := Ideal) x1 (lidx_main_v12 (ix3 h q s) d) = x1 (ix2 (rowQ h d) q) := by
  rw [val_main_v4_apply, val_main_v3_apply, val_main_v2_apply]
  refine congrArg x1 (funext fun a => Fin.ext ?_)
  match a with
  | ⟨0, _⟩ => show ((q.val * 8 + h.val) * 128 + d.val) % 1024 = 128 * h.val + d.val; omega
  | ⟨1, _⟩ => show ((q.val * 8 + h.val) * 128 + d.val) / 1024 = q.val; omega

theorem value_at (h : Fin 8) (d : Fin 128) (q s : Fin 16384) :
    val_main_v29 (F := Ideal) x1 (lidx_main_v30 (ix3 h d q) s) = x1 (ix2 (rowV h d) s) := by
  rw [val_main_v29_apply, val_main_v7_apply, val_main_v6_apply, val_main_v5_apply]
  refine congrArg x1 (funext fun a => Fin.ext ?_)
  match a with
  | ⟨0, _⟩ => show 1024 + ((s.val * 8 + h.val) * 128 + d.val) % 1024 = 1024 + 128 * h.val + d.val; omega
  | ⟨1, _⟩ => show ((s.val * 8 + h.val) * 128 + d.val) / 1024 = s.val; omega

theorem mask_at (q s : Fin 16384) : val_main_v9 (F := Ideal) x2 (ix2 q s) = x2 (ix3 (page q) s (lane q)) := by
  rw [val_main_v9_apply, val_main_v8_apply]
  refine congrArg x2 (funext fun a => Fin.ext ?_)
  match a with
  | ⟨0, _⟩ => show (q.val * 16384 + s.val) / 4194304 = q.val / 256; omega
  | ⟨1, _⟩ => show (q.val * 16384 + s.val) % 16384 = s.val; omega
  | ⟨2, _⟩ => show (q.val * 16384 + s.val) / 16384 % 256 = q.val % 256; omega

theorem zero16 : (FloatOps.ofBits .bf16 0x0000#16 : Ideal .bf16) = (0 : EReal) := by
  simp [Ideal.ofBits, Ideal.ieee, -EReal.coe_mul]
theorem zero32 : (FloatOps.ofBits .f32 0x00000000#32 : Ideal .f32) = (0 : EReal) := by
  simp [Ideal.ofBits, Ideal.ieee, -EReal.coe_mul]
theorem negInf32 : (FloatOps.ofBits .f32 0xFF800000#32 : Ideal .f32) = (⊥ : EReal) := by
  simp [Ideal.ofBits, Ideal.ieee, -EReal.coe_mul]
theorem two32 : (FloatOps.ofBits .f32 0x40000000#32 : Ideal .f32) = ((2 : ℝ) : EReal) := by
  simp [Ideal.ofBits, Ideal.ieee, -EReal.coe_mul]; norm_num

theorem cond_at (h : Fin 8) (q s : Fin 16384) :
    val_main_call0_v1 (F := Ideal) x2 (ix3 h q s) = BitVec.ofBool (decide (Kept x2 q s)) := by
  rw [val_main_call0_v1_apply, val_main_v16_apply, val_main_v11_apply, val_main_v10_apply, val_main_cst_apply, zero16]
  have e : (idx_main_v16 (idx_main_call0_v1 (ix3 h q s))) = ix2 q s := funext fun a => Fin.ext (by
    match a with
    | ⟨0, _⟩ => rfl
    | ⟨1, _⟩ => rfl)
  rw [e, mask_at]
  rfl

variable (h : Fin 8) (q : Fin 16384) (x : Fin 16384 → ℝ) (hx : ∀ s, dotAt x0 x1 h q s = (x s : EReal))
include hx

theorem scaled_at (s : Fin 16384) : val_main_v15 (F := Ideal) x0 x1 (ix3 h q s) = (x s : EReal) * ((Real.log 2 : ℝ) : EReal) := by
  rw [val_main_v15_apply, val_main_v14_apply, val_main_v13_apply, val_main_cst_0_apply, two32, val_main_v12_apply, ← hx]
  have e : (∑ k : Fin 128, (val_main_v4 (F := Ideal) x1) (lidx_main_v12 (ix3 h q s) k) * (val_main_v1 (F := Ideal) x0) (ridx_main_v12 (ix3 h q s) k)) = dotAt x0 x1 h q s :=
    Finset.sum_congr rfl fun d _ => by rw [key_at, query_at]; exact mul_comm _ _
  rw [e]
  have el : (FloatOps.hostUnary .log ((2 : ℝ) : EReal) : Ideal .f32) = ((Real.log 2 : ℝ) : EReal) := by
    show Ideal.log ((2 : ℝ) : EReal) = _
    rw [Ideal.log_coe, if_neg (by norm_num)]
  rw [el]
  rfl

theorem score_at (s : Fin 16384) : val_main_v17 (F := Ideal) x0 x1 x2 (ix3 h q s) = score (Kept x2 q) x s := by
  rw [val_main_v17_apply, cond_at, scaled_at x0 x1 h q x hx, val_main_call0_v2_apply, val_main_call0_v0_apply, val_main_cst_1_apply, negInf32]
  unfold score
  by_cases hk : Kept x2 q s
  · rw [if_pos hk, decide_eq_true hk]; rfl
  · rw [if_neg hk, decide_eq_false hk]; rfl

theorem max_at : val_main_v18 (F := Ideal) x0 x1 x2 (ix2 h q) = (Finset.univ : Finset (Fin 16384)).fold max ⊥ (score (Kept x2 q) x) := by
  unfold val_main_v18
  rw [Host.reduce_eq_fold_single FloatOps.maximumf _ _ _ (by decide) _ _]
  rw [val_main_cst_2_apply, negInf32]
  refine Finset.fold_congr fun s _ => ?_
  refine Eq.trans ?_ (score_at x0 x1 x2 h q x hx s)
  refine congrArg (val_main_v17 (F := Ideal) x0 x1 x2) (funext fun a => Fin.ext ?_)
  match a with
  | ⟨0, _⟩ => rfl
  | ⟨1, _⟩ => rfl
  | ⟨2, _⟩ => rfl

theorem exp_at (μ : ℝ) (hμ : (Finset.univ : Finset (Fin 16384)).fold max ⊥ (score (Kept x2 q) x) = (μ : EReal)) (s : Fin 16384) :
    val_main_v24 (F := Ideal) x0 x1 x2 (ix3 h q s) = Ideal.exp (score (Kept x2 q) x s - (μ : EReal)) := by
  rw [val_main_v24_apply, val_main_v23_apply, score_at x0 x1 x2 h q x hx, val_main_v22_apply, val_main_v21_apply, val_main_v20_apply]
  have e : idx_main_v21 (idx_main_v22 (ix3 h q s)) = ix2 h q := funext fun a => Fin.ext (by
    match a with
    | ⟨0, _⟩ => rfl
    | ⟨1, _⟩ => rfl)
  rw [e, max_at x0 x1 x2 h q x hx, hμ, val_main_v19_apply, val_main_cst_3_apply, negInf32]
  have em : (FloatOps.maximumf (⊥ : EReal) (μ : EReal) : Ideal .f32) = (μ : EReal) := by
    show max (⊥ : EReal) (μ : EReal) = _
    exact max_eq_right bot_le
  rw [em]
  rfl

theorem weight_at (μ : ℝ) (hμ : (Finset.univ : Finset (Fin 16384)).fold max ⊥ (score (Kept x2 q) x) = (μ : EReal)) (s : Fin 16384) :
    val_main_v28 (F := Ideal) x0 x1 x2 (ix3 h q s)
      = Ideal.div (Ideal.exp (score (Kept x2 q) x s - (μ : EReal))) (0 + ∑ t, Ideal.exp (score (Kept x2 q) x t - (μ : EReal))) := by
  rw [val_main_v28_apply, exp_at x0 x1 x2 h q x hx μ hμ, val_main_v27_apply, val_main_v26_apply, val_main_v25_apply, val_main_cst_4_apply, zero32]
  have e : (∑ k : Fin 16384, (val_main_v24 (F := Ideal) x0 x1 x2) (idx_main_v25 (idx_main_v26 (idx_main_v27 (ix3 h q s))) k))
      = ∑ t, Ideal.exp (score (Kept x2 q) x t - (μ : EReal)) := Finset.sum_congr rfl fun t _ => by
    rw [← exp_at x0 x1 x2 h q x hx μ hμ]
    refine congrArg (val_main_v24 (F := Ideal) x0 x1 x2) (funext fun a => Fin.ext ?_)
    match a with
    | ⟨0, _⟩ => rfl
    | ⟨1, _⟩ => rfl
    | ⟨2, _⟩ => rfl
  rw [e]
  rfl

/-- The reference's result at query `q`, head `h`, column `d`. -/
theorem result_at (d : Fin 128) (μ : ℝ) (hμ : (Finset.univ : Finset (Fin 16384)).fold max ⊥ (score (Kept x2 q) x) = (μ : EReal))
    (i : S16384x1024.Idx) (h0 : (i 0).val = q.val) (h1 : (i 1).val = 128 * h.val + d.val) :
    val_main_v33 (F := Ideal) x0 x1 x2 i
      = ∑ s, x1 (ix2 (rowV h d) s) * Ideal.div (Ideal.exp (score (Kept x2 q) x s - (μ : EReal))) (0 + ∑ t, Ideal.exp (score (Kept x2 q) x t - (μ : EReal))) := by
  rw [val_main_v33_apply, val_main_v32_apply, val_main_v31_apply]
  have e : idx_main_v31 (idx_main_v32 i) = ix3 h d q := funext fun a => Fin.ext (by
    match a with
    | ⟨0, _⟩ => show ((i 0).val * 1024 + (i 1).val) / 128 % 8 = h.val; omega
    | ⟨1, _⟩ => show ((i 0).val * 1024 + (i 1).val) % 128 = d.val; omega
    | ⟨2, _⟩ => show ((i 0).val * 1024 + (i 1).val) / 1024 = q.val; omega)
  rw [e, val_main_v30_apply]
  show (∑ k : Fin 16384, _ : EReal) = _
  refine Finset.sum_congr rfl fun s _ => ?_
  rw [value_at]
  refine congrArg (x1 (ix2 (rowV h d) s) * ·) ?_
  rw [← weight_at x0 x1 x2 h q x hx μ hμ]
  refine congrArg (val_main_v28 (F := Ideal) x0 x1 x2) (funext fun a => Fin.ext ?_)
  match a with
  | ⟨0, _⟩ => rfl
  | ⟨1, _⟩ => rfl
  | ⟨2, _⟩ => rfl

end Cert.ReferenceIdeal.Attn

end
-- ==== Proof.Attn.Pre.lean ====
/- What the precondition says of the arrays: the queries and keys are finite, a kept key is no later than its query, and every
   query keeps a key. -/
module

public import proofs.«01_k».proof.Proof.Gen.Pre_attends
public import proofs.«01_k».proof.Proof.Attn.Softmax
public import Idealize.ShloMosaic.Lib.ReduceAll
public import Idealize.ShloMosaic.Lib.Pipeline.Value
public import Idealize.ShloMosaic.Lib.ValueIdx
public import Idealize.ShloMosaic.Lib.WordCmp
public import Idealize.ShloMosaic.Lib.Pointwise

@[expose] public section

noncomputable section

namespace Cert.Pre_attends.Attn

open Cert.Pre_attends Cert.Pre_attends.Gen Idealize.ShloMosaic

/-- A left fold by `or` from 0 that is 1 met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, h2⟩
    · rcases IntOp.ori_eq_one.1 h1 with hi | ha
      · exact Or.inl hi
      · exact Or.inr ⟨a, List.mem_cons_self .., ha⟩
    · exact Or.inr ⟨n, List.mem_cons_of_mem _ hn, h2⟩

theorem inf32 : (FloatOps.ofBits .f32 0x7F800000#32 : Ideal .f32) = (⊤ : EReal) := by
  simp [Ideal.ofBits, Ideal.ieee, -EReal.coe_mul]
theorem zero16 : (FloatOps.ofBits .bf16 0x0000#16 : Ideal .bf16) = (0 : EReal) := by
  simp [Ideal.ofBits, Ideal.ieee, -EReal.coe_mul]

instance : Subsingleton S_.Idx := ⟨fun a b => funext fun k => k.elim0⟩

theorem cmp_lt {x y : EReal} (h : Ideal.cmp .olt x y = 1#1) : x < y := by
  by_contra hn
  have : Ideal.cmp .olt x y = 0#1 := by show BitVec.ofBool (decide (x < y)) = _; rw [decide_eq_false hn]; rfl
  rw [this] at h; exact absurd h (by decide)
theorem cmp_gt {x y : EReal} : Ideal.cmp .ogt x y = 1#1 ↔ y < x := by
  show BitVec.ofBool (decide (y < x)) = 1#1 ↔ _
  by_cases hn : y < x
  · simp [hn]
  · simp [hn]

variable (x0 : S16384x2048.Idx → EReal) (x1 : S3072x16384.Idx → EReal) (x2 : S64x16384x256.Idx → EReal)

/-- The places of a page: the reshaped positions. -/
theorem place_at (p : Fin 64) (l : Fin 256) :
    shapeCast S64x256 (iotaInDim S16384 32 0) shapeCasts_S16384_S64x256 (ix2 p l) = BitVec.ofNat 32 (256 * p.val + l.val) := by
  have e := shapeCast_apply (iotaInDim S16384 32 0) shapeCasts_S16384_S64x256 (ix2 p l) (fun a => match a with
    | ⟨0, _⟩ => ⟨256 * p.val + l.val, by show _ < 16384; omega⟩) (by
      rewrite [Shape.rowMajor_val_one, Shape.rowMajor_val_two]
      show 256 * p.val + l.val = p.val * 256 + l.val
      omega)
  rw [e]
  rfl

theorem holds (hp : Cert.Pre_attends.fn (F := Ideal) x0 x1 x2 = fun _ => 1#1) :
    (∀ (s : Fin 16384) (j : Fin 1024), ∃ r : ℝ, x0 (ix2 s ⟨1024 + j.val, by omega⟩) = r)
    ∧ (∀ (j : Fin 1024) (q : Fin 16384), ∃ r : ℝ, x1 (ix2 ⟨j.val, by omega⟩ q) = r)
    ∧ (∀ (p : Fin 64) (s : Fin 16384) (l : Fin 256), 0 < x2 (ix3 p s l) → s.val ≤ 256 * p.val + l.val)
    ∧ ∀ (p : Fin 64) (l : Fin 256), ∃ s : Fin 16384, 0 < x2 (ix3 p s l) := by
  have h := congrFun hp (Shape.Idx.first h_S_)
  unfold Cert.Pre_attends.fn fn_part1 at h
  obtain ⟨h25, h27⟩ := IntOp.andi_eq_one.1 h
  obtain ⟨h16, h24⟩ := IntOp.andi_eq_one.1 h25
  obtain ⟨h9, h15⟩ := IntOp.andi_eq_one.1 h16
  refine ⟨fun s j => ?_, fun j q => ?_, fun p s l hk => ?_, fun p l => ?_⟩
  · have e := Host.reduce_andi_all _ _ _ _ _ h9 (ix2 s j)
    have e' := cmp_lt e
    rw [show (broadcastInDim S16384x1024 ![] bcast_S_S16384x1024 (constant (F := Ideal) S_ .f32 0x7F800000#32) (ix2 s j)) = (⊤ : EReal) from inf32] at e'
    obtain ⟨r, hr⟩ := Softmax.exists_real e'
    refine ⟨r, hr ▸ ?_⟩
    refine Eq.symm ((extractStridedSlice_apply ![0, 1024] x0 slices_S16384x2048_S16384x1024_0_1024 (ix2 s j) (ix2 s ⟨1024 + j.val, by omega⟩) (fun a => match a with
      | ⟨0, _⟩ => by show s.val = 0 + s.val; omega
      | ⟨1, _⟩ => rfl)))
  · have e := Host.reduce_andi_all _ _ _ _ _ h15 (ix2 j q)
    have e' := cmp_lt e
    rw [show (broadcastInDim S1024x16384 ![] bcast_S_S1024x16384 (constant (F := Ideal) S_ .f32 0x7F800000#32) (ix2 j q)) = (⊤ : EReal) from inf32] at e'
    obtain ⟨r, hr⟩ := Softmax.exists_real e'
    refine ⟨r, hr ▸ ?_⟩
    refine Eq.symm ((extractStridedSlice_apply ![0, 0] x1 slices_S3072x16384_S1024x16384_0_0 (ix2 j q) (ix2 ⟨j.val, by omega⟩ q) (fun a => match a with
      | ⟨0, _⟩ => by show j.val = 0 + j.val; omega
      | ⟨1, _⟩ => by show q.val = 0 + q.val; omega)))
  · have e := Host.reduce_andi_all _ _ _ _ _ h24 (ix3 p s l)
    rcases IntOp.ori_eq_one.1 e with e1 | e2
    · exfalso
      have : Ideal.cmp .ogt (x2 (ix3 p s l)) (0 : EReal) = 1#1 := cmp_gt.2 hk
      have e1' : ~~~ (Ideal.cmp .ogt (x2 (ix3 p s l)) (FloatOps.ofBits .bf16 0x0000#16 : Ideal .bf16)) = 1#1 := e1
      rw [zero16, this] at e1'
      exact absurd e1' (by decide)
    · have e3 : IntOp.cmpi .sle (BitVec.ofNat 32 s.val) (BitVec.ofNat 32 (256 * p.val + l.val)) = 1#1 := by
        rw [← place_at p l]
        exact e2
      exact (WordCmp.cmpi_sle_ofNat_eq_one_iff (by omega) (by omega)).1 e3
  · have e := Host.reduce_andi_all _ _ _ _ _ h27 (ix2 p l)
    beta_reduce at e
    rw [Host.reduce_eq_foldl] at e
    rcases foldl_ori_eq_one _ _ _ e with e0 | ⟨n, hn, e1⟩
    · exact absurd e0 (by decide)
    · have hd := (List.mem_filter.1 hn).2
      have hd' := of_decide_eq_true hd
      have d0 : (n 0).val = p.val := congrArg (fun j : S64x256.Idx => (j 0).val) hd'
      have d1 : (n 2).val = l.val := congrArg (fun j : S64x256.Idx => (j 1).val) hd'
      refine ⟨n 1, ?_⟩
      have en : n = ix3 p (n 1) l := funext fun a => Fin.ext (by
        match a with
        | ⟨0, _⟩ => exact d0
        | ⟨1, _⟩ => rfl
        | ⟨2, _⟩ => exact d1)
      have e2 : Ideal.cmp .ogt (x2 n) (FloatOps.ofBits .bf16 0x0000#16 : Ideal .bf16) = 1#1 := e1
      rw [zero16] at e2
      exact lt_of_lt_of_eq (cmp_gt.1 e2) (congrArg x2 en)

end Cert.Pre_attends.Attn

end
-- ==== Proof.Attn.Equal.lean ====
/- The kernel's array is the reference's: the keys a query does not keep have weight zero, so the blocks the kernel stops at hold
   every kept key, and the quotient of the two sums is the softmax. -/
module

public import proofs.«01_k».proof.Proof.Attn.Ref
public import proofs.«01_k».proof.Proof.Attn.Pre

@[expose] public section

noncomputable section

namespace Cert.KernelIdeal.Attn

open Cert.KernelIdeal Idealize.ShloMosaic Cert.Softmax
open Cert.ReferenceIdeal.Attn (Kept dotAt result_at)

variable (m : (ℓ : Loc nD τ sig) → Buf (Elt Ideal) ℓ) (c : Dev nD)

/-- A sum over the first blocks of the keys is the sum over all keys when the later terms are zero. -/
theorem blocks_sum (f : Fin 16384 → EReal) (q : Fin 16384) (hf : ∀ s : Fin 16384, q.val < s.val → f s = 0) :
    ∑ b ∈ Finset.range (q.val / 1024 + 1), ∑ s : Fin 1024, f (key b s) = ∑ s, f s := by
  have hsub : Finset.range (q.val / 1024 + 1) ⊆ Finset.range 16 := Finset.range_subset_range.2 (by omega)
  rw [Finset.sum_subset hsub (fun b hb hn => Finset.sum_eq_zero fun s _ => hf _ (by
    have h1 := Finset.mem_range.1 hb
    have h2 : q.val / 1024 + 1 ≤ b := by by_contra h3; exact hn (Finset.mem_range.2 (by omega))
    show q.val < (1024 * b + s.val) % 16384
    omega)), Finset.sum_range, ← Fintype.sum_prod_type' (fun (b : Fin 16) (s : Fin 1024) => f (key b.val s))]
  refine Fintype.sum_equiv (finProdFinEquiv (m := 16) (n := 1024)) _ _ fun p => congrArg f (Fin.ext ?_)
  show (1024 * p.1.val + p.2.val) % 16384 = p.2.val + 1024 * p.1.val
  omega

theorem G_eq (hp : Cert.Pre_attends.fn (F := Ideal) (aNat m c) (aTr m c) (aKeep m c) = fun _ => 1#1) :
    G m c = Cert.ReferenceIdeal.Read.val_main_v33 (F := Ideal) (aNat m c) (aTr m c) (aKeep m c) := by
  obtain ⟨hK, hQ, hC, hE⟩ := Cert.Pre_attends.Attn.holds _ _ _ hp
  choose rk hrk using hK
  choose rq hrq using hQ
  funext i
  have hi0 : (i 0).val < 16384 := (i 0).isLt
  have hi1 : (i 1).val < 1024 := (i 1).isLt
  let q : Fin 16384 := ⟨(i 0).val, hi0⟩
  let h : Fin 8 := ⟨(i 1).val / 128, by omega⟩
  let d : Fin 128 := ⟨(i 1).val % 128, by omega⟩
  let x : Fin 16384 → ℝ := fun s => ∑ d : Fin 128, rk s ⟨128 * h.val + d.val, by omega⟩ * rq ⟨128 * h.val + d.val, by omega⟩ q
  have hx : ∀ s, dotAt (aNat m c) (aTr m c) h q s = (x s : EReal) := fun s => by
    unfold dotAt
    rw [← sum_coe]
    refine Finset.sum_congr rfl fun e _ => ?_
    rw [EReal.coe_mul, ← hrk, ← hrq]
    refine congrArg (fun j => aNat m c (ix2 s j) * aTr m c (ix2 (rowQ h e) q)) (Fin.ext ?_)
    show 1024 + 128 * h.val + e.val = 1024 + (128 * h.val + e.val)
    omega
  have hk : ∃ s, Kept (aKeep m c) q s := hE (page q) (lane q)
  obtain ⟨μ, hμ⟩ := max_real (Kept (aKeep m c) q) x hk
  have hw : ∀ s, W m c h s q = Ideal.exp2 ((if Kept (aKeep m c) q s then 0 else ⊥) + (x s : EReal)) := fun s => by
    rw [← hx s]; rfl
  have h0 : ∀ s : Fin 16384, q.val < s.val → W m c h s q = 0 := fun s hs => by
    have hn : ¬ Kept (aKeep m c) q s := fun hk => by
      have := hC (page q) s (lane q) hk
      have h2 : (page q).val = q.val / 256 := rfl
      have h3 : (lane q).val = q.val % 256 := rfl
      omega
    rw [hw, if_neg hn, EReal.bot_add, Ideal.exp2_bot]
  rw [result_at (aNat m c) (aTr m c) (aKeep m c) h q x hx d μ hμ i rfl (by show (i 1).val = 128 * ((i 1).val / 128) + (i 1).val % 128; omega)]
  rw [← softmax_eq (Kept (aKeep m c) q) x (fun s => aTr m c (ix2 (rowV h d) s)) hk μ]
  show Ideal.div (sumA m c h d q (q.val / 1024 + 1)) (sumL m c h q (q.val / 1024 + 1)) = _
  unfold sumA sumL
  rw [blocks_sum (fun s => aTr m c (ix2 (rowV h d) s) * W m c h s q) q (fun s hs => by rw [h0 s hs, mul_zero]),
    blocks_sum (fun s => W m c h s q) q h0]
  simp only [hw]

end Cert.KernelIdeal.Attn

end
-- ==== Proof.Ffn.Payload.lean ====
/- The feed-forward kernel's payloads, read at an index. -/
module

public import proofs.«01_k».proof.Proof.Gen.FfnIdeal.Skeleton
public import Idealize.ShloMosaic.Lib.Pointwise
public import Idealize.ShloMosaic.Lib.KernelVsHost
public import Idealize.ShloMosaic.PureOps.Ideal.Laws

@[expose] public section

set_option maxRecDepth 16384

noncomputable section

namespace Cert.FfnIdeal.Ffn

open Cert.FfnIdeal Cert.FfnIdeal.Gen
open Idealize.ShloMosaic

/-- A row over its root mean square, times the gain. -/
def normed (x g : Fin 2048 → EReal) (d : Fin 2048) : EReal :=
  x d * Ideal.rsqrt (Ideal.div (∑ e : Fin 2048, x e * x e) (FloatOps.ofBits (F := Ideal) .f32 0x45000000#32) + FloatOps.ofBits (F := Ideal) .f32 0x358637BD#32) * g d

theorem pay3_at (x : FVec Ideal S1024x2048 .f32) (g : FVec Ideal S1x2048 .f32) (r : Fin 1024) (d : Fin 2048) :
    (k0_pay3 x g : FVec Ideal S1024x2048 .bf16) (ix2 r d) = normed (fun e => x (ix2 r e)) (fun e => g (ix2 0 e)) d := by
  pointwise [k0_pay3, normed]

theorem pay4_at (x : FVec Ideal S1024x2048 .bf16) (r : Fin 1024) (d : Fin 2048) :
    (k0_pay4 x : FVec Ideal S1024x2048 .bf16) (ix2 r d) = x (ix2 r d) := by
  pointwise [k0_pay4]

theorem pay2_at (b : BitVec 32) (x : FVec Ideal S16x2048 .f32) (g : FVec Ideal S1x2048 .f32) (r : Fin 16) (d : Fin 2048) :
    (k0_pay2 b x g : FVec Ideal S16x2048 .bf16) (ix2 r d) = if b = 0#32 then 0 else normed (fun e => x (ix2 r e)) (fun e => g (ix2 0 e)) d := by
  pointwise [k0_pay2, normed]
  by_cases hb : b = 0#32
  · subst hb; rfl
  · rw [if_neg hb]; exact if_neg (by have e : (b == 0#32) = false := beq_eq_false_iff_ne.mpr hb; simp [Scalar.cmpi, IntOp.cmpi, e])

theorem pay6_at (h : FVec Ideal S1040x2048 .bf16) (w : FVec Ideal S2048x512 .bf16) (r : Fin 1040) (k : Fin 512) :
    (k0_pay6 h w : FVec Ideal S1040x512 .f32) (ix2 r k) = ∑ d : Fin 2048, h (ix2 r d) * w (ix2 d k) := by
  pointwise [k0_pay6]

theorem pay7_at (h : FVec Ideal S1040x2048 .bf16) (w : FVec Ideal S2048x512 .bf16) (c0 : FVec Ideal S1x512 .f32) (r : Fin 1040) (hr : 2 ≤ r.val) (k : Fin 512) :
    (k0_pay7 h w c0 : FVec Ideal S1040x512 .f32) (ix2 r k) = c0 (ix2 0 k) * ∑ d : Fin 2048, h (ix2 ⟨r.val - 2, by omega⟩ d) * w (ix2 d k) := by
  rw [← pay6_at]
  pointwise [k0_pay7]
  have e : (⟨(r.val + 1040 - 2) % 1040, Nat.mod_lt _ (by omega)⟩ : Fin 1040) = ⟨r.val - 2, by omega⟩ := Fin.ext (by show (r.val + 1040 - 2) % 1040 = r.val - 2; omega)
  rw [e]

theorem pay5_at (h : FVec Ideal S1040x2048 .bf16) (w : FVec Ideal S2048x512 .bf16) (c0 c1 c2 cb : FVec Ideal S1x512 .f32) (r : Fin 1024) (k : Fin 512) :
    (k0_pay5 h w c0 c1 c2 cb : FVec Ideal S1024x512 .f32) (ix2 r k)
      = cb (ix2 0 k) + (c0 (ix2 0 k) * (∑ d : Fin 2048, h (ix2 ⟨r.val + 14, by omega⟩ d) * w (ix2 d k))
        + c1 (ix2 0 k) * (∑ d : Fin 2048, h (ix2 ⟨r.val + 15, by omega⟩ d) * w (ix2 d k))
        + c2 (ix2 0 k) * (∑ d : Fin 2048, h (ix2 ⟨r.val + 16, by omega⟩ d) * w (ix2 d k))) := by
  pointwise [k0_pay5]
  have e1 : (⟨(16 + r.val + 1040 - 2) % 1040, Nat.mod_lt _ (by omega)⟩ : Fin 1040) = ⟨r.val + 14, by omega⟩ := Fin.ext (by show (16 + r.val + 1040 - 2) % 1040 = r.val + 14; omega)
  have e2 : (⟨(16 + r.val + 1040 - 1) % 1040, Nat.mod_lt _ (by omega)⟩ : Fin 1040) = ⟨r.val + 15, by omega⟩ := Fin.ext (by show (16 + r.val + 1040 - 1) % 1040 = r.val + 15; omega)
  have e3 : (⟨16 + r.val, by omega⟩ : Fin 1040) = ⟨r.val + 16, by omega⟩ := Fin.ext (by show 16 + r.val = r.val + 16; omega)
  rw [e1, e2, e3]

/-- The gate's product: the gate over one plus the exponential of its negative, times the value. -/
def act (g v : EReal) : EReal := g * Ideal.div 1 (1 + Ideal.exp (0 - g)) * v

theorem pay1_at (u : FVec Ideal S1024x512 .f32) (v p : FVec Ideal S1040x512 .f32) (c1 c2 cb : FVec Ideal S1x512 .f32) (o : FVec Ideal S1024x2048 .f32)
    (w : FVec Ideal S512x2048 .bf16) (r : Fin 1024) (d : Fin 2048) :
    (k0_pay1 u v p c1 c2 cb o w : FVec Ideal S1024x2048 .f32) (ix2 r d)
      = o (ix2 r d) + ∑ k : Fin 512, act (u (ix2 r k)) (cb (ix2 0 k) + (p (ix2 ⟨r.val + 16, by omega⟩ k) + c1 (ix2 0 k) * v (ix2 ⟨r.val + 15, by omega⟩ k)
          + c2 (ix2 0 k) * v (ix2 ⟨r.val + 16, by omega⟩ k))) * w (ix2 k d) := by
  pointwise [k0_pay1, act]
  have e2 : (⟨(16 + r.val + 1040 - 1) % 1040, Nat.mod_lt _ (by omega)⟩ : Fin 1040) = ⟨r.val + 15, by omega⟩ := Fin.ext (by show (16 + r.val + 1040 - 1) % 1040 = r.val + 15; omega)
  have e3 : (⟨16 + r.val, by omega⟩ : Fin 1040) = ⟨r.val + 16, by omega⟩ := Fin.ext (by show 16 + r.val = r.val + 16; omega)
  simp only [e2, e3]

end Cert.FfnIdeal.Ffn

end
-- ==== Proof.Ffn.Reads.lean ====
/- The feed-forward kernel's arrays, and a point's blocks of them. -/
module

public import proofs.«01_k».proof.Proof.Ffn.Payload
public import proofs.«01_k».proof.Proof.Gen.FfnIdeal.Value
public import Idealize.ShloMosaic.Lib.StableHlo.Run
public import Idealize.ShloMosaic.Lib.Pipeline.ValueKit.Basic
public import Idealize.ShloMosaic.Lib.Pipeline.ValueKit.Geometry

@[expose] public section

set_option maxRecDepth 16384

noncomputable section

namespace Cert.FfnIdeal.Ffn

open Cert.FfnIdeal Cert.FfnIdeal.Gen
open Idealize.ShloMosaic Idealize.ShloMosaic.TcCoe Idealize.SL.Sem

variable (m : (ℓ : Loc nD τ sig) → Buf (Elt Ideal) ℓ) (c : Dev nD)

/-- The tokens, the gain, the two matrices, the taps and their offsets. -/
abbrev aX : S16384x2048.Idx → EReal := m (c, main_arg0)
abbrev aG : S2048.Idx → EReal := m (c, main_arg1)
abbrev aUp : S2048x11264.Idx → EReal := m (c, main_arg2)
abbrev aTap : S3x11264.Idx → EReal := m (c, main_arg3)
abbrev aOff : S11264.Idx → EReal := m (c, main_arg4)
abbrev aDn : S5632x2048.Idx → EReal := m (c, main_arg5)

theorem V_v1 : V m c main_v1 = aUp m c := by
  unfold V
  after_results
  rfl
theorem V_v3 : V m c main_v3 = aDn m c := by
  unfold V
  after_results
  rfl
theorem V_v0 : V m c main_v0 = shapeCast S1x2048 (aG m c) shapeCasts_S2048_S1x2048 := by
  unfold V
  after_results
  rfl
theorem V_v2 : V m c main_v2 = shapeCast S1x11264 (aOff m c) shapeCasts_S11264_S1x11264 := by
  unfold V
  after_results
  rfl
theorem gain_at (d : Fin 2048) : (shapeCast S1x2048 (aG m c) shapeCasts_S2048_S1x2048 : S1x2048.Idx → EReal) (ix2 0 d) = aG m c (ix1 d) := by
  pointwise
theorem off_at (k : Fin 11264) : (shapeCast S1x11264 (aOff m c) shapeCasts_S11264_S1x11264 : S1x11264.Idx → EReal) (ix2 0 k) = aOff m c (ix1 k) := by
  pointwise

theorem win_index : ∀ t : Fin cfg0.N,
    ((cfg0.win (0 : Fin 11)).index t (0 : Fin 2) = t.val / 11 ∧ (cfg0.win (0 : Fin 11)).index t (1 : Fin 2) = 0)
    ∧ ((cfg0.win (1 : Fin 11)).index t (0 : Fin 2) = 64 * (t.val / 11) - 1 ∧ (cfg0.win (1 : Fin 11)).index t (1 : Fin 2) = 0)
    ∧ ((cfg0.win (2 : Fin 11)).index t (0 : Fin 2) = 0 ∧ (cfg0.win (2 : Fin 11)).index t (1 : Fin 2) = 0)
    ∧ ((cfg0.win (3 : Fin 11)).index t (0 : Fin 2) = 0 ∧ (cfg0.win (3 : Fin 11)).index t (1 : Fin 2) = t.val % 11)
    ∧ ((cfg0.win (4 : Fin 11)).index t (0 : Fin 2) = 0 ∧ (cfg0.win (4 : Fin 11)).index t (1 : Fin 2) = t.val % 11 + 11)
    ∧ ((cfg0.win (5 : Fin 11)).index t (0 : Fin 2) = 0 ∧ (cfg0.win (5 : Fin 11)).index t (1 : Fin 2) = t.val % 11)
    ∧ ((cfg0.win (6 : Fin 11)).index t (0 : Fin 2) = 0 ∧ (cfg0.win (6 : Fin 11)).index t (1 : Fin 2) = t.val % 11 + 11)
    ∧ ((cfg0.win (7 : Fin 11)).index t (0 : Fin 2) = 0 ∧ (cfg0.win (7 : Fin 11)).index t (1 : Fin 2) = t.val % 11)
    ∧ ((cfg0.win (8 : Fin 11)).index t (0 : Fin 2) = 0 ∧ (cfg0.win (8 : Fin 11)).index t (1 : Fin 2) = t.val % 11 + 11)
    ∧ ((cfg0.win (9 : Fin 11)).index t (0 : Fin 2) = t.val % 11 ∧ (cfg0.win (9 : Fin 11)).index t (1 : Fin 2) = 0)
    ∧ (grid0.coords t (0 : Fin 2)).val = t.val / 11 := by decide +kernel

theorem lt_N (t : Fin cfg0.N) : t.val < 176 := lt_of_lt_of_eq t.isLt N_0

/-- Row `r` of block `q`; row `r` of the sixteen before it and of the block itself; a slab's gate and value columns, and its rows. -/
abbrev tok (q : ℕ) (r : Fin 1024) : Fin 16384 := ⟨(1024 * q + r.val) % 16384, Nat.mod_lt _ (by omega)⟩
abbrev tokH (q : ℕ) (r : ℕ) : Fin 16384 := ⟨(1024 * q + r - 16) % 16384, Nat.mod_lt _ (by omega)⟩
abbrev colG (f : ℕ) (k : Fin 512) : Fin 11264 := ⟨(512 * f + k.val) % 5632, by omega⟩
abbrev colV (f : ℕ) (k : Fin 512) : Fin 11264 := ⟨5632 + (512 * f + k.val) % 5632, by omega⟩
abbrev rowD (f : ℕ) (k : Fin 512) : Fin 5632 := ⟨(512 * f + k.val) % 5632, by omega⟩

theorem iblk0_at (t : Fin cfg0.N) (r : Fin 1024) (d : Fin 2048) :
    (iblk m c (0 : Fin 11) t : S1024x2048.Idx → EReal) (ix2 r d) = aX m c (ix2 (tok (t.val / 11) r) d) := by
  have hi := (win_index t).1
  have ht := lt_N t
  unfold iblk
  rw [View.read_apply]
  show V m c main_arg0 _ = _
  rw [V_main_arg0]
  refine congrArg (aX m c) (funext fun a => Fin.ext ?_)
  refine ((cfg0.win (0 : Fin 11)).rect_emb_val t _ a).trans ?_
  fin_cases a
  · show (cfg0.win (0 : Fin 11)).index t (0 : Fin 2) * 1024 + r.val = (1024 * (t.val / 11) + r.val) % 16384
    rw [hi.1, Nat.mod_eq_of_lt (by omega)]; omega
  · show (cfg0.win (0 : Fin 11)).index t (1 : Fin 2) * 2048 + d.val = d.val
    rw [hi.2]; omega
theorem iblk1_at (t : Fin cfg0.N) (hq : t.val / 11 ≠ 0) (r : Fin 16) (d : Fin 2048) :
    (iblk m c (1 : Fin 11) t : S16x2048.Idx → EReal) (ix2 r d) = aX m c (ix2 (tokH (t.val / 11) r.val) d) := by
  have hi := (win_index t).2.1
  have ht := lt_N t
  unfold iblk
  rw [View.read_apply]
  show V m c main_arg0 _ = _
  rw [V_main_arg0]
  refine congrArg (aX m c) (funext fun a => Fin.ext ?_)
  refine ((cfg0.win (1 : Fin 11)).rect_emb_val t _ a).trans ?_
  fin_cases a
  · show (cfg0.win (1 : Fin 11)).index t (0 : Fin 2) * 16 + r.val = (1024 * (t.val / 11) + r.val - 16) % 16384
    rw [hi.1, Nat.mod_eq_of_lt (by omega)]; omega
  · show (cfg0.win (1 : Fin 11)).index t (1 : Fin 2) * 2048 + d.val = d.val
    rw [hi.2]; omega
theorem iblk2_at (t : Fin cfg0.N) (d : Fin 2048) :
    (iblk m c (2 : Fin 11) t : S1x2048.Idx → EReal) (ix2 0 d) = aG m c (ix1 d) := by
  have hi := (win_index t).2.2.1
  rw [← gain_at]
  unfold iblk
  rw [View.read_apply]
  show V m c main_v0 _ = _
  rw [V_v0]
  refine congrArg (shapeCast S1x2048 (aG m c) shapeCasts_S2048_S1x2048) (funext fun a => Fin.ext ?_)
  refine ((cfg0.win (2 : Fin 11)).rect_emb_val t _ a).trans ?_
  fin_cases a
  · show (cfg0.win (2 : Fin 11)).index t (0 : Fin 2) * 1 + 0 = 0
    rw [hi.1]
  · show (cfg0.win (2 : Fin 11)).index t (1 : Fin 2) * 2048 + d.val = d.val
    rw [hi.2]; omega
theorem iblk3_at (t : Fin cfg0.N) (d : Fin 2048) (k : Fin 512) :
    (iblk m c (3 : Fin 11) t : S2048x512.Idx → EReal) (ix2 d k) = aUp m c (ix2 d (colG (t.val % 11) k)) := by
  have hi := (win_index t).2.2.2.1
  unfold iblk
  rw [View.read_apply]
  show V m c main_v1 _ = _
  rw [V_v1]
  refine congrArg (aUp m c) (funext fun a => Fin.ext ?_)
  refine ((cfg0.win (3 : Fin 11)).rect_emb_val t _ a).trans ?_
  fin_cases a
  · show (cfg0.win (3 : Fin 11)).index t (0 : Fin 2) * 2048 + d.val = d.val
    rw [hi.1]; omega
  · show (cfg0.win (3 : Fin 11)).index t (1 : Fin 2) * 512 + k.val = (512 * (t.val % 11) + k.val) % 5632
    rw [hi.2]; omega
theorem iblk4_at (t : Fin cfg0.N) (d : Fin 2048) (k : Fin 512) :
    (iblk m c (4 : Fin 11) t : S2048x512.Idx → EReal) (ix2 d k) = aUp m c (ix2 d (colV (t.val % 11) k)) := by
  have hi := (win_index t).2.2.2.2.1
  unfold iblk
  rw [View.read_apply]
  show V m c main_v1 _ = _
  rw [V_v1]
  refine congrArg (aUp m c) (funext fun a => Fin.ext ?_)
  refine ((cfg0.win (4 : Fin 11)).rect_emb_val t _ a).trans ?_
  fin_cases a
  · show (cfg0.win (4 : Fin 11)).index t (0 : Fin 2) * 2048 + d.val = d.val
    rw [hi.1]; omega
  · show (cfg0.win (4 : Fin 11)).index t (1 : Fin 2) * 512 + k.val = 5632 + (512 * (t.val % 11) + k.val) % 5632
    rw [hi.2]; omega
theorem iblk5_at (t : Fin cfg0.N) (j : Fin 3) (k : Fin 512) :
    (iblk m c (5 : Fin 11) t : S3x512.Idx → EReal) (ix2 j k) = aTap m c (ix2 j (colG (t.val % 11) k)) := by
  have hi := (win_index t).2.2.2.2.2.1
  unfold iblk
  rw [View.read_apply]
  show V m c main_arg3 _ = _
  rw [V_main_arg3]
  refine congrArg (aTap m c) (funext fun a => Fin.ext ?_)
  refine ((cfg0.win (5 : Fin 11)).rect_emb_val t _ a).trans ?_
  fin_cases a
  · show (cfg0.win (5 : Fin 11)).index t (0 : Fin 2) * 3 + j.val = j.val
    rw [hi.1]; omega
  · show (cfg0.win (5 : Fin 11)).index t (1 : Fin 2) * 512 + k.val = (512 * (t.val % 11) + k.val) % 5632
    rw [hi.2]; omega
theorem iblk6_at (t : Fin cfg0.N) (j : Fin 3) (k : Fin 512) :
    (iblk m c (6 : Fin 11) t : S3x512.Idx → EReal) (ix2 j k) = aTap m c (ix2 j (colV (t.val % 11) k)) := by
  have hi := (win_index t).2.2.2.2.2.2.1
  unfold iblk
  rw [View.read_apply]
  show V m c main_arg3 _ = _
  rw [V_main_arg3]
  refine congrArg (aTap m c) (funext fun a => Fin.ext ?_)
  refine ((cfg0.win (6 : Fin 11)).rect_emb_val t _ a).trans ?_
  fin_cases a
  · show (cfg0.win (6 : Fin 11)).index t (0 : Fin 2) * 3 + j.val = j.val
    rw [hi.1]; omega
  · show (cfg0.win (6 : Fin 11)).index t (1 : Fin 2) * 512 + k.val = 5632 + (512 * (t.val % 11) + k.val) % 5632
    rw [hi.2]; omega
theorem iblk7_at (t : Fin cfg0.N) (k : Fin 512) :
    (iblk m c (7 : Fin 11) t : S1x512.Idx → EReal) (ix2 0 k) = aOff m c (ix1 (colG (t.val % 11) k)) := by
  have hi := (win_index t).2.2.2.2.2.2.2.1
  rw [← off_at]
  unfold iblk
  rw [View.read_apply]
  show V m c main_v2 _ = _
  rw [V_v2]
  refine congrArg (shapeCast S1x11264 (aOff m c) shapeCasts_S11264_S1x11264) (funext fun a => Fin.ext ?_)
  refine ((cfg0.win (7 : Fin 11)).rect_emb_val t _ a).trans ?_
  fin_cases a
  · show (cfg0.win (7 : Fin 11)).index t (0 : Fin 2) * 1 + 0 = 0
    rw [hi.1]
  · show (cfg0.win (7 : Fin 11)).index t (1 : Fin 2) * 512 + k.val = (512 * (t.val % 11) + k.val) % 5632
    rw [hi.2]; omega
theorem iblk8_at (t : Fin cfg0.N) (k : Fin 512) :
    (iblk m c (8 : Fin 11) t : S1x512.Idx → EReal) (ix2 0 k) = aOff m c (ix1 (colV (t.val % 11) k)) := by
  have hi := (win_index t).2.2.2.2.2.2.2.2.1
  rw [← off_at]
  unfold iblk
  rw [View.read_apply]
  show V m c main_v2 _ = _
  rw [V_v2]
  refine congrArg (shapeCast S1x11264 (aOff m c) shapeCasts_S11264_S1x11264) (funext fun a => Fin.ext ?_)
  refine ((cfg0.win (8 : Fin 11)).rect_emb_val t _ a).trans ?_
  fin_cases a
  · show (cfg0.win (8 : Fin 11)).index t (0 : Fin 2) * 1 + 0 = 0
    rw [hi.1]
  · show (cfg0.win (8 : Fin 11)).index t (1 : Fin 2) * 512 + k.val = 5632 + (512 * (t.val % 11) + k.val) % 5632
    rw [hi.2]; omega
theorem iblk9_at (t : Fin cfg0.N) (k : Fin 512) (d : Fin 2048) :
    (iblk m c (9 : Fin 11) t : S512x2048.Idx → EReal) (ix2 k d) = aDn m c (ix2 (rowD (t.val % 11) k) d) := by
  have hi := (win_index t).2.2.2.2.2.2.2.2.2.1
  unfold iblk
  rw [View.read_apply]
  show V m c main_v3 _ = _
  rw [V_v3]
  refine congrArg (aDn m c) (funext fun a => Fin.ext ?_)
  refine ((cfg0.win (9 : Fin 11)).rect_emb_val t _ a).trans ?_
  fin_cases a
  · show (cfg0.win (9 : Fin 11)).index t (0 : Fin 2) * 512 + k.val = (512 * (t.val % 11) + k.val) % 5632
    rw [hi.1]; omega
  · show (cfg0.win (9 : Fin 11)).index t (1 : Fin 2) * 2048 + d.val = d.val
    rw [hi.2]; omega

end Cert.FfnIdeal.Ffn

end
-- ==== Proof.Ffn.Block.lean ====
/- What the feed-forward kernel leaves at a point, over what it found. -/
module

public import proofs.«01_k».proof.Proof.Ffn.Payload
public import proofs.«01_k».proof.Proof.Gen.FfnIdeal.Value
public import Idealize.ShloMosaic.Lib.WholeRead
public import Idealize.ShloMosaic.Lib.VecWindow
public import Idealize.ShloMosaic.Lib.Pipeline.ValueKit.Basic

@[expose] public section

set_option maxRecDepth 16384

noncomputable section

namespace Cert.FfnIdeal.Ffn

open Cert.FfnIdeal Cert.FfnIdeal.Gen
open Idealize.ShloMosaic Idealize.ShloMosaic.TcCoe Idealize.SL.Sem

variable (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1024x2048 .f32) (harg12 : arg12.IsWhole) (arg13 : Memref sig .tc .vmem S1040x2048 .bf16) (harg13 : arg13.IsWhole)
  (x0 : Vec Ideal S1024x2048 .f32) (x1 : Vec Ideal S16x2048 .f32) (x2 : Vec Ideal S1x2048 .f32) (x3 : Vec Ideal S2048x512 .bf16) (x4 : Vec Ideal S2048x512 .bf16) (x5 : Vec Ideal S3x512 .f32) (x6 : Vec Ideal S3x512 .f32) (x7 : Vec Ideal S1x512 .f32) (x8 : Vec Ideal S1x512 .f32) (x9 : Vec Ideal S512x2048 .bf16)
  (xo10 : Vec Ideal S1024x2048 .f32) (xs0 : Vec Ideal S1040x2048 .bf16)

/-- One row of three. -/
def row (x : Vec Ideal S3x512 .f32) (j : Fin 3) : Vec Ideal S1x512 .f32 := fun i => x (ix2 j (i 1))

/-- A point's addition to the output block: the slab's products, from the normalised rows. -/
abbrev addTo (h : Vec Ideal S1040x2048 .bf16) (o : Vec Ideal S1024x2048 .f32) : Vec Ideal S1024x2048 .f32 :=
  k0_pay1 (k0_pay5 h x3 (row x5 0) (row x5 1) (row x5 2) x7) (k0_pay6 h x4) (k0_pay7 h x4 (row x6 0)) (row x6 1) (row x6 2) x8 o x9

omit c in
/-- A load of all of a memory that holds `x`. -/
theorem full_unread {κ : Kind} {sp : Space} {s : Shape} {e : EltTy} (a : Memref sig κ sp s e) (h : a.IsWhole) (x : s.Idx → Elt Ideal e) {off : Fin s.rank → ℕ} (inb : ∀ b, off b + s.size b ≤ s.size b) :
    a.view.readAt (Elt Ideal) (Rect.unit off s.size inb).toLoadRect (h.unread x) = x :=
  (View.readAt_full a.view _ inb).trans (h.read_unread x)

/-- A load of one row of three. -/
theorem row_unread (a : Memref sig .tc .vmem S3x512 .f32) (h : a.IsWhole) (x : Vec Ideal S3x512 .f32) (j : Fin 3) (inb : ∀ b, (![j.val, 0] : Fin 2 → ℕ) b + S1x512.size b ≤ S3x512.size b) :
    a.view.readAt (Elt Ideal) (Rect.unit (s := S3x512) ![j.val, 0] S1x512.size inb).toLoadRect (h.unread x) = row x j := by
  funext y
  refine (Memref.IsWhole.readAt_unread h x _ y).trans (congrArg x (funext fun b => Fin.ext ?_))
  have y0 : (y (0 : Fin 2)).val < 1 := (y (0 : Fin 2)).isLt
  fin_cases b
  · show j.val + 1 * (y (0 : Fin 2)).val = j.val
    omega
  · show 0 + 1 * (y (1 : Fin 2)).val = (y (1 : Fin 2)).val
    omega

theorem outB_eq (hc0 : ¬cond0_0 i) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo10 xs0
      = addTo x3 x4 x5 x6 x7 x8 x9 xs0 xo10 := by
  unfold out0_B_10 kernelRun0_B
  rw [View.read_writes_junk_eq_canon]
  dsimp only
  unfold kernelRun0_B.sl.r kernelRun0_B.sl.r_1 kernelRun0_B.sl.r_2 addTo
  refine (View.canon_cons_unit_zero (S := S1024x2048) (View.eq_zero_of_forall (by decide)) _ _ _).trans ?_
  rw [← row_unread arg7 harg7 x5 0 inb_S3x512_S1x512_0_0, ← row_unread arg7 harg7 x5 1 inb_S3x512_S1x512_1_0, ← row_unread arg7 harg7 x5 2 inb_S3x512_S1x512_2_0,
    ← row_unread arg8 harg8 x6 0 inb_S3x512_S1x512_0_0, ← row_unread arg8 harg8 x6 1 inb_S3x512_S1x512_1_0, ← row_unread arg8 harg8 x6 2 inb_S3x512_S1x512_2_0]
  have e3 := full_unread arg5 harg5 x3 inb_S2048x512_S2048x512_0_0
  have e4 := full_unread arg6 harg6 x4 inb_S2048x512_S2048x512_0_0
  have e7 := full_unread arg9 harg9 x7 inb_S1x512_S1x512_0_0
  have e8 := full_unread arg10 harg10 x8 inb_S1x512_S1x512_0_0
  have e9 := full_unread arg11 harg11 x9 inb_S512x2048_S512x2048_0_0
  have eo := full_unread arg12 harg12 xo10 inb_S1024x2048_S1024x2048_0_0
  have es := full_unread arg13 harg13 xs0 inb_S1040x2048_S1040x2048_0_0
  simp only [Fin.val_zero, Fin.val_one, Fin.val_two]
  rw [e3, e4, e7, e8, e9, eo, es]

/-- What the first point of a block of rows puts in the scratch: the halo's rows, then the block's. -/
def rowsOf (b : BitVec 32) (x0 : Vec Ideal S1024x2048 .f32) (x1 : Vec Ideal S16x2048 .f32) (x2 : Vec Ideal S1x2048 .f32) : Vec Ideal S1040x2048 .bf16 := fun y =>
  if h : (y (0 : Fin 2)).val < 16 then (k0_pay2 b x1 x2 : FVec Ideal S16x2048 .bf16) (ix2 ⟨(y (0 : Fin 2)).val, h⟩ (y (1 : Fin 2)))
  else (k0_pay4 (k0_pay3 x0 x2) : FVec Ideal S1024x2048 .bf16) (ix2 ⟨(y (0 : Fin 2)).val - 16, by have : (y (0 : Fin 2)).val < 1040 := (y (0 : Fin 2)).isLt; omega⟩ (y (1 : Fin 2)))

theorem scratch_eq :
    View.canon (kernelRun0_A.sl.HS0_2 c i arg2 harg2 arg3 harg3 arg4 harg4 x0 x1 x2) = rowsOf (BitVec.ofNat 32 (i 0)) x0 x1 x2 := by
  unfold kernelRun0_A.sl.HS0_2 kernelRun0_A.sl.r_1
  have e0 := full_unread arg2 harg2 x0 inb_S1024x2048_S1024x2048_0_0
  have e1 := full_unread arg3 harg3 x1 inb_S16x2048_S16x2048_0_0
  have e2 := full_unread arg4 harg4 x2 inb_S1x2048_S1x2048_0_0
  rw [e0, e1, e2]
  funext y
  have y0 : (y (0 : Fin 2)).val < 1040 := (y (0 : Fin 2)).isLt
  unfold rowsOf
  by_cases h : (y (0 : Fin 2)).val < 16
  · rw [dif_pos h, View.canon_cons_of_not_mem]
    · have ey : (Rect.unit (s := S1040x2048) ![0, 0] S16x2048.size inb_S1040x2048_S16x2048_0_0).emb (ix2 (⟨(y (0 : Fin 2)).val, h⟩ : Fin 16) (y (1 : Fin 2) : Fin 2048)) = y := by
        funext b; refine Fin.ext ?_
        fin_cases b
        · show 0 + 1 * (y (0 : Fin 2)).val = (y (0 : Fin 2)).val
          omega
        · show 0 + 1 * (y (1 : Fin 2)).val = (y (1 : Fin 2)).val
          omega
      refine (congrArg (View.canon _) ey.symm).trans ?_
      exact View.canon_cons_emb _ _ _ _
    · intro hm
      have h0 := ((Rect.mem_set_unit (inb := inb_S1040x2048_S1024x2048_16_0)).mp hm (0 : Fin 2)).1
      have : 16 ≤ (y (0 : Fin 2)).val := h0
      omega
  · rw [dif_neg h]
    have ey : (Rect.unit (s := S1040x2048) ![16, 0] S1024x2048.size inb_S1040x2048_S1024x2048_16_0).emb (ix2 (⟨(y (0 : Fin 2)).val - 16, by omega⟩ : Fin 1024) (y (1 : Fin 2) : Fin 2048)) = y := by
      funext b; refine Fin.ext ?_
      fin_cases b
      · show 16 + 1 * ((y (0 : Fin 2)).val - 16) = (y (0 : Fin 2)).val
        omega
      · show 0 + 1 * (y (1 : Fin 2)).val = (y (1 : Fin 2)).val
        omega
    refine (congrArg (View.canon _) ey.symm).trans ?_
    exact View.canon_cons_emb _ _ _ _

theorem outA_eq (hc0 : cond0_0 i) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
      = addTo x3 x4 x5 x6 x7 x8 x9 (rowsOf (BitVec.ofNat 32 (i 0)) x0 x1 x2) x0 := by
  unfold out0_A_10 kernelRun0_A
  rw [View.read_writes_junk_eq_canon]
  dsimp only
  have ev3 : kernelRun0_A.sl.v3 c i arg2 harg2 arg3 harg3 arg4 harg4 arg13 x0 x1 x2 = rowsOf (BitVec.ofNat 32 (i 0)) x0 x1 x2 := by
    unfold kernelRun0_A.sl.v3
    rw [View.readCov_eq_canon', scratch_eq]
    funext y
    refine congrArg _ (funext fun b => Fin.ext ?_)
    fin_cases b
    · show 0 + 1 * (y (0 : Fin 2)).val = (y (0 : Fin 2)).val
      omega
    · show 0 + 1 * (y (1 : Fin 2)).val = (y (1 : Fin 2)).val
      omega
  have ev55 : kernelRun0_A.sl.v55 c arg2 harg2 arg12 x0 = x0 := by
    unfold kernelRun0_A.sl.v55 kernelRun0_A.sl.H10_1 kernelRun0_A.sl.r
    rw [full_unread arg2 harg2 x0 inb_S1024x2048_S1024x2048_0_0]
    exact View.readCov_unit_zero (S := S1024x2048) _ (View.eq_zero_of_forall (by decide)) _ _
  unfold kernelRun0_A.sl.r_2 kernelRun0_A.sl.r_3 kernelRun0_A.sl.r_4 addTo
  rw [ev3, ev55]
  refine (View.canon_cons_unit_zero (S := S1024x2048) (View.eq_zero_of_forall (by decide)) _ _ _).trans ?_
  rw [← row_unread arg7 harg7 x5 0 inb_S3x512_S1x512_0_0, ← row_unread arg7 harg7 x5 1 inb_S3x512_S1x512_1_0, ← row_unread arg7 harg7 x5 2 inb_S3x512_S1x512_2_0,
    ← row_unread arg8 harg8 x6 0 inb_S3x512_S1x512_0_0, ← row_unread arg8 harg8 x6 1 inb_S3x512_S1x512_1_0, ← row_unread arg8 harg8 x6 2 inb_S3x512_S1x512_2_0]
  have e3 := full_unread arg5 harg5 x3 inb_S2048x512_S2048x512_0_0
  have e4 := full_unread arg6 harg6 x4 inb_S2048x512_S2048x512_0_0
  have e7 := full_unread arg9 harg9 x7 inb_S1x512_S1x512_0_0
  have e8 := full_unread arg10 harg10 x8 inb_S1x512_S1x512_0_0
  have e9 := full_unread arg11 harg11 x9 inb_S512x2048_S512x2048_0_0
  simp only [Fin.val_zero, Fin.val_one, Fin.val_two]
  rw [e3, e4, e7, e8, e9]

theorem soutA_eq (hc0 : cond0_0 i) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
      = rowsOf (BitVec.ofNat 32 (i 0)) x0 x1 x2 := by
  unfold sout0_A_0 kernelRun0_A
  rw [View.read_writes_junk_eq_canon]
  dsimp only
  exact scratch_eq c i arg2 harg2 arg3 harg3 arg4 harg4 x0 x1 x2

end Cert.FfnIdeal.Ffn

end
-- ==== Proof.Ffn.Traj.lean ====
/- What the feed-forward kernel holds after each point, and the array it leaves. -/
module

public import proofs.«01_k».proof.Proof.Ffn.Reads
public import proofs.«01_k».proof.Proof.Ffn.Block

@[expose] public section

set_option maxRecDepth 16384

noncomputable section

namespace Cert.FfnIdeal.Ffn

open Cert.FfnIdeal Cert.FfnIdeal.Gen
open Idealize.ShloMosaic Idealize.ShloMosaic.TcCoe Idealize.SL.Sem

variable (m : (ℓ : Loc nD τ sig) → Buf (Elt Ideal) ℓ) (c : Dev nD)

/-- Token `s`, normalised. -/
def nrm (s : Fin 16384) (d : Fin 2048) : EReal := normed (fun e => aX m c (ix2 s e)) (fun e => aG m c (ix1 e)) d

/-- Row `r` of a block with the sixteen rows before it; none are before the first block. -/
def hRow (q : ℕ) (r : ℕ) (d : Fin 2048) : EReal := if q = 0 ∧ r < 16 then 0 else nrm m c (tokH q r) d

/-- A column of the first product on row `r`. -/
def up (q : ℕ) (r : ℕ) (k : Fin 11264) : EReal := ∑ d : Fin 2048, hRow m c q r d * aUp m c (ix2 d k)

/-- A column after the three taps. -/
def tapped (q : ℕ) (r : ℕ) (k : Fin 11264) : EReal :=
  aOff m c (ix1 k) + (aTap m c (ix2 0 k) * up m c q (r + 14) k + aTap m c (ix2 1 k) * up m c q (r + 15) k + aTap m c (ix2 2 k) * up m c q (r + 16) k)

/-- A slab's addition to an entry of the result. -/
def slab (q : ℕ) (r : ℕ) (d : Fin 2048) (f : ℕ) : EReal :=
  ∑ k : Fin 512, act (tapped m c q r (colG f k)) (tapped m c q r (colV f k)) * aDn m c (ix2 (rowD f k) d)

theorem addTo_at (t : Fin cfg0.N) (h : Vec Ideal S1040x2048 .bf16) (o : Vec Ideal S1024x2048 .f32) (q : ℕ)
    (hh : ∀ (r : Fin 1040) (d : Fin 2048), (h : S1040x2048.Idx → EReal) (ix2 r d) = hRow m c q r.val d) (r : Fin 1024) (d : Fin 2048) :
    (addTo (iblk m c (3 : Fin 11) t) (iblk m c (4 : Fin 11) t) (iblk m c (5 : Fin 11) t) (iblk m c (6 : Fin 11) t) (iblk m c (7 : Fin 11) t) (iblk m c (8 : Fin 11) t) (iblk m c (9 : Fin 11) t) h o : S1024x2048.Idx → EReal) (ix2 r d)
      = (o : S1024x2048.Idx → EReal) (ix2 r d) + slab m c q r.val d (t.val % 11) := by
  have hu : ∀ (r : Fin 1040) (k : Fin 512), (∑ d : Fin 2048, (h : S1040x2048.Idx → EReal) (ix2 r d) * (iblk m c (3 : Fin 11) t : S2048x512.Idx → EReal) (ix2 d k)) = up m c q r.val (colG (t.val % 11) k) := fun r k => by
    unfold up
    exact Finset.sum_congr rfl fun d _ => by rw [hh, iblk3_at]
  have hv : ∀ (r : Fin 1040) (k : Fin 512), (∑ d : Fin 2048, (h : S1040x2048.Idx → EReal) (ix2 r d) * (iblk m c (4 : Fin 11) t : S2048x512.Idx → EReal) (ix2 d k)) = up m c q r.val (colV (t.val % 11) k) := fun r k => by
    unfold up
    exact Finset.sum_congr rfl fun d _ => by rw [hh, iblk4_at]
  have r5 : ∀ (j : Fin 3) (k : Fin 512), (row (iblk m c (5 : Fin 11) t) j : S1x512.Idx → EReal) (ix2 0 k) = aTap m c (ix2 j (colG (t.val % 11) k)) := fun j k => iblk5_at m c t j k
  have r6 : ∀ (j : Fin 3) (k : Fin 512), (row (iblk m c (6 : Fin 11) t) j : S1x512.Idx → EReal) (ix2 0 k) = aTap m c (ix2 j (colV (t.val % 11) k)) := fun j k => iblk6_at m c t j k
  refine (pay1_at _ _ _ _ _ _ _ _ r d).trans (congrArg (_ + ·) (Finset.sum_congr rfl fun k _ => ?_))
  refine congr (congrArg (· * ·) (congr (congrArg act ?_) ?_)) (iblk9_at m c t k d)
  · refine (pay5_at _ _ _ _ _ _ r k).trans ?_
    unfold tapped
    rw [hu, hu, hu, r5, r5, r5, iblk7_at]
  · rw [pay7_at _ _ _ _ (by show 2 ≤ r.val + 16; omega), pay6_at, pay6_at]
    unfold tapped
    rw [hv, hv, hv, r6, r6, r6, iblk8_at]
    rfl

theorem rowsOf_at (t : Fin cfg0.N) (r : Fin 1040) (d : Fin 2048) :
    (rowsOf (BitVec.ofNat 32 (grid0.coords t (0 : Fin 2)).val) (iblk m c (0 : Fin 11) t) (iblk m c (1 : Fin 11) t) (iblk m c (2 : Fin 11) t) : S1040x2048.Idx → EReal) (ix2 r d)
      = hRow m c (t.val / 11) r.val d := by
  have ht := lt_N t
  have hc := (win_index t).2.2.2.2.2.2.2.2.2.2
  have e2 : (fun e => (iblk m c (2 : Fin 11) t : S1x2048.Idx → EReal) (ix2 0 e)) = fun e => aG m c (ix1 e) := funext fun e => iblk2_at m c t e
  rw [hc]
  unfold hRow rowsOf
  by_cases h : r.val < 16
  · refine (dif_pos h).trans ?_
    refine (pay2_at _ _ _ _ _).trans ?_
    by_cases hq : t.val / 11 = 0
    · exact (if_pos (by rw [hq])).trans (if_pos ⟨hq, h⟩).symm
    · have hb : BitVec.ofNat 32 (t.val / 11) ≠ 0#32 := fun e => hq (by
        have := congrArg BitVec.toNat e
        simp only [BitVec.toNat_ofNat] at this
        omega)
      refine (if_neg hb).trans (Eq.trans ?_ (if_neg (fun e => hq e.1)).symm)
      unfold nrm
      exact congrFun (congr (congrArg normed (funext fun e => iblk1_at m c t hq ⟨r.val, h⟩ e)) e2) d
  · refine (dif_neg h).trans ?_
    refine (pay4_at _ _ _).trans ((pay3_at _ _ _ _).trans ?_)
    rw [if_neg (fun e => h e.2)]
    unfold nrm
    have ek : tok (t.val / 11) ⟨r.val - 16, by omega⟩ = tokH (t.val / 11) r.val := Fin.ext (by
      show (1024 * (t.val / 11) + (r.val - 16)) % 16384 = (1024 * (t.val / 11) + r.val - 16) % 16384
      congr 1; omega)
    have ex : (fun e => (iblk m c (0 : Fin 11) t : S1024x2048.Idx → EReal) (ix2 ⟨r.val - 16, by omega⟩ e)) = fun e => aX m c (ix2 (tokH (t.val / 11) r.val) e) := funext fun e => by
      rw [iblk0_at, ek]
    exact congrFun (congr (congrArg normed ex) e2) d

/-- After point `n`: the scratch holds the block's rows, the output block its tokens with the slabs so far. -/
theorem after : ∀ (n : ℕ) (hn : n < cfg0.N),
    (∀ (r : Fin 1040) (d : Fin 2048), ((outsAt0 m c n hn).2 : S1040x2048.Idx → EReal) (ix2 r d) = hRow m c (n / 11) r.val d)
    ∧ ∀ (r : Fin 1024) (d : Fin 2048), ((outsAt0 m c n hn).1 : S1024x2048.Idx → EReal) (ix2 r d)
        = aX m c (ix2 (tok (n / 11) r) d) + ∑ f ∈ Finset.range (n % 11 + 1), slab m c (n / 11) r.val d f := by
  intro n
  induction n using Nat.strong_induction_on with
  | _ n ih =>
    intro hn
    have hN : n < 176 := lt_of_lt_of_eq hn N_0
    by_cases h0 : n % 11 = 0
    · have hA := outsAt0_A m c ⟨n, hn⟩ h0
      have e1 := congrArg Prod.fst hA
      have e2 := congrArg Prod.snd hA
      dsimp only at e1 e2
      rw [outA_eq] at e1
      rw [soutA_eq] at e2
      refine ⟨fun r d => (congrFun e2 (ix2 r d)).trans (rowsOf_at m c ⟨n, hn⟩ r d), fun r d => (congrFun e1 (ix2 r d)).trans ?_⟩
      refine (addTo_at m c ⟨n, hn⟩ _ _ (n / 11) (rowsOf_at m c ⟨n, hn⟩) r d).trans ?_
      rw [iblk0_at]
      show aX m c (ix2 (tok (n / 11) r) d) + slab m c (n / 11) r.val d (n % 11) = _
      rw [h0, Finset.sum_range_one]
    · have hB := outsAt0_B m c ⟨n, hn⟩ h0
      have e1 := congrArg Prod.fst hB
      have e2 := congrArg Prod.snd hB
      dsimp only at e1 e2
      rw [outB_eq] at e1
      have hs : ∀ (r : Fin 1040) (d : Fin 2048), ((outsAt0 m c n hn).2 : S1040x2048.Idx → EReal) (ix2 r d) = ((outsAt0 m c (n - 1) (Nat.lt_of_le_of_lt (Nat.sub_le _ _) hn)).2 : S1040x2048.Idx → EReal) (ix2 r d) := fun r d => congrFun e2 (ix2 r d)
      obtain ⟨i2, i1⟩ := ih (n - 1) (by omega) (Nat.lt_of_le_of_lt (Nat.sub_le _ _) hn)
      have hq : (n - 1) / 11 = n / 11 := by omega
      have hf : (n - 1) % 11 + 1 = n % 11 := by omega
      rw [hq] at i1 i2
      rw [hf] at i1
      refine ⟨fun r d => (hs r d).trans (i2 r d), fun r d => (congrFun e1 (ix2 r d)).trans ?_⟩
      refine (addTo_at m c ⟨n, hn⟩ _ _ (n / 11) i2 r d).trans ?_
      rw [i1, Finset.sum_range_succ, add_assoc]

/-- An entry of the array the kernel leaves. -/
theorem G10_at (s : Fin 16384) (d : Fin 2048) :
    (Value.G10 m c : S16384x2048.Idx → EReal) (ix2 s d)
      = aX m c (ix2 s d) + ∑ f ∈ Finset.range 11, slab m c (s.val / 1024) (s.val % 1024) d f := by
  have hd : d.val / 2048 = 0 := Nat.div_eq_of_lt d.isLt
  have hp : Value.pt10Of (ix2 s d) = 11 * (s.val / 1024) + 10 := by
    show 11 * (1 * (s.val / 1024 - 0) + 1 * (d.val / 2048 - 0)) + 10 = _
    rw [hd]; omega
  have hlt : Value.pt10Of (ix2 s d) < cfg0.N := by rw [hp]; exact lt_of_lt_of_eq (by omega) N_0.symm
  have hl : Value.loc10Of (ix2 s d) = ix2 (⟨s.val % 1024, Nat.mod_lt _ (by omega)⟩ : Fin 1024) d := funext fun a => Fin.ext (by
    fin_cases a
    · rfl
    · exact Nat.mod_eq_of_lt d.isLt)
  unfold Value.G10
  rw [dif_pos hlt, ← Value.outsAt0_sweep m c _ hlt, hl]
  refine ((after m c _ hlt).2 _ d).trans ?_
  have e1 : Value.pt10Of (ix2 s d) / 11 = s.val / 1024 := by rw [hp]; omega
  have e2 : Value.pt10Of (ix2 s d) % 11 + 1 = 11 := by rw [hp]; omega
  have e3 : tok (s.val / 1024) ⟨s.val % 1024, Nat.mod_lt _ (by omega)⟩ = s := Fin.ext (by
    show (1024 * (s.val / 1024) + s.val % 1024) % 16384 = s.val
    have := s.isLt; omega)
  rw [e1, e2, e3]

end Cert.FfnIdeal.Ffn

end
-- ==== Proof.Ffn.Equal.lean ====
/- The feed-forward reference read at an index, and its array the kernel's. -/
module

public import proofs.«01_k».proof.Proof.Ffn.Traj
public import proofs.«01_k».proof.Proof.Gen.FfnReferenceIdeal.Read

@[expose] public section

set_option maxRecDepth 16384

noncomputable section

namespace Cert.FfnIdeal.Ffn

open Cert.FfnIdeal Cert.FfnIdeal.Gen
open Idealize.ShloMosaic Idealize.ShloMosaic.TcCoe Idealize.SL.Sem
open Cert.FfnReferenceIdeal.Read

theorem zero_lit : (FloatOps.ofBits (F := Ideal) .f32 0x00000000#32 : EReal) = 0 := by
  simp [FloatOps.ofBits, Ideal.ofBits, Ideal.ieee, -EReal.coe_mul]

theorem one_lit : (FloatOps.ofBits (F := Ideal) .f32 0x3F800000#32 : EReal) = 1 := by
  simp [FloatOps.ofBits, Ideal.ofBits, Ideal.ieee, -EReal.coe_mul]
  norm_num

variable (m : (ℓ : Loc nD τ sig) → Buf (Elt Ideal) ℓ) (c : Dev nD)

theorem ref_norm (s : Fin 16384) (d : Fin 2048) :
    (val_main_v12 (F := Ideal) (aX m c) (aG m c) (ix2 s d) : EReal) = nrm m c s d := by
  have e1 : ∀ k, idx_main_v1 (idx_main_v2 (idx_main_v8 (ix2 s d))) k = ix2 s k := fun k => funext fun a => by fin_cases a <;> rfl
  have e2 : idx_main_v10 (idx_main_v11 (ix2 s d)) = ix1 d := funext fun a => by fin_cases a; rfl
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply, val_main_cst_apply, val_main_cst_0_apply, val_main_cst_1_apply, e2]
  simp only [e1, val_main_v0_apply]
  rw [zero_lit]
  unfold nrm normed
  show aX m c (ix2 s d) * Ideal.rsqrt (Ideal.div (0 + ∑ k : Fin 2048, aX m c (ix2 s k) * aX m c (ix2 s k)) _ + _) * aG m c (ix1 d) = _
  rw [zero_add]

/-- The first product's column `k` at token `s`. -/
def upAt (s : Fin 16384) (k : Fin 11264) : EReal := ∑ d : Fin 2048, nrm m c s d * aUp m c (ix2 d k)

theorem ref_up (s : Fin 16384) (k : Fin 11264) :
    (val_main_v13 (F := Ideal) (aX m c) (aG m c) (aUp m c) (ix2 s k) : EReal) = upAt m c s k := by
  rw [val_main_v13_apply]
  unfold upAt
  refine Finset.sum_congr rfl fun d _ => ?_
  have el : lidx_main_v13 (ix2 s k) d = ix2 s d := funext fun a => by fin_cases a <;> rfl
  have er : ridx_main_v13 (ix2 s k) d = ix2 d k := funext fun a => by fin_cases a <;> rfl
  rw [el, er, ref_norm]

/-- The same two rows later, with zeros in the first two. -/
def upPad (r : ℕ) (k : Fin 11264) : EReal := if r < 2 then 0 else upAt m c ⟨(r - 2) % 16384, Nat.mod_lt _ (by omega)⟩ k

theorem ref_pad (r : Fin 16386) (k : Fin 11264) :
    (val_main_v14 (F := Ideal) (aX m c) (aG m c) (aUp m c) (ix2 r k) : EReal) = upPad m c r.val k := by
  unfold val_main_v14 upPad
  by_cases h : r.val < 2
  · rw [if_pos h]
    refine (pad_apply_of_not_inside _ _ _ _ _ _ _ _ (0 : Fin 2) ?_).trans ?_
    · rintro ⟨h1, -⟩
      have : 2 ≤ r.val := h1
      omega
    · rw [val_main_call0_v0_apply, val_main_c_apply]
      show ((((0#32 : BitVec 32).toInt : ℝ)) : EReal) = 0
      simp
  · rw [if_neg h]
    have hr := r.isLt
    refine (pad_apply_of_inside _ _ _ _ _ _ _ _ (ix2 (⟨(r.val - 2) % 16384, Nat.mod_lt _ (by omega)⟩ : Fin 16384) k) ?_).trans (ref_up m c _ k)
    intro a
    fin_cases a
    · show r.val = 2 + (r.val - 2) % 16384 * (0 + 1)
      omega
    · show k.val = 0 + k.val * (0 + 1)
      omega

/-- A column after the three taps, at token `s`. -/
def tapAt (s : ℕ) (k : Fin 11264) : EReal :=
  aOff m c (ix1 k) + (aTap m c (ix2 0 k) * upPad m c s k + aTap m c (ix2 1 k) * upPad m c (1 + s) k + aTap m c (ix2 2 k) * upPad m c (2 + s) k)

theorem ref_tap (s : Fin 16384) (k : Fin 11264) :
    (val_main_v39 (F := Ideal) (aX m c) (aG m c) (aUp m c) (aTap m c) (aOff m c) (ix2 s k) : EReal) = tapAt m c s.val k := by
  have eo : idx_main_v37 (idx_main_v38 (ix2 s k)) = ix1 k := funext fun a => by fin_cases a; rfl
  have e0 : idx_main_v15 (idx_main_v16 (idx_main_v18 (idx_main_v19 (ix2 s k)))) = ix2 (0 : Fin 3) k := funext fun a => Fin.ext (by
    fin_cases a
    · rfl
    · exact Nat.mod_eq_of_lt k.isLt)
  have e1 : idx_main_v23 (idx_main_v24 (idx_main_v26 (idx_main_v27 (ix2 s k)))) = ix2 (1 : Fin 3) k := funext fun a => Fin.ext (by
    fin_cases a
    · rfl
    · exact Nat.mod_eq_of_lt k.isLt)
  have e2 : idx_main_v30 (idx_main_v31 (idx_main_v33 (idx_main_v34 (ix2 s k)))) = ix2 (2 : Fin 3) k := funext fun a => Fin.ext (by
    fin_cases a
    · rfl
    · exact Nat.mod_eq_of_lt k.isLt)
  have hs := s.isLt
  have p0 : idx_main_v17 (ix2 s k) = ix2 (⟨s.val, by omega⟩ : Fin 16386) k := funext fun a => by fin_cases a <;> rfl
  have p1 : idx_main_v25 (ix2 s k) = ix2 (⟨1 + s.val, by omega⟩ : Fin 16386) k := funext fun a => by fin_cases a <;> rfl
  have p2 : idx_main_v32 (ix2 s k) = ix2 (⟨2 + s.val, by omega⟩ : Fin 16386) k := funext fun a => by fin_cases a <;> rfl
  rw [val_main_v39_apply, val_main_v38_apply, val_main_v37_apply, val_main_v36_apply, val_main_v29_apply, val_main_v22_apply, val_main_v21_apply, val_main_cst_2_apply,
    val_main_v20_apply, val_main_v19_apply, val_main_v18_apply, val_main_v16_apply, val_main_v15_apply, val_main_v17_apply,
    val_main_v28_apply, val_main_v27_apply, val_main_v26_apply, val_main_v24_apply, val_main_v23_apply, val_main_v25_apply,
    val_main_v35_apply, val_main_v34_apply, val_main_v33_apply, val_main_v31_apply, val_main_v30_apply, val_main_v32_apply,
    eo, e0, e1, e2, p0, p1, p2, ref_pad, ref_pad, ref_pad, zero_lit]
  unfold tapAt
  show aOff m c (ix1 k) + (0 + aTap m c (ix2 0 k) * upPad m c s.val k + aTap m c (ix2 1 k) * upPad m c (1 + s.val) k + aTap m c (ix2 2 k) * upPad m c (2 + s.val) k) = _
  rw [zero_add]

theorem ref_act (s : Fin 16384) (k : Fin 5632) :
    (val_main_v43 (F := Ideal) (aX m c) (aG m c) (aUp m c) (aTap m c) (aOff m c) (ix2 s k) : EReal)
      = act (tapAt m c s.val ⟨k.val, by omega⟩) (tapAt m c s.val ⟨5632 + k.val, by omega⟩) := by
  have eg : idx_main_v40 (ix2 s k) = ix2 s (⟨k.val, by omega⟩ : Fin 11264) := funext fun a => by fin_cases a <;> rfl
  have ev : idx_main_v41 (ix2 s k) = ix2 s (⟨5632 + k.val, by omega⟩ : Fin 11264) := funext fun a => by fin_cases a <;> rfl
  rw [val_main_v43_apply, val_main_v42_apply, val_main_call1_v5_apply, val_main_call1_v4_apply, val_main_call1_cst_0_apply, val_main_call1_v3_apply,
    val_main_call1_v2_apply, val_main_call1_cst_apply, val_main_call1_v1_apply, val_main_call1_v0_apply, val_main_v40_apply, val_main_v41_apply, eg, ev,
    ref_tap, ref_tap, one_lit]
  unfold act
  rw [zero_sub]
  rfl

/-- A product's column is the reference's. -/
theorem up_eq (s : Fin 16384) (j : ℕ) (hj : j ≤ 2) (k : Fin 11264) :
    up m c (s.val / 1024) (s.val % 1024 + (14 + j)) k = upPad m c (j + s.val) k := by
  have hs := s.isLt
  unfold up upPad hRow
  by_cases h : j + s.val < 2
  · rw [if_pos h]
    refine Finset.sum_eq_zero fun d _ => ?_
    rw [if_pos (by constructor <;> omega), zero_mul]
  · rw [if_neg h]
    unfold upAt
    refine Finset.sum_congr rfl fun d _ => ?_
    rw [if_neg (by omega)]
    refine congrArg (· * _) (congrArg (nrm m c · d) (Fin.ext ?_))
    show (1024 * (s.val / 1024) + (s.val % 1024 + (14 + j)) - 16) % 16384 = (j + s.val - 2) % 16384
    congr 1; omega

theorem tapped_eq (s : Fin 16384) (k : Fin 11264) : tapped m c (s.val / 1024) (s.val % 1024) k = tapAt m c s.val k := by
  have h0 := up_eq m c s 0 (by omega) k
  have h1 := up_eq m c s 1 (by omega) k
  have h2 := up_eq m c s 2 (by omega) k
  rw [Nat.zero_add] at h0
  unfold tapped tapAt
  rw [← h0, ← h1, ← h2]

/-- Sums over the slabs are one sum. -/
theorem sum_slabs (g : ℕ → EReal) (b : ℕ) : ∀ a : ℕ, (∑ f ∈ Finset.range a, ∑ k : Fin b, g (b * f + k.val)) = ∑ n ∈ Finset.range (b * a), g n
  | 0 => by simp
  | a + 1 => by
    rw [Finset.sum_range_succ, sum_slabs g b a, Nat.mul_succ, Finset.sum_range_add, Finset.sum_range fun x => g (b * a + x)]

theorem G_eq_at (s : Fin 16384) (d : Fin 2048) :
    (val_main_v45 (F := Ideal) (aX m c) (aG m c) (aUp m c) (aTap m c) (aOff m c) (aDn m c) (ix2 s d) : EReal)
      = aX m c (ix2 s d) + ∑ f ∈ Finset.range 11, slab m c (s.val / 1024) (s.val % 1024) d f := by
  rw [val_main_v45_apply, val_main_v44_apply]
  refine congrArg (aX m c (ix2 s d) + ·) ?_
  have e := sum_slabs (fun n => act (tapAt m c s.val ⟨n % 5632, by omega⟩) (tapAt m c s.val ⟨5632 + n % 5632, by omega⟩) * aDn m c (ix2 ⟨n % 5632, Nat.mod_lt _ (by omega)⟩ d)) 512 11
  have es : (∑ f ∈ Finset.range 11, slab m c (s.val / 1024) (s.val % 1024) d f)
      = ∑ f ∈ Finset.range 11, ∑ k : Fin 512, act (tapAt m c s.val ⟨(512 * f + k.val) % 5632, by omega⟩) (tapAt m c s.val ⟨5632 + (512 * f + k.val) % 5632, by omega⟩) * aDn m c (ix2 ⟨(512 * f + k.val) % 5632, Nat.mod_lt _ (by omega)⟩ d) := by
    refine Finset.sum_congr rfl fun f _ => ?_
    unfold slab
    refine Finset.sum_congr rfl fun k _ => ?_
    rw [tapped_eq, tapped_eq]
  rw [es]
  refine Eq.trans ?_ e.symm
  rw [Finset.sum_range]
  refine Finset.sum_congr rfl fun k _ => ?_
  have el : lidx_main_v44 (ix2 s d) k = ix2 s k := funext fun a => by fin_cases a <;> rfl
  have er : ridx_main_v44 (ix2 s d) k = ix2 k d := funext fun a => by fin_cases a <;> rfl
  have ek : k.val % 5632 = k.val := Nat.mod_eq_of_lt k.isLt
  rw [el, er, ref_act]
  simp only [ek]

/-- The reference's array is the kernel's. -/
theorem G_eq : val_main_v45 (F := Ideal) (aX m c) (aG m c) (aUp m c) (aTap m c) (aOff m c) (aDn m c) = Value.G10 m c := by
  refine funext fun (i : S16384x2048.Idx) => ?_
  have ei : i = ix2 (i (0 : Fin 2)) (i (1 : Fin 2)) := funext fun a => by fin_cases a <;> rfl
  have key : ∀ (s : Fin 16384) (d : Fin 2048), _ := fun s d => (G_eq_at m c s d).trans (G10_at m c s d).symm
  have := key (i (0 : Fin 2)) (i (1 : Fin 2))
  rw [ei]
  exact this

end Cert.FfnIdeal.Ffn

end
-- ==== Proof.Outproj.Value.lean ====
/- The output projection: the array the kernel leaves, and the reference's. -/
module

public import proofs.«01_k».proof.Proof.Gen.OutprojIdeal.Value
public import proofs.«01_k».proof.Proof.Gen.OutprojReferenceIdeal.Read
public import Idealize.ShloMosaic.Lib.Pointwise
public import Idealize.ShloMosaic.Lib.KernelVsHost
public import Idealize.ShloMosaic.Lib.StableHlo.Run
public import Idealize.ShloMosaic.Lib.Pipeline.ValueKit.Basic
public import Idealize.ShloMosaic.Lib.Pipeline.ValueKit.Geometry
public import Idealize.ShloMosaic.PureOps.Ideal.Laws

@[expose] public section

set_option maxRecDepth 16384

noncomputable section

namespace Cert.OutprojIdeal.Outproj

open Cert.OutprojIdeal Cert.OutprojIdeal.Gen
open Idealize.ShloMosaic Idealize.ShloMosaic.TcCoe Idealize.SL.Sem

variable (m : (ℓ : Loc nD τ sig) → Buf (Elt Ideal) ℓ) (c : Dev nD)

/-- The two halves of the mixed tokens, the weights, the tokens. -/
abbrev aP : S16384x1024.Idx → EReal := m (c, main_arg0)
abbrev aA : S16384x1024.Idx → EReal := m (c, main_arg1)
abbrev aW : S2048x2048.Idx → EReal := m (c, main_arg2)
abbrev aX : S16384x2048.Idx → EReal := m (c, main_arg3)

/-- An entry of the result: the token's, and each half's product with its half of the weights. -/
def G : S16384x2048.Idx → EReal := fun i =>
  aX m c (ix2 (i 0) (i 1))
    + ((∑ k : Fin 1024, aP m c (ix2 (i 0) k) * aW m c (ix2 ⟨k.val, by omega⟩ (i 1)))
      + ∑ k : Fin 1024, aA m c (ix2 (i 0) k) * aW m c (ix2 ⟨1024 + k.val, by omega⟩ (i 1)))

theorem pay1_at (yp ya : FVec Ideal S512x1024 .bf16) (wp wa : FVec Ideal S1024x2048 .bf16) (x : FVec Ideal S512x2048 .f32) (r : Fin 512) (d : Fin 2048) :
    (k0_pay1 yp wp ya wa x : FVec Ideal S512x2048 .f32) (ix2 r d)
      = x (ix2 r d) + ((∑ k : Fin 1024, yp (ix2 r k) * wp (ix2 k d)) + ∑ k : Fin 1024, ya (ix2 r k) * wa (ix2 k d)) := by
  pointwise [k0_pay1]

theorem win_index : ∀ t : Fin cfg0.N,
    ((cfg0.win (0 : Fin 6)).index t (0 : Fin 2) = t.val ∧ (cfg0.win (0 : Fin 6)).index t (1 : Fin 2) = 0)
    ∧ ((cfg0.win (1 : Fin 6)).index t (0 : Fin 2) = t.val ∧ (cfg0.win (1 : Fin 6)).index t (1 : Fin 2) = 0)
    ∧ ((cfg0.win (2 : Fin 6)).index t (0 : Fin 2) = 0 ∧ (cfg0.win (2 : Fin 6)).index t (1 : Fin 2) = 0)
    ∧ ((cfg0.win (3 : Fin 6)).index t (0 : Fin 2) = 1 ∧ (cfg0.win (3 : Fin 6)).index t (1 : Fin 2) = 0)
    ∧ ((cfg0.win (4 : Fin 6)).index t (0 : Fin 2) = t.val ∧ (cfg0.win (4 : Fin 6)).index t (1 : Fin 2) = 0)
    ∧ ((cfg0.win (5 : Fin 6)).index t (0 : Fin 2) = t.val ∧ (cfg0.win (5 : Fin 6)).index t (1 : Fin 2) = 0)
    ∧ ((cfg0.win (5 : Fin 6)).xsize (grid0.coords t) (0 : Fin 2) = 512 ∧ (cfg0.win (5 : Fin 6)).xsize (grid0.coords t) (1 : Fin 2) = 2048)
    ∧ (cfg0.win (5 : Fin 6)).flush t = true := by decide +kernel

theorem V_w : V m c main_v0 = aW m c := by
  unfold V
  after_results
  rfl

/-- Row `r` of block `b`. -/
def tok (b : Fin cfg0.N) (r : Fin 512) : Fin 16384 := ⟨512 * b.val + r.val, by have : b.val < 32 := b.isLt; omega⟩

theorem iblk0_at (t : Fin cfg0.N) (r : Fin 512) (k : Fin 1024) :
    (iblk m c (0 : Fin 6) t : S512x1024.Idx → EReal) (ix2 r k) = aP m c (ix2 (tok t r) k) := by
  have hi := (win_index t).1
  unfold iblk
  rw [View.read_apply]
  show V m c main_arg0 _ = _
  rw [V_main_arg0]
  refine congrArg (aP m c) (funext fun a => Fin.ext ?_)
  refine ((cfg0.win (0 : Fin 6)).rect_emb_val t _ a).trans ?_
  fin_cases a
  · show (cfg0.win (0 : Fin 6)).index t (0 : Fin 2) * 512 + r.val = 512 * t.val + r.val
    rw [hi.1]; omega
  · show (cfg0.win (0 : Fin 6)).index t (1 : Fin 2) * 1024 + k.val = k.val
    rw [hi.2]; omega
theorem iblk1_at (t : Fin cfg0.N) (r : Fin 512) (k : Fin 1024) :
    (iblk m c (1 : Fin 6) t : S512x1024.Idx → EReal) (ix2 r k) = aA m c (ix2 (tok t r) k) := by
  have hi := (win_index t).2.1
  unfold iblk
  rw [View.read_apply]
  show V m c main_arg1 _ = _
  rw [V_main_arg1]
  refine congrArg (aA m c) (funext fun a => Fin.ext ?_)
  refine ((cfg0.win (1 : Fin 6)).rect_emb_val t _ a).trans ?_
  fin_cases a
  · show (cfg0.win (1 : Fin 6)).index t (0 : Fin 2) * 512 + r.val = 512 * t.val + r.val
    rw [hi.1]; omega
  · show (cfg0.win (1 : Fin 6)).index t (1 : Fin 2) * 1024 + k.val = k.val
    rw [hi.2]; omega
theorem iblk2_at (t : Fin cfg0.N) (k : Fin 1024) (d : Fin 2048) :
    (iblk m c (2 : Fin 6) t : S1024x2048.Idx → EReal) (ix2 k d) = aW m c (ix2 ⟨k.val, by omega⟩ d) := by
  have hi := (win_index t).2.2.1
  unfold iblk
  rw [View.read_apply]
  show V m c main_v0 _ = _
  rw [V_w]
  refine congrArg (aW m c) (funext fun a => Fin.ext ?_)
  refine ((cfg0.win (2 : Fin 6)).rect_emb_val t _ a).trans ?_
  fin_cases a
  · show (cfg0.win (2 : Fin 6)).index t (0 : Fin 2) * 1024 + k.val = k.val
    rw [hi.1]; omega
  · show (cfg0.win (2 : Fin 6)).index t (1 : Fin 2) * 2048 + d.val = d.val
    rw [hi.2]; omega
theorem iblk3_at (t : Fin cfg0.N) (k : Fin 1024) (d : Fin 2048) :
    (iblk m c (3 : Fin 6) t : S1024x2048.Idx → EReal) (ix2 k d) = aW m c (ix2 ⟨1024 + k.val, by omega⟩ d) := by
  have hi := (win_index t).2.2.2.1
  unfold iblk
  rw [View.read_apply]
  show V m c main_v0 _ = _
  rw [V_w]
  refine congrArg (aW m c) (funext fun a => Fin.ext ?_)
  refine ((cfg0.win (3 : Fin 6)).rect_emb_val t _ a).trans ?_
  fin_cases a
  · show (cfg0.win (3 : Fin 6)).index t (0 : Fin 2) * 1024 + k.val = 1024 + k.val
    rw [hi.1]
  · show (cfg0.win (3 : Fin 6)).index t (1 : Fin 2) * 2048 + d.val = d.val
    rw [hi.2]; omega
theorem iblk4_at (t : Fin cfg0.N) (r : Fin 512) (d : Fin 2048) :
    (iblk m c (4 : Fin 6) t : S512x2048.Idx → EReal) (ix2 r d) = aX m c (ix2 (tok t r) d) := by
  have hi := (win_index t).2.2.2.2.1
  unfold iblk
  rw [View.read_apply]
  show V m c main_arg3 _ = _
  rw [V_main_arg3]
  refine congrArg (aX m c) (funext fun a => Fin.ext ?_)
  refine ((cfg0.win (4 : Fin 6)).rect_emb_val t _ a).trans ?_
  fin_cases a
  · show (cfg0.win (4 : Fin 6)).index t (0 : Fin 2) * 512 + r.val = 512 * t.val + r.val
    rw [hi.1]; omega
  · show (cfg0.win (4 : Fin 6)).index t (1 : Fin 2) * 2048 + d.val = d.val
    rw [hi.2]; omega

theorem out_eq (x0 x1 : Vec Ideal S512x1024 .bf16) (x2 x3 : Vec Ideal S1024x2048 .bf16) (x4 : Vec Ideal S512x2048 .f32) :
    out0_5 x0 x1 x2 x3 x4 = k0_pay1 x0 x2 x1 x3 x4 := by
  have z : (![0, 0] : Fin 2 → ℕ) = fun _ => 0 := by decide
  unfold out0_5
  refine (View.canon_unit_zero (S := S512x2048) z _ _).trans ?_
  have e0 : View.ld x0 r0_0 = x0 := View.ld_unit_zero (S := S512x1024) z _ _
  have e1 : View.ld x1 r0_0 = x1 := View.ld_unit_zero (S := S512x1024) z _ _
  have e2 : View.ld x2 r0_1 = x2 := View.ld_unit_zero (S := S1024x2048) z _ _
  have e3 : View.ld x3 r0_1 = x3 := View.ld_unit_zero (S := S1024x2048) z _ _
  have e4 : View.ld x4 r0_2 = x4 := View.ld_unit_zero (S := S512x2048) z _ _
  rw [e0, e1, e2, e3, e4]

theorem cut_at (t : Fin cfg0.N) (X : Vec Ideal S512x2048 .f32) (y : ((cfg0.win (5 : Fin 6)).xblock (grid0.coords t)).Idx) :
    (cfg0.win (5 : Fin 6)).cut (grid0.coords t) X y = X (ix2 (⟨(y (0 : Fin 2)).val, lt_of_lt_of_le (y (0 : Fin 2)).isLt ((cfg0.win (5 : Fin 6)).xsize_le (grid0.coords t) (0 : Fin 2))⟩ : Fin 512) (⟨(y (1 : Fin 2)).val, lt_of_lt_of_le (y (1 : Fin 2)).isLt ((cfg0.win (5 : Fin 6)).xsize_le (grid0.coords t) (1 : Fin 2))⟩ : Fin 2048)) :=
  congrArg X (funext fun a => Fin.ext (by fin_cases a <;> rfl))

theorem arr_out : (dats m 0 c).arrAt (5 : Fin 6) cfg0.N = G m c := by
  refine (dats m 0 c).arrAt_eq_of_cover (5 : Fin 6) (G m c) (fun t hf => ?_) (fun i => ?_)
  · funext y
    rw [View.read_apply]
    have hi := (win_index t).2.2.2.2.2.1
    refine (congrFun (Value.flushed5 m c t) y).trans ((cut_at t _ y).trans ?_)
    rw [out_eq]
    refine (pay1_at _ _ _ _ _ _ _).trans ?_
    have e0 : ((cfg0.win (5 : Fin 6)).blk t).view.emb y (0 : Fin 2) = tok t ⟨(y (0 : Fin 2)).val, lt_of_lt_of_le (y (0 : Fin 2)).isLt ((cfg0.win (5 : Fin 6)).xsize_le (grid0.coords t) (0 : Fin 2))⟩ := Fin.ext (by
      refine ((cfg0.win (5 : Fin 6)).rect_emb_val t y (0 : Fin 2)).trans ?_
      show (cfg0.win (5 : Fin 6)).index t (0 : Fin 2) * 512 + (y (0 : Fin 2)).val = 512 * t.val + (y (0 : Fin 2)).val
      rw [hi.1]; omega)
    have e1 : ((cfg0.win (5 : Fin 6)).blk t).view.emb y (1 : Fin 2) = (⟨(y (1 : Fin 2)).val, lt_of_lt_of_le (y (1 : Fin 2)).isLt ((cfg0.win (5 : Fin 6)).xsize_le (grid0.coords t) (1 : Fin 2))⟩ : Fin 2048) := Fin.ext (by
      refine ((cfg0.win (5 : Fin 6)).rect_emb_val t y (1 : Fin 2)).trans ?_
      show (cfg0.win (5 : Fin 6)).index t (1 : Fin 2) * 2048 + (y (1 : Fin 2)).val = (y (1 : Fin 2)).val
      rw [hi.2]; omega)
    show _ = G m c _
    unfold G
    rw [e0, e1, iblk4_at]
    simp only [iblk0_at, iblk1_at, iblk2_at, iblk3_at]
  · have i0 : (i (0 : Fin 2)).val < 16384 := (i (0 : Fin 2)).isLt
    have i1 : (i (1 : Fin 2)).val < 2048 := (i (1 : Fin 2)).isLt
    have hi := (win_index ⟨(i (0 : Fin 2)).val / 512, by show _ < 32; omega⟩).2.2.2.2.2
    refine ⟨⟨(i (0 : Fin 2)).val / 512, by show _ < 32; omega⟩, hi.2.2, ((cfg0.win (5 : Fin 6)).emb_mem_blk_iff _ i).mpr fun a => ?_⟩
    fin_cases a
    · show (cfg0.win (5 : Fin 6)).index _ (0 : Fin 2) * 512 ≤ (i (0 : Fin 2)).val ∧ (i (0 : Fin 2)).val < (cfg0.win (5 : Fin 6)).index _ (0 : Fin 2) * 512 + (cfg0.win (5 : Fin 6)).xsize (grid0.coords _) (0 : Fin 2)
      rw [hi.1.1, hi.2.1.1]; dsimp only; constructor <;> omega
    · show (cfg0.win (5 : Fin 6)).index _ (1 : Fin 2) * 2048 ≤ (i (1 : Fin 2)).val ∧ (i (1 : Fin 2)).val < (cfg0.win (5 : Fin 6)).index _ (1 : Fin 2) * 2048 + (cfg0.win (5 : Fin 6)).xsize (grid0.coords _) (1 : Fin 2)
      rw [hi.1.2, hi.2.1.2]; dsimp only; constructor <;> omega

/-- A sum over 2048 is a sum over each half. -/
theorem sum_halves (f : Fin 2048 → EReal) :
    (∑ k : Fin 2048, f k) = (∑ k : Fin 1024, f ⟨k.val, by omega⟩) + ∑ k : Fin 1024, f ⟨1024 + k.val, by omega⟩ :=
  Fin.sum_univ_add (a := 1024) (b := 1024) f

theorem ref_left (yp ya : S16384x1024.Idx → EReal) (r : Fin 16384) (k : Fin 1024) :
    Cert.OutprojReferenceIdeal.Read.val_main_v1 (F := Ideal) yp ya (ix2 r ⟨k.val, by omega⟩) = yp (ix2 r k) := by
  rw [Cert.OutprojReferenceIdeal.Read.val_main_v1_apply]
  unfold Cert.OutprojReferenceIdeal.Read.val_main_v0
  refine (concatenate_pair_apply_left (t := Cert.OutprojReferenceIdeal.S16384x2048) (α := EReal) (1 : Fin 2) yp ya Cert.OutprojReferenceIdeal.Gen.concatenates_S16384x1024_S16384x1024_S16384x2048_d1 (ix2 r ⟨k.val, by omega⟩) rfl (ix2 r k) ?_)
  intro b; fin_cases b <;> rfl

theorem ref_right (yp ya : S16384x1024.Idx → EReal) (r : Fin 16384) (k : Fin 1024) :
    Cert.OutprojReferenceIdeal.Read.val_main_v1 (F := Ideal) yp ya (ix2 r ⟨1024 + k.val, by omega⟩) = ya (ix2 r k) := by
  rw [Cert.OutprojReferenceIdeal.Read.val_main_v1_apply]
  unfold Cert.OutprojReferenceIdeal.Read.val_main_v0
  refine (concatenate_pair_apply_right (t := Cert.OutprojReferenceIdeal.S16384x2048) (α := EReal) (1 : Fin 2) yp ya Cert.OutprojReferenceIdeal.Gen.concatenates_S16384x1024_S16384x1024_S16384x2048_d1 (ix2 r ⟨1024 + k.val, by omega⟩) rfl rfl (ix2 r k) ?_ ?_)
  · intro b hb; fin_cases b
    · rfl
    · exact absurd rfl hb
  · show k.val + 1024 = 1024 + k.val
    omega

/-- The reference's array is the kernel's. -/
theorem G_eq : Cert.OutprojReferenceIdeal.Read.val_main_v3 (F := Ideal) (aP m c) (aA m c) (aW m c) (aX m c) = G m c := by
  funext i
  rw [Cert.OutprojReferenceIdeal.Read.val_main_v3_apply, Cert.OutprojReferenceIdeal.Read.val_main_v2_apply, sum_halves]
  have el : ∀ k, Cert.OutprojReferenceIdeal.Read.lidx_main_v2 i k = ix2 (i (0 : Fin 2)) k := fun k => funext fun a => by fin_cases a <;> rfl
  have er : ∀ k, Cert.OutprojReferenceIdeal.Read.ridx_main_v2 i k = ix2 k (i (1 : Fin 2)) := fun k => funext fun a => by fin_cases a <;> rfl
  have ei : i = ix2 (i (0 : Fin 2)) (i (1 : Fin 2)) := funext fun a => by fin_cases a <;> rfl
  simp only [el, er]
  unfold G
  show aX m c i + _ = _
  rw [ei]
  refine congrArg _ (congr (congrArg _ (Finset.sum_congr rfl fun k _ => congrArg (· * _) ?_)) (Finset.sum_congr rfl fun k _ => congrArg (· * _) ?_))
  · exact ref_left (aP m c) (aA m c) _ k
  · exact ref_right (aP m c) (aA m c) _ k

end Cert.OutprojIdeal.Outproj

end
-- ==== Proof.Inproj.KernelIdeal.Base.lean ====
/- The input projection's body run once per case of the column block, on symbolic staging buffers. -/
module

public import proofs.«01_k».proof.Proof.Gen.InprojIdeal.Frame
public import proofs.«01_k».proof.Proof.Gen.InprojIdeal.Skeleton

@[expose] public section

set_option maxRecDepth 16384
set_option Elab.async false

noncomputable section

namespace Cert.InprojIdeal.Hand

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The four cases of the column block -/

/-- The body's conditions at the first column block. -/
abbrev CA (i : grid0.Coords) : Prop := k0_cond1 i = 1#1 ∧ k0_cond2 i = 1#1 ∧ k0_cond3 i = 1#1 ∧ ¬k0_cond4 i = 1#1 ∧ ¬k0_cond5 i = 1#1
/-- At the second. -/
abbrev CB (i : grid0.Coords) : Prop := ¬k0_cond1 i = 1#1 ∧ k0_cond2 i = 1#1 ∧ ¬k0_cond3 i = 1#1 ∧ k0_cond4 i = 1#1 ∧ ¬k0_cond5 i = 1#1
/-- At the third. -/
abbrev CC (i : grid0.Coords) : Prop := ¬k0_cond1 i = 1#1 ∧ ¬k0_cond2 i = 1#1 ∧ k0_cond5 i = 1#1 ∧ k0_cond6 i = 1#1 ∧ ¬k0_cond7 i = 1#1
/-- At the fourth and the fifth. -/
abbrev CD (i : grid0.Coords) : Prop := ¬k0_cond1 i = 1#1 ∧ ¬k0_cond2 i = 1#1 ∧ k0_cond5 i = 1#1 ∧ ¬k0_cond6 i = 1#1 ∧ k0_cond7 i = 1#1

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x1024 .bf16) (harg4 : arg4.IsWhole)
  (arg5 : Memref sig .tc .vmem S2048x1024 .bf16) (harg5 : arg5.IsWhole)
  (arg6 : Memref sig .tc .vmem S2048x128 .bf16) (harg6 : arg6.IsWhole)
  (arg7 : Memref sig .tc .vmem S1x128 .f32) (harg7 : arg7.IsWhole)
  (arg8 : Memref sig .tc .vmem S128x1 .f32) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1024x64 .bf16) (harg11 : arg11.IsWhole)
  (arg12 : Memref sig .tc .vmem S16x1024 .f32) (harg12 : arg12.IsWhole)
  (arg13 : Memref sig .tc .vmem S1024x2048 .bf16) (harg13 : arg13.IsWhole)
  (x0 : Vec F S1024x2048 .f32)
  (x1 : Vec F S1x2048 .f32)
  (x2 : Vec F S2048x1024 .bf16)
  (x3 : Vec F S2048x1024 .bf16)
  (x4 : Vec F S2048x128 .bf16)
  (x5 : Vec F S1x128 .f32)
  (x6 : Vec F S128x1 .f32)

/-- The scratch of the normed rows, whole. -/
abbrev sH : Memref sig .tc .vmem S1024x2048 .bf16 := Memref.whole cc0_scratch0

/-- The body as the pipeline calls it, on these memrefs. -/
abbrev bodyOn : Prog (TpuEff nD τ sig (Elt F) Λ₀ .tc) PUnit :=
  cc0_inproj i arg2 harg2 arg3 harg3 arg4 harg4 arg5 harg5 arg6 harg6 arg7 harg7 arg8 harg8 arg9 harg9 arg10 harg10 arg11 harg11 arg12 harg12 arg13 harg13

/-- The seven inputs' staging buffers at their blocks. -/
abbrev held : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6)

/-- Staging buffers of the outputs and the scratch, through which their contents are stated. -/
abbrev V7 : View sig .tc .vmem S1024x1024 .bf16 := (Memref.whole cc0_stg7_0 : Memref sig .tc .vmem S1024x1024 .bf16).view
abbrev V8 : View sig .tc .vmem S1024x1024 .bf16 := (Memref.whole cc0_stg8_0 : Memref sig .tc .vmem S1024x1024 .bf16).view
abbrev V9 : View sig .tc .vmem S1024x64 .bf16 := (Memref.whole cc0_stg9_0 : Memref sig .tc .vmem S1024x64 .bf16).view
abbrev V10 : View sig .tc .vmem S16x1024 .f32 := (Memref.whole cc0_stg10_0 : Memref sig .tc .vmem S16x1024 .f32).view
abbrev VS : View sig .tc .vmem S1024x2048 .bf16 := sH.view

end Cert.InprojIdeal.Hand

end
-- ==== Proof.Inproj.KernelIdeal.RunA.lean ====
/- The input projection's body run once per case of the column block, on symbolic staging buffers. -/
module

public import proofs.«01_k».proof.Proof.Inproj.KernelIdeal.Base

@[expose] public section

set_option maxRecDepth 16384
set_option Elab.async false

noncomputable section

namespace Cert.InprojIdeal.Hand

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x1024 .bf16) (harg4 : arg4.IsWhole)
  (arg5 : Memref sig .tc .vmem S2048x1024 .bf16) (harg5 : arg5.IsWhole)
  (arg6 : Memref sig .tc .vmem S2048x128 .bf16) (harg6 : arg6.IsWhole)
  (arg7 : Memref sig .tc .vmem S1x128 .f32) (harg7 : arg7.IsWhole)
  (arg8 : Memref sig .tc .vmem S128x1 .f32) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1024x64 .bf16) (harg11 : arg11.IsWhole)
  (arg12 : Memref sig .tc .vmem S16x1024 .f32) (harg12 : arg12.IsWhole)
  (arg13 : Memref sig .tc .vmem S1024x2048 .bf16) (harg13 : arg13.IsWhole)
  (x0 : Vec F S1024x2048 .f32)
  (x1 : Vec F S1x2048 .f32)
  (x2 : Vec F S2048x1024 .bf16)
  (x3 : Vec F S2048x1024 .bf16)
  (x4 : Vec F S2048x128 .bf16)
  (x5 : Vec F S1x128 .f32)
  (x6 : Vec F S128x1 .f32)

set_option backward.proofsInPublic true in
set_option maxHeartbeats 1000000 in
/-- The body at the first column block: the pieces it stores, found by running it. -/
noncomputable def runA (h : CA i) :
    Σ' (L7 : List (View.Piece (Elt F) S1024x1024 .bf16)) (L9 : List (View.Piece (Elt F) S1024x64 .bf16)) (L10 : List (View.Piece (Elt F) S16x1024 .f32)), { LS : List (View.Piece (Elt F) S1024x2048 .bf16) //
      ∀ (K : PUnit → sProp 𝕄),
        iprop(held c arg2 arg3 arg4 arg5 arg6 arg7 arg8 x0 x1 x2 x3 x4 x5 x6 ∗ (∃ d, owns (c : Thread nD τ) arg9 fullShare d) ∗ (∃ d, owns (c : Thread nD τ) arg11 fullShare d) ∗ (∃ d, owns (c : Thread nD τ) arg12 fullShare d) ∗ (∃ d, owns (c : Thread nD τ) arg13 fullShare d)
          ∗ (iprop(held c arg2 arg3 arg4 arg5 arg6 arg7 arg8 x0 x1 x2 x3 x4 x5 x6 ∗ (∃ f, arg9.view.loc (c : Thread nD τ) ↦[arg9.view.set]{fullShare} arg9.view.writes (Elt F) f L7) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS)) -∗ K ⟨⟩))
          ⊢ wp frame (wpE (defs₀ (F := F)) Variants.none c none) Set.univ (bodyOn i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun K => ?run⟩
  case run =>
    have h1 := h.1; have h2 := h.2.1; have h3 := h.2.2.1; have h4 := h.2.2.2.1; have h5 := h.2.2.2.2
    simp only [bodyOn, cc0_inproj_eq_skeleton]; unfold cc0_inproj_skel
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d9, %f9, -, H9⟩, ⟨%d10, %f10, -, H10⟩, ⟨%dS, %fS, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | with_reducible exact h1 | with_reducible exact h2 | with_reducible exact h3 | with_reducible exact h4 | with_reducible exact h5)
    sl_step
    iapply Hk
    isplitl [H0 H1 H2 H3 H4 H5 H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      iexists _; isplitr; · ipureintro; exact harg8.read_unread _
      iexact H6
    isplitl [H7]; · iexists _; iexact H7
    isplitl [H9]; · iexists _; iexact H9
    isplitl [H10]; · iexists _; iexact H10
    iexists _; iexact HS

end Cert.InprojIdeal.Hand

end
-- ==== Proof.Inproj.KernelIdeal.RunB.lean ====
/- The input projection's body run once per case of the column block, on symbolic staging buffers. -/
module

public import proofs.«01_k».proof.Proof.Inproj.KernelIdeal.Base

@[expose] public section

set_option maxRecDepth 16384
set_option Elab.async false

noncomputable section

namespace Cert.InprojIdeal.Hand

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x1024 .bf16) (harg4 : arg4.IsWhole)
  (arg5 : Memref sig .tc .vmem S2048x1024 .bf16) (harg5 : arg5.IsWhole)
  (arg6 : Memref sig .tc .vmem S2048x128 .bf16) (harg6 : arg6.IsWhole)
  (arg7 : Memref sig .tc .vmem S1x128 .f32) (harg7 : arg7.IsWhole)
  (arg8 : Memref sig .tc .vmem S128x1 .f32) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1024x64 .bf16) (harg11 : arg11.IsWhole)
  (arg12 : Memref sig .tc .vmem S16x1024 .f32) (harg12 : arg12.IsWhole)
  (arg13 : Memref sig .tc .vmem S1024x2048 .bf16) (harg13 : arg13.IsWhole)
  (x0 : Vec F S1024x2048 .f32)
  (x1 : Vec F S1x2048 .f32)
  (x2 : Vec F S2048x1024 .bf16)
  (x3 : Vec F S2048x1024 .bf16)
  (x4 : Vec F S2048x128 .bf16)
  (x5 : Vec F S1x128 .f32)
  (x6 : Vec F S128x1 .f32)

set_option backward.proofsInPublic true in
set_option maxHeartbeats 1000000 in
/-- The body at the second column block: the pieces it stores, found by running it. -/
noncomputable def runB (y : Vec F S1024x2048 .bf16) (h : CB i) :
    { L7 : List (View.Piece (Elt F) S1024x1024 .bf16) //
      ∀ (K : PUnit → sProp 𝕄),
        iprop(held c arg2 arg3 arg4 arg5 arg6 arg7 arg8 x0 x1 x2 x3 x4 x5 x6 ∗ (∃ d, owns (c : Thread nD τ) arg9 fullShare d) ∗ owns (c : Thread nD τ) arg13 fullShare y
          ∗ (iprop(held c arg2 arg3 arg4 arg5 arg6 arg7 arg8 x0 x1 x2 x3 x4 x5 x6 ∗ (∃ f, arg9.view.loc (c : Thread nD τ) ↦[arg9.view.set]{fullShare} arg9.view.writes (Elt F) f L7) ∗ owns (c : Thread nD τ) arg13 fullShare y) -∗ K ⟨⟩))
          ⊢ wp frame (wpE (defs₀ (F := F)) Variants.none c none) Set.univ (bodyOn i arg2 harg2 arg3 harg3 arg4 harg4 arg5 harg5 arg6 harg6 arg7 harg7 arg8 harg8 arg9 harg9 arg10 harg10 arg11 harg11 arg12 harg12 arg13 harg13) K } := by
  refine ⟨?_, fun K => ?run⟩
  case run =>
    have h1 := h.1; have h2 := h.2.1; have h3 := h.2.2.1; have h4 := h.2.2.2.1; have h5 := h.2.2.2.2
    simp only [bodyOn, cc0_inproj_eq_skeleton]; unfold cc0_inproj_skel
    simp only [k0_part3_eq_skeleton, k0_part2_eq_skeleton, k0_part1_eq_skeleton]
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hfS
    sl_exec (disch := first | with_reducible exact h1 | with_reducible exact h2 | with_reducible exact h3 | with_reducible exact h4 | with_reducible exact h5)
    sl_step
    iapply Hk
    isplitl [H0 H1 H2 H3 H4 H5 H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      iexists _; isplitr; · ipureintro; exact harg8.read_unread _
      iexact H6
    isplitl [H7]; · iexists _; iexact H7
    iexists _; isplitr; · ipureintro; exact harg13.read_unread _
    iexact HS

end Cert.InprojIdeal.Hand

end
-- ==== Proof.Inproj.KernelIdeal.RunC.lean ====
/- The input projection's body run once per case of the column block, on symbolic staging buffers. -/
module

public import proofs.«01_k».proof.Proof.Inproj.KernelIdeal.Base

@[expose] public section

set_option maxRecDepth 16384
set_option Elab.async false

noncomputable section

namespace Cert.InprojIdeal.Hand

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x1024 .bf16) (harg4 : arg4.IsWhole)
  (arg5 : Memref sig .tc .vmem S2048x1024 .bf16) (harg5 : arg5.IsWhole)
  (arg6 : Memref sig .tc .vmem S2048x128 .bf16) (harg6 : arg6.IsWhole)
  (arg7 : Memref sig .tc .vmem S1x128 .f32) (harg7 : arg7.IsWhole)
  (arg8 : Memref sig .tc .vmem S128x1 .f32) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1024x64 .bf16) (harg11 : arg11.IsWhole)
  (arg12 : Memref sig .tc .vmem S16x1024 .f32) (harg12 : arg12.IsWhole)
  (arg13 : Memref sig .tc .vmem S1024x2048 .bf16) (harg13 : arg13.IsWhole)
  (x0 : Vec F S1024x2048 .f32)
  (x1 : Vec F S1x2048 .f32)
  (x2 : Vec F S2048x1024 .bf16)
  (x3 : Vec F S2048x1024 .bf16)
  (x4 : Vec F S2048x128 .bf16)
  (x5 : Vec F S1x128 .f32)
  (x6 : Vec F S128x1 .f32)

set_option backward.proofsInPublic true in
set_option maxHeartbeats 1000000 in
/-- The body at the third column block: the pieces it stores, found by running it. -/
noncomputable def runC (y : Vec F S1024x2048 .bf16) (h : CC i) :
    { L8 : List (View.Piece (Elt F) S1024x1024 .bf16) //
      ∀ (K : PUnit → sProp 𝕄),
        iprop(held c arg2 arg3 arg4 arg5 arg6 arg7 arg8 x0 x1 x2 x3 x4 x5 x6 ∗ (∃ d, owns (c : Thread nD τ) arg10 fullShare d) ∗ owns (c : Thread nD τ) arg13 fullShare y
          ∗ (iprop(held c arg2 arg3 arg4 arg5 arg6 arg7 arg8 x0 x1 x2 x3 x4 x5 x6 ∗ (∃ f, arg10.view.loc (c : Thread nD τ) ↦[arg10.view.set]{fullShare} arg10.view.writes (Elt F) f L8) ∗ owns (c : Thread nD τ) arg13 fullShare y) -∗ K ⟨⟩))
          ⊢ wp frame (wpE (defs₀ (F := F)) Variants.none c none) Set.univ (bodyOn i arg2 harg2 arg3 harg3 arg4 harg4 arg5 harg5 arg6 harg6 arg7 harg7 arg8 harg8 arg9 harg9 arg10 harg10 arg11 harg11 arg12 harg12 arg13 harg13) K } := by
  refine ⟨?_, fun K => ?run⟩
  case run =>
    have h1 := h.1; have h2 := h.2.1; have h3 := h.2.2.1; have h4 := h.2.2.2.1; have h5 := h.2.2.2.2
    simp only [bodyOn, cc0_inproj_eq_skeleton]; unfold cc0_inproj_skel
    simp only [k0_part6_eq_skeleton, k0_part5_eq_skeleton, k0_part4_eq_skeleton]
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hfS
    sl_exec (disch := first | with_reducible exact h1 | with_reducible exact h2 | with_reducible exact h3 | with_reducible exact h4 | with_reducible exact h5)
    sl_step
    iapply Hk
    isplitl [H0 H1 H2 H3 H4 H5 H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      iexists _; isplitr; · ipureintro; exact harg8.read_unread _
      iexact H6
    isplitl [H7]; · iexists _; iexact H7
    iexists _; isplitr; · ipureintro; exact harg13.read_unread _
    iexact HS

end Cert.InprojIdeal.Hand

end
-- ==== Proof.Inproj.KernelIdeal.RunD.lean ====
/- The input projection's body run once per case of the column block, on symbolic staging buffers. -/
module

public import proofs.«01_k».proof.Proof.Inproj.KernelIdeal.Base

@[expose] public section

set_option maxRecDepth 16384
set_option Elab.async false

noncomputable section

namespace Cert.InprojIdeal.Hand

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x1024 .bf16) (harg4 : arg4.IsWhole)
  (arg5 : Memref sig .tc .vmem S2048x1024 .bf16) (harg5 : arg5.IsWhole)
  (arg6 : Memref sig .tc .vmem S2048x128 .bf16) (harg6 : arg6.IsWhole)
  (arg7 : Memref sig .tc .vmem S1x128 .f32) (harg7 : arg7.IsWhole)
  (arg8 : Memref sig .tc .vmem S128x1 .f32) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1024x64 .bf16) (harg11 : arg11.IsWhole)
  (arg12 : Memref sig .tc .vmem S16x1024 .f32) (harg12 : arg12.IsWhole)
  (arg13 : Memref sig .tc .vmem S1024x2048 .bf16) (harg13 : arg13.IsWhole)
  (x0 : Vec F S1024x2048 .f32)
  (x1 : Vec F S1x2048 .f32)
  (x2 : Vec F S2048x1024 .bf16)
  (x3 : Vec F S2048x1024 .bf16)
  (x4 : Vec F S2048x128 .bf16)
  (x5 : Vec F S1x128 .f32)
  (x6 : Vec F S128x1 .f32)

set_option backward.proofsInPublic true in
set_option maxHeartbeats 1000000 in
/-- The body at the fourth and the fifth column block: the pieces it stores, found by running it. -/
noncomputable def runD (y : Vec F S1024x2048 .bf16) (h : CD i) :
    { L8 : List (View.Piece (Elt F) S1024x1024 .bf16) //
      ∀ (K : PUnit → sProp 𝕄),
        iprop(held c arg2 arg3 arg4 arg5 arg6 arg7 arg8 x0 x1 x2 x3 x4 x5 x6 ∗ (∃ d, owns (c : Thread nD τ) arg10 fullShare d) ∗ owns (c : Thread nD τ) arg13 fullShare y
          ∗ (iprop(held c arg2 arg3 arg4 arg5 arg6 arg7 arg8 x0 x1 x2 x3 x4 x5 x6 ∗ (∃ f, arg10.view.loc (c : Thread nD τ) ↦[arg10.view.set]{fullShare} arg10.view.writes (Elt F) f L8) ∗ owns (c : Thread nD τ) arg13 fullShare y) -∗ K ⟨⟩))
          ⊢ wp frame (wpE (defs₀ (F := F)) Variants.none c none) Set.univ (bodyOn i arg2 harg2 arg3 harg3 arg4 harg4 arg5 harg5 arg6 harg6 arg7 harg7 arg8 harg8 arg9 harg9 arg10 harg10 arg11 harg11 arg12 harg12 arg13 harg13) K } := by
  refine ⟨?_, fun K => ?run⟩
  case run =>
    have h1 := h.1; have h2 := h.2.1; have h3 := h.2.2.1; have h4 := h.2.2.2.1; have h5 := h.2.2.2.2
    simp only [bodyOn, cc0_inproj_eq_skeleton]; unfold cc0_inproj_skel
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hfS
    sl_exec (disch := first | with_reducible exact h1 | with_reducible exact h2 | with_reducible exact h3 | with_reducible exact h4 | with_reducible exact h5)
    sl_step
    iapply Hk
    isplitl [H0 H1 H2 H3 H4 H5 H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      iexists _; isplitr; · ipureintro; exact harg8.read_unread _
      iexact H6
    isplitl [H7]; · iexists _; iexact H7
    iexists _; isplitr; · ipureintro; exact harg13.read_unread _
    iexact HS

end Cert.InprojIdeal.Hand

end
-- ==== Proof.Inproj.KernelIdeal.Outs.lean ====
/- What the body stores at each point: the outputs' blocks and the normed rows, read back from the pieces. -/
module

public import proofs.«01_k».proof.Proof.Inproj.KernelIdeal.RunA
public import proofs.«01_k».proof.Proof.Inproj.KernelIdeal.RunB
public import proofs.«01_k».proof.Proof.Inproj.KernelIdeal.RunC
public import proofs.«01_k».proof.Proof.Inproj.KernelIdeal.RunD
public import Idealize.ShloMosaic.Lib.Pipeline.TableIdle

@[expose] public section

set_option maxRecDepth 16384
set_option Elab.async false

noncomputable section

namespace Cert.InprojIdeal.Hand

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x1024 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x64 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S16x1024 .f32 := win0_10.stage (cfg0.slots t 10)
abbrev hs10 (t : Fin cfg0.N) : (ms10 t).IsWhole := hstage0_10 ((cfg0.slots t 10).cast nbuf0_10)

/-- What the frame needs of a point: the body's conditions and the outputs' schedule. -/
abbrev FactsAt (t : Fin cfg0.N) : Prop :=
  (t.val % 5 = 0 → CA (grid0.coords t)) ∧ (t.val % 5 = 1 → CB (grid0.coords t)) ∧ (t.val % 5 = 2 → CC (grid0.coords t)) ∧ (3 ≤ t.val % 5 → CD (grid0.coords t))
theorem factsAt : ∀ t : Fin cfg0.N, FactsAt t := by decide +kernel

abbrev SchedAt (t : Fin cfg0.N) : Prop :=
  cfg0.idle (7 : Fin 11) (cfg0.grid.coords t) = decide (2 ≤ t.val % 5) ∧ cfg0.idle (8 : Fin 11) (cfg0.grid.coords t) = decide (t.val % 5 < 2)
  ∧ cfg0.idle (9 : Fin 11) (cfg0.grid.coords t) = decide (1 ≤ t.val % 5) ∧ cfg0.idle (10 : Fin 11) (cfg0.grid.coords t) = decide (1 ≤ t.val % 5)
  ∧ (cfg0.win (7 : Fin 11)).flush t = decide (t.val % 5 = 0 ∨ t.val % 5 = 4) ∧ (cfg0.win (8 : Fin 11)).flush t = decide (2 ≤ t.val % 5)
  ∧ (cfg0.win (9 : Fin 11)).flush t = decide (t.val % 5 = 4) ∧ (cfg0.win (10 : Fin 11)).flush t = decide (t.val % 5 = 4)
theorem schedAt : ∀ t : Fin cfg0.N, SchedAt t := by decide +kernel

theorem fresh7 (t : Fin cfg0.N) : cfg0.fresh (7 : Fin 11) t.val = decide (t.val % 5 < 2) :=
  Pipeline.Cfg.fresh_tab cfg0 (7 : Fin 11) (fun n => decide (n % 5 < 2)) rfl (fun t => by
    obtain ⟨i7, -, -, -, f7, -⟩ := schedAt t
    rw [i7, f7, Bool.eq_iff_iff]; simp only [decide_eq_true_eq, Bool.or_eq_true, Bool.and_eq_true]; omega) t.val (Nat.le_of_lt t.isLt)
theorem fresh9 (t : Fin cfg0.N) : cfg0.fresh (9 : Fin 11) t.val = decide (t.val % 5 = 0) :=
  Pipeline.Cfg.fresh_tab cfg0 (9 : Fin 11) (fun n => decide (n % 5 = 0)) rfl (fun t => by
    obtain ⟨-, -, i7, -, -, -, f7, -⟩ := schedAt t
    rw [i7, f7, Bool.eq_iff_iff]; simp only [decide_eq_true_eq, Bool.or_eq_true, Bool.and_eq_true]; omega) t.val (Nat.le_of_lt t.isLt)
theorem fresh10 (t : Fin cfg0.N) : cfg0.fresh (10 : Fin 11) t.val = decide (t.val % 5 = 0) :=
  Pipeline.Cfg.fresh_tab cfg0 (10 : Fin 11) (fun n => decide (n % 5 = 0)) rfl (fun t => by
    obtain ⟨-, -, -, i7, -, -, -, f7⟩ := schedAt t
    rw [i7, f7, Bool.eq_iff_iff]; simp only [decide_eq_true_eq, Bool.or_eq_true, Bool.and_eq_true]; omega) t.val (Nat.le_of_lt t.isLt)

/-! ## The runs at a point -/

/-- The run at a point of the first column block. -/
abbrev rA (c : Dev nD) (t : Fin cfg0.N) (h : t.val % 5 = 0) := runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sH (Memref.isWhole_whole _) (iblk m c 0 t) (iblk m c 1 t) (iblk m c 2 t) (iblk m c 3 t) (iblk m c 4 t) (iblk m c 5 t) (iblk m c 6 t) ((factsAt t).1 h)
abbrev rB (c : Dev nD) (t : Fin cfg0.N) (y : Vec F S1024x2048 .bf16) (h : t.val % 5 = 1) := runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sH (Memref.isWhole_whole _) (iblk m c 0 t) (iblk m c 1 t) (iblk m c 2 t) (iblk m c 3 t) (iblk m c 4 t) (iblk m c 5 t) (iblk m c 6 t) y ((factsAt t).2.1 h)
abbrev rC (c : Dev nD) (t : Fin cfg0.N) (y : Vec F S1024x2048 .bf16) (h : t.val % 5 = 2) := runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sH (Memref.isWhole_whole _) (iblk m c 0 t) (iblk m c 1 t) (iblk m c 2 t) (iblk m c 3 t) (iblk m c 4 t) (iblk m c 5 t) (iblk m c 6 t) y ((factsAt t).2.2.1 h)
abbrev rD (c : Dev nD) (t : Fin cfg0.N) (y : Vec F S1024x2048 .bf16) (h : 3 ≤ t.val % 5) := runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sH (Memref.isWhole_whole _) (iblk m c 0 t) (iblk m c 1 t) (iblk m c 2 t) (iblk m c 3 t) (iblk m c 4 t) (iblk m c 5 t) (iblk m c 6 t) y ((factsAt t).2.2.2 h)

theorem cov_o7A (c : Dev nD) (t : Fin cfg0.N) (h : t.val % 5 = 0) (z : S1024x1024.Idx) : ∃ pc ∈ (rA m c t h).1, z ∈ pc.1.set :=
  View.cover_of_tiledL (rA m c t h).1 S1024x1024.size (by sl_kernel_rfl) z
/-- The pieces read back. -/
def o7A (c : Dev nD) (t : Fin cfg0.N) (h : t.val % 5 = 0) : S1024x1024.Idx → Elt F .bf16 :=
  V7.read (Elt F) (V7.writes (Elt F) V7.junk (rA m c t h).1)

theorem cov_o9 (c : Dev nD) (t : Fin cfg0.N) (h : t.val % 5 = 0) (z : S1024x64.Idx) : ∃ pc ∈ (rA m c t h).2.1, z ∈ pc.1.set :=
  View.cover_of_tiledL (rA m c t h).2.1 S1024x64.size (by sl_kernel_rfl) z
/-- The pieces read back. -/
def o9 (c : Dev nD) (t : Fin cfg0.N) (h : t.val % 5 = 0) : S1024x64.Idx → Elt F .bf16 :=
  V9.read (Elt F) (V9.writes (Elt F) V9.junk (rA m c t h).2.1)

theorem cov_o10 (c : Dev nD) (t : Fin cfg0.N) (h : t.val % 5 = 0) (z : S16x1024.Idx) : ∃ pc ∈ (rA m c t h).2.2.1, z ∈ pc.1.set :=
  View.cover_of_tiledL (rA m c t h).2.2.1 S16x1024.size (by sl_kernel_rfl) z
/-- The pieces read back. -/
def o10 (c : Dev nD) (t : Fin cfg0.N) (h : t.val % 5 = 0) : S16x1024.Idx → Elt F .f32 :=
  V10.read (Elt F) (V10.writes (Elt F) V10.junk (rA m c t h).2.2.1)

theorem cov_oS (c : Dev nD) (t : Fin cfg0.N) (h : t.val % 5 = 0) (z : S1024x2048.Idx) : ∃ pc ∈ (rA m c t h).2.2.2.1, z ∈ pc.1.set :=
  View.cover_of_tiledL (rA m c t h).2.2.2.1 S1024x2048.size (by sl_kernel_rfl) z
/-- The pieces read back. -/
def oS (c : Dev nD) (t : Fin cfg0.N) (h : t.val % 5 = 0) : S1024x2048.Idx → Elt F .bf16 :=
  VS.read (Elt F) (VS.writes (Elt F) VS.junk (rA m c t h).2.2.2.1)

/-- The normed rows of row block `k`, as its first point leaves them in the scratch. -/
def hrow (c : Dev nD) (k : ℕ) : S1024x2048.Idx → Elt F .bf16 :=
  if h : 5 * k < cfg0.N then oS m c ⟨5 * k, h⟩ (Nat.mul_mod_right 5 k) else VS.read (Elt F) VS.junk
theorem oS_congr (c : Dev nD) (t t' : Fin cfg0.N) (h : t.val % 5 = 0) (h' : t'.val % 5 = 0) (e : t = t') : oS m c t h = oS m c t' h' := by
  subst e; rfl
theorem hrow_eq (c : Dev nD) (t : Fin cfg0.N) (h : t.val % 5 = 0) : hrow m c (t.val / 5) = oS m c t h := by
  have e : 5 * (t.val / 5) = t.val := by omega
  have hl : 5 * (t.val / 5) < cfg0.N := by rw [e]; exact t.isLt
  unfold hrow
  rw [dif_pos hl]
  exact oS_congr m c _ _ _ _ (Fin.ext e)

theorem cov_o7B (c : Dev nD) (t : Fin cfg0.N) (y : Vec F S1024x2048 .bf16) (h : t.val % 5 = 1) (z : S1024x1024.Idx) : ∃ pc ∈ (rB m c t y h).1, z ∈ pc.1.set :=
  View.cover_of_tiledL (rB m c t y h).1 S1024x128.size (by sl_kernel_rfl) z
/-- The pieces read back. -/
def o7B (c : Dev nD) (t : Fin cfg0.N) (y : Vec F S1024x2048 .bf16) (h : t.val % 5 = 1) : S1024x1024.Idx → Elt F .bf16 :=
  V7.read (Elt F) (V7.writes (Elt F) V7.junk (rB m c t y h).1)

theorem cov_o8C (c : Dev nD) (t : Fin cfg0.N) (y : Vec F S1024x2048 .bf16) (h : t.val % 5 = 2) (z : S1024x1024.Idx) : ∃ pc ∈ (rC m c t y h).1, z ∈ pc.1.set :=
  View.cover_of_tiledL (rC m c t y h).1 S128x1024.size (by sl_kernel_rfl) z
/-- The pieces read back. -/
def o8C (c : Dev nD) (t : Fin cfg0.N) (y : Vec F S1024x2048 .bf16) (h : t.val % 5 = 2) : S1024x1024.Idx → Elt F .bf16 :=
  V8.read (Elt F) (V8.writes (Elt F) V8.junk (rC m c t y h).1)

theorem cov_o8D (c : Dev nD) (t : Fin cfg0.N) (y : Vec F S1024x2048 .bf16) (h : 3 ≤ t.val % 5) (z : S1024x1024.Idx) : ∃ pc ∈ (rD m c t y h).1, z ∈ pc.1.set :=
  View.cover_of_tiledL (rD m c t y h).1 S1024x1024.size (by sl_kernel_rfl) z
/-- The pieces read back. -/
def o8D (c : Dev nD) (t : Fin cfg0.N) (y : Vec F S1024x2048 .bf16) (h : 3 ≤ t.val % 5) : S1024x1024.Idx → Elt F .bf16 :=
  V8.read (Elt F) (V8.writes (Elt F) V8.junk (rD m c t y h).1)

/-- The first and the second point of a point's row block. -/
abbrev pt0 (t : Fin cfg0.N) : Fin cfg0.N := ⟨5 * (t.val / 5), by have := t.isLt; omega⟩
theorem N_eq : cfg0.N = 80 := N_0
abbrev pt1 (t : Fin cfg0.N) : Fin cfg0.N := ⟨5 * (t.val / 5) + 1, by have := t.isLt; have := N_eq; omega⟩
theorem pt0_mod (t : Fin cfg0.N) : (pt0 t).val % 5 = 0 := Nat.mul_mod_right 5 _
theorem pt1_mod (t : Fin cfg0.N) : (pt1 t).val % 5 = 1 := by simp only [pt1]; omega

/-- What the outputs' buffers hold after each point. -/
def a7 (c : Dev nD) (t : Fin cfg0.N) : S1024x1024.Idx → Elt F .bf16 :=
  if h : t.val % 5 = 0 then o7A m c t h else o7B m c (pt1 t) (hrow m c (t.val / 5)) (pt1_mod t)
def a8 (c : Dev nD) (t : Fin cfg0.N) : S1024x1024.Idx → Elt F .bf16 :=
  if h : t.val % 5 = 2 then o8C m c t (hrow m c (t.val / 5)) h else if h' : 3 ≤ t.val % 5 then o8D m c t (hrow m c (t.val / 5)) h' else V8.read (Elt F) V8.junk
def a9 (c : Dev nD) (t : Fin cfg0.N) : S1024x64.Idx → Elt F .bf16 := o9 m c (pt0 t) (pt0_mod t)
def a10 (c : Dev nD) (t : Fin cfg0.N) : S16x1024.Idx → Elt F .f32 := o10 m c (pt0 t) (pt0_mod t)

theorem a7_A (c : Dev nD) (t : Fin cfg0.N) (h : t.val % 5 = 0) : a7 m c t = o7A m c t h := dif_pos h
theorem o7B_congr (c : Dev nD) (t t' : Fin cfg0.N) (y : Vec F S1024x2048 .bf16) (h : t.val % 5 = 1) (h' : t'.val % 5 = 1) (e : t = t') : o7B m c t y h = o7B m c t' y h' := by
  subst e; rfl
theorem o9_congr (c : Dev nD) (t t' : Fin cfg0.N) (h : t.val % 5 = 0) (h' : t'.val % 5 = 0) (e : t = t') : o9 m c t h = o9 m c t' h' := by
  subst e; rfl
theorem o10_congr (c : Dev nD) (t t' : Fin cfg0.N) (h : t.val % 5 = 0) (h' : t'.val % 5 = 0) (e : t = t') : o10 m c t h = o10 m c t' h' := by
  subst e; rfl
theorem a7_B (c : Dev nD) (t : Fin cfg0.N) (h : t.val % 5 = 1) : a7 m c t = o7B m c t (hrow m c (t.val / 5)) h := by
  unfold a7; rw [dif_neg (by omega)]; exact o7B_congr m c _ _ _ _ _ (Fin.ext (by simp only [pt1]; omega))
theorem a7_keep (c : Dev nD) (t t' : Fin cfg0.N) (h : 2 ≤ t.val % 5) (e : t'.val = t.val - 1) : a7 m c t' = a7 m c t := by
  have hk : t'.val / 5 = t.val / 5 := by omega
  unfold a7
  rw [dif_neg (by omega), dif_neg (by omega), hk]
  exact o7B_congr m c _ _ _ _ _ (Fin.ext (by simp only [pt1]; omega))
theorem a8_C (c : Dev nD) (t : Fin cfg0.N) (h : t.val % 5 = 2) : a8 m c t = o8C m c t (hrow m c (t.val / 5)) h := dif_pos h
theorem a8_D (c : Dev nD) (t : Fin cfg0.N) (h : 3 ≤ t.val % 5) : a8 m c t = o8D m c t (hrow m c (t.val / 5)) h := by
  unfold a8; rw [dif_neg (by omega), dif_pos h]
theorem a9_A (c : Dev nD) (t : Fin cfg0.N) (h : t.val % 5 = 0) : a9 m c t = o9 m c t h :=
  o9_congr m c _ _ _ _ (Fin.ext (by simp only [pt0]; omega))
theorem a10_A (c : Dev nD) (t : Fin cfg0.N) (h : t.val % 5 = 0) : a10 m c t = o10 m c t h :=
  o10_congr m c _ _ _ _ (Fin.ext (by simp only [pt0]; omega))
theorem a9_keep (c : Dev nD) (t t' : Fin cfg0.N) (h : 1 ≤ t.val % 5) (e : t'.val = t.val - 1) : a9 m c t' = a9 m c t :=
  o9_congr m c _ _ _ _ (Fin.ext (by simp only [pt0]; omega))
theorem a10_keep (c : Dev nD) (t t' : Fin cfg0.N) (h : 1 ≤ t.val % 5) (e : t'.val = t.val - 1) : a10 m c t' = a10 m c t :=
  o10_congr m c _ _ _ _ (Fin.ext (by simp only [pt0]; omega))

attribute [irreducible] a7 a8 a9 a10 hrow
end Cert.InprojIdeal.Hand

end
-- ==== Proof.Inproj.KernelIdeal.Frame.lean ====
/- The pipeline's proof data, the body obligation at every point, and the launch. -/
module

public import proofs.«01_k».proof.Proof.Inproj.KernelIdeal.Outs
public import Idealize.ShloMosaic.Lib.Pipeline.TableIdle

@[expose] public section

set_option maxRecDepth 16384
set_option Elab.async false

noncomputable section

namespace Cert.InprojIdeal.Hand

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before point `t`: the scratch holds the row block's normed rows (anything before its first point), and the
    generator's register. -/
def Phi (c : Dev nD) (t : Fin (cfg0.N + 1)) : sProp 𝕄 :=
  iprop((∃ d, ⌜t.val % 5 ≠ 0 → d = hrow m c (t.val / 5)⌝ ∗ owns (c : Thread nD τ) sH fullShare d) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => a7 m c t
    | ⟨8, _⟩ => a8 m c t
    | ⟨9, _⟩ => a9 m c t
    | ⟨10, _⟩ => a10 m c t
  Φ t := Phi m c t
  q w := Pipeline.shareOf spec0 w
  owed _ := 0

theorem after_0 (c : Dev nD) (t : Fin cfg0.N) : (dats m 0 c).after (0 : Fin 11) t = iblk m c 0 t := rfl
theorem after_1 (c : Dev nD) (t : Fin cfg0.N) : (dats m 0 c).after (1 : Fin 11) t = iblk m c 1 t := rfl
theorem after_2 (c : Dev nD) (t : Fin cfg0.N) : (dats m 0 c).after (2 : Fin 11) t = iblk m c 2 t := rfl
theorem after_3 (c : Dev nD) (t : Fin cfg0.N) : (dats m 0 c).after (3 : Fin 11) t = iblk m c 3 t := rfl
theorem after_4 (c : Dev nD) (t : Fin cfg0.N) : (dats m 0 c).after (4 : Fin 11) t = iblk m c 4 t := rfl
theorem after_5 (c : Dev nD) (t : Fin cfg0.N) : (dats m 0 c).after (5 : Fin 11) t = iblk m c 5 t := rfl
theorem after_6 (c : Dev nD) (t : Fin cfg0.N) : (dats m 0 c).after (6 : Fin 11) t = iblk m c 6 t := rfl
theorem after_7 (c : Dev nD) (t : Fin cfg0.N) : (dats m 0 c).after (7 : Fin 11) t = a7 m c t := rfl
theorem after_8 (c : Dev nD) (t : Fin cfg0.N) : (dats m 0 c).after (8 : Fin 11) t = a8 m c t := rfl
theorem after_9 (c : Dev nD) (t : Fin cfg0.N) : (dats m 0 c).after (9 : Fin 11) t = a9 m c t := rfl
theorem after_10 (c : Dev nD) (t : Fin cfg0.N) : (dats m 0 c).after (10 : Fin 11) t = a10 m c t := rfl
theorem before_0 (c : Dev nD) (t : Fin cfg0.N) (d) : (dats m 0 c).before (0 : Fin 11) t d = iblk m c 0 t := before0_0_of m (dats m 0 c) rfl (fun _ => rfl) t d
theorem before_1 (c : Dev nD) (t : Fin cfg0.N) (d) : (dats m 0 c).before (1 : Fin 11) t d = iblk m c 1 t := before0_1_of m (dats m 0 c) rfl (fun _ => rfl) t d
theorem before_2 (c : Dev nD) (t : Fin cfg0.N) (d) : (dats m 0 c).before (2 : Fin 11) t d = iblk m c 2 t := before0_2_of m (dats m 0 c) rfl (fun _ => rfl) t d
theorem before_3 (c : Dev nD) (t : Fin cfg0.N) (d) : (dats m 0 c).before (3 : Fin 11) t d = iblk m c 3 t := before0_3_of m (dats m 0 c) rfl (fun _ => rfl) t d
theorem before_4 (c : Dev nD) (t : Fin cfg0.N) (d) : (dats m 0 c).before (4 : Fin 11) t d = iblk m c 4 t := before0_4_of m (dats m 0 c) rfl (fun _ => rfl) t d
theorem before_5 (c : Dev nD) (t : Fin cfg0.N) (d) : (dats m 0 c).before (5 : Fin 11) t d = iblk m c 5 t := before0_5_of m (dats m 0 c) rfl (fun _ => rfl) t d
theorem before_6 (c : Dev nD) (t : Fin cfg0.N) (d) : (dats m 0 c).before (6 : Fin 11) t d = iblk m c 6 t := before0_6_of m (dats m 0 c) rfl (fun _ => rfl) t d
/-- Before a point that stores nothing into output 7's buffer it holds what its row block left there. -/
theorem before_7 (c : Dev nD) (t : Fin cfg0.N) (h : 2 ≤ t.val % 5) (d) : (dats m 0 c).before (7 : Fin 11) t d = a7 m c t := by
  rw [(dats m 0 c).before_out_traj (7 : Fin 11) rfl (fun _ _ => rfl) (fun t ht hi hf => by
      rw [fresh7] at hf
      have hf' := of_decide_eq_false hf
      exact (a7_keep m c t _ (by omega) rfl).symm) t.val t rfl d, fresh7,
    decide_eq_false (by omega : ¬(t.val % 5 < 2)), if_neg Bool.false_ne_true]
  exact a7_keep m c t _ h rfl

/-- Before a point that stores nothing into output 9's buffer it holds what its row block left there. -/
theorem before_9 (c : Dev nD) (t : Fin cfg0.N) (h : 1 ≤ t.val % 5) (d) : (dats m 0 c).before (9 : Fin 11) t d = a9 m c t := by
  rw [(dats m 0 c).before_out_traj (9 : Fin 11) rfl (fun _ _ => rfl) (fun t ht hi hf => by
      rw [fresh9] at hf
      have hf' := of_decide_eq_false hf
      exact (a9_keep m c t _ (by omega) rfl).symm) t.val t rfl d, fresh9,
    decide_eq_false (by omega : ¬(t.val % 5 = 0)), if_neg Bool.false_ne_true]
  exact a9_keep m c t _ h rfl

/-- Before a point that stores nothing into output 10's buffer it holds what its row block left there. -/
theorem before_10 (c : Dev nD) (t : Fin cfg0.N) (h : 1 ≤ t.val % 5) (d) : (dats m 0 c).before (10 : Fin 11) t d = a10 m c t := by
  rw [(dats m 0 c).before_out_traj (10 : Fin 11) rfl (fun _ _ => rfl) (fun t ht hi hf => by
      rw [fresh10] at hf
      have hf' := of_decide_eq_false hf
      exact (a10_keep m c t _ (by omega) rfl).symm) t.val t rfl d, fresh10,
    decide_eq_false (by omega : ¬(t.val % 5 = 0)), if_neg Bool.false_ne_true]
  exact a10_keep m c t _ h rfl

set_option maxHeartbeats 4000000 in
theorem sound_A (c : Dev nD) (t : Fin cfg0.N) (h : t.val % 5 = 0) :
    iprop((dats m 0 c).Φ t.castSucc ∗ (dats m 0 c).owesAt () t.castSucc
        ∗ (∃ d, owns (c : Thread nD τ) (ms0 t) fullShare ((dats m 0 c).before (0 : Fin 11) t d)) ∗ (∃ d, owns (c : Thread nD τ) (ms1 t) fullShare ((dats m 0 c).before (1 : Fin 11) t d)) ∗ (∃ d, owns (c : Thread nD τ) (ms2 t) fullShare ((dats m 0 c).before (2 : Fin 11) t d)) ∗ (∃ d, owns (c : Thread nD τ) (ms3 t) fullShare ((dats m 0 c).before (3 : Fin 11) t d)) ∗ (∃ d, owns (c : Thread nD τ) (ms4 t) fullShare ((dats m 0 c).before (4 : Fin 11) t d)) ∗ (∃ d, owns (c : Thread nD τ) (ms5 t) fullShare ((dats m 0 c).before (5 : Fin 11) t d)) ∗ (∃ d, owns (c : Thread nD τ) (ms6 t) fullShare ((dats m 0 c).before (6 : Fin 11) t d)) ∗ (∃ d, owns (c : Thread nD τ) (ms7 t) fullShare ((dats m 0 c).before (7 : Fin 11) t d)) ∗ (∃ d, owns (c : Thread nD τ) (ms8 t) fullShare ((dats m 0 c).before (8 : Fin 11) t d)) ∗ (∃ d, owns (c : Thread nD τ) (ms9 t) fullShare ((dats m 0 c).before (9 : Fin 11) t d)) ∗ (∃ d, owns (c : Thread nD τ) (ms10 t) fullShare ((dats m 0 c).before (10 : Fin 11) t d)))
      ⊢ wp frame (wpE (defs₀ (F := F)) Variants.none c none) Set.univ (bodyOn (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sH (Memref.isWhole_whole _)) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by

  rw [bigSep_W0]
  obtain ⟨i7, i8, i9, i10, f7, f8, f9, f10⟩ := schedAt t
  have j7 : idle0 (7 : Fin 11) (grid0.coords t) = false := i7.trans (decide_eq_false (by omega))
  have j8 : idle0 (8 : Fin 11) (grid0.coords t) = true := i8.trans (decide_eq_true (by omega))
  have j9 : idle0 (9 : Fin 11) (grid0.coords t) = false := i9.trans (decide_eq_false (by omega))
  have j10 : idle0 (10 : Fin 11) (grid0.coords t) = false := i10.trans (decide_eq_false (by omega))
  have g8 : (cfg0.win (8 : Fin 11)).flush t = false := f8.trans (decide_eq_false (by omega))
  simp only [j7, j8, j9, j10]
  simp only [before_0, before_1, before_2, before_3, before_4, before_5, before_6, after_0, after_1, after_2, after_3, after_4, after_5, after_6, after_7, after_8, after_9, after_10, g8, j7, j8, j9, j10]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi; simp only [Fin.val_castSucc, Fin.val_succ]
  iintro ⟨⟨⟨%dS, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((rA m c t h).2.2.2.2 _)
  isplitl [H0 H1 H2 H3 H4 H5 H6]
  · unfold held
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H9]; · iexists _; iexact H9
  isplitl [H10]; · iexists _; iexact H10
  isplitl [HS]; · iexists _; iexact HS
  unfold held
  iintro ⟨⟨H0, H1, H2, H3, H4, H5, H6⟩, ⟨%e7, H7⟩, ⟨%e9, H9⟩, ⟨%e10, H10⟩, ⟨%eS, HS⟩⟩
  isplitl [HS Hg]
  · isplitl [HS]
    · iexists _; isplitr; swap
      · unfold owns; iexists _; isplitr; swap
        · iexact HS
        · ipureintro; rfl
      · ipureintro; intro _
        rw [show (t.val + 1) / 5 = t.val / 5 from by omega, hrow_eq m c t h]
        exact View.read_writes_of_cover _ _ _ _ _ (cov_oS m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap
    · iexact H7
    · ipureintro
      rw [a7_A m c t h]
      exact View.read_writes_of_cover _ _ _ _ _ (cov_o7A m c t h)
  isplitl [H8]
  · iexists _; iexact H8
  isplitl [H9]
  · unfold owns; iexists _; isplitr; swap
    · iexact H9
    · ipureintro
      rw [a9_A m c t h]
      exact View.read_writes_of_cover _ _ _ _ _ (cov_o9 m c t h)
  unfold owns; iexists _; isplitr; swap
  · iexact H10
  · ipureintro
    rw [a10_A m c t h]
    exact View.read_writes_of_cover _ _ _ _ _ (cov_o10 m c t h)

set_option maxHeartbeats 4000000 in
theorem sound_B (c : Dev nD) (t : Fin cfg0.N) (h : t.val % 5 = 1) :
    iprop((dats m 0 c).Φ t.castSucc ∗ (dats m 0 c).owesAt () t.castSucc
        ∗ (∃ d, owns (c : Thread nD τ) (ms0 t) fullShare ((dats m 0 c).before (0 : Fin 11) t d)) ∗ (∃ d, owns (c : Thread nD τ) (ms1 t) fullShare ((dats m 0 c).before (1 : Fin 11) t d)) ∗ (∃ d, owns (c : Thread nD τ) (ms2 t) fullShare ((dats m 0 c).before (2 : Fin 11) t d)) ∗ (∃ d, owns (c : Thread nD τ) (ms3 t) fullShare ((dats m 0 c).before (3 : Fin 11) t d)) ∗ (∃ d, owns (c : Thread nD τ) (ms4 t) fullShare ((dats m 0 c).before (4 : Fin 11) t d)) ∗ (∃ d, owns (c : Thread nD τ) (ms5 t) fullShare ((dats m 0 c).before (5 : Fin 11) t d)) ∗ (∃ d, owns (c : Thread nD τ) (ms6 t) fullShare ((dats m 0 c).before (6 : Fin 11) t d)) ∗ (∃ d, owns (c : Thread nD τ) (ms7 t) fullShare ((dats m 0 c).before (7 : Fin 11) t d)) ∗ (∃ d, owns (c : Thread nD τ) (ms8 t) fullShare ((dats m 0 c).before (8 : Fin 11) t d)) ∗ (∃ d, owns (c : Thread nD τ) (ms9 t) fullShare ((dats m 0 c).before (9 : Fin 11) t d)) ∗ (∃ d, owns (c : Thread nD τ) (ms10 t) fullShare ((dats m 0 c).before (10 : Fin 11) t d)))
      ⊢ wp frame (wpE (defs₀ (F := F)) Variants.none c none) Set.univ (bodyOn (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sH (Memref.isWhole_whole _)) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by

  rw [bigSep_W0]
  obtain ⟨i7, i8, i9, i10, f7, f8, f9, f10⟩ := schedAt t
  have j7 : idle0 (7 : Fin 11) (grid0.coords t) = false := i7.trans (decide_eq_false (by omega))
  have j8 : idle0 (8 : Fin 11) (grid0.coords t) = true := i8.trans (decide_eq_true (by omega))
  have j9 : idle0 (9 : Fin 11) (grid0.coords t) = true := i9.trans (decide_eq_true (by omega))
  have j10 : idle0 (10 : Fin 11) (grid0.coords t) = true := i10.trans (decide_eq_true (by omega))
  have g8 : (cfg0.win (8 : Fin 11)).flush t = false := f8.trans (decide_eq_false (by omega))
  have g9 : (cfg0.win (9 : Fin 11)).flush t = false := f9.trans (decide_eq_false (by omega))
  have g10 : (cfg0.win (10 : Fin 11)).flush t = false := f10.trans (decide_eq_false (by omega))
  simp only [j7, j8, j9, j10]
  simp only [before_0, before_1, before_2, before_3, before_4, before_5, before_6, after_0, after_1, after_2, after_3, after_4, after_5, after_6, after_7, after_8, after_9, after_10, g8, g9, g10, j7, j8, j9, j10]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi; simp only [Fin.val_castSucc, Fin.val_succ]
  iintro ⟨⟨⟨%dS, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := hS (by omega)
  iapply ((rB m c t (hrow m c (t.val / 5)) h).2 _)
  isplitl [H0 H1 H2 H3 H4 H5 H6]
  · unfold held
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [HS]; · iexact HS
  unfold held
  iintro ⟨⟨H0, H1, H2, H3, H4, H5, H6⟩, ⟨%e7, H7⟩, HS⟩
  isplitl [HS Hg]
  · isplitl [HS]
    · iexists _; isplitr; swap
      · iexact HS
      · ipureintro; intro h'
        rw [show (t.val + 1) / 5 = t.val / 5 from by omega]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap
    · iexact H7
    · ipureintro
      rw [a7_B m c t h]
      exact View.read_writes_of_cover _ _ _ _ _ (cov_o7B m c t (hrow m c (t.val / 5)) h)
  isplitl [H8]
  · iexists _; iexact H8
  isplitl [H9]
  · iexists _; iexact H9
  iexists _; iexact H10

set_option maxHeartbeats 4000000 in
theorem sound_C (c : Dev nD) (t : Fin cfg0.N) (h : t.val % 5 = 2) :
    iprop((dats m 0 c).Φ t.castSucc ∗ (dats m 0 c).owesAt () t.castSucc
        ∗ (∃ d, owns (c : Thread nD τ) (ms0 t) fullShare ((dats m 0 c).before (0 : Fin 11) t d)) ∗ (∃ d, owns (c : Thread nD τ) (ms1 t) fullShare ((dats m 0 c).before (1 : Fin 11) t d)) ∗ (∃ d, owns (c : Thread nD τ) (ms2 t) fullShare ((dats m 0 c).before (2 : Fin 11) t d)) ∗ (∃ d, owns (c : Thread nD τ) (ms3 t) fullShare ((dats m 0 c).before (3 : Fin 11) t d)) ∗ (∃ d, owns (c : Thread nD τ) (ms4 t) fullShare ((dats m 0 c).before (4 : Fin 11) t d)) ∗ (∃ d, owns (c : Thread nD τ) (ms5 t) fullShare ((dats m 0 c).before (5 : Fin 11) t d)) ∗ (∃ d, owns (c : Thread nD τ) (ms6 t) fullShare ((dats m 0 c).before (6 : Fin 11) t d)) ∗ (∃ d, owns (c : Thread nD τ) (ms7 t) fullShare ((dats m 0 c).before (7 : Fin 11) t d)) ∗ (∃ d, owns (c : Thread nD τ) (ms8 t) fullShare ((dats m 0 c).before (8 : Fin 11) t d)) ∗ (∃ d, owns (c : Thread nD τ) (ms9 t) fullShare ((dats m 0 c).before (9 : Fin 11) t d)) ∗ (∃ d, owns (c : Thread nD τ) (ms10 t) fullShare ((dats m 0 c).before (10 : Fin 11) t d)))
      ⊢ wp frame (wpE (defs₀ (F := F)) Variants.none c none) Set.univ (bodyOn (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sH (Memref.isWhole_whole _)) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by

  rw [bigSep_W0]
  obtain ⟨i7, i8, i9, i10, f7, f8, f9, f10⟩ := schedAt t
  have j7 : idle0 (7 : Fin 11) (grid0.coords t) = true := i7.trans (decide_eq_true (by omega))
  have j8 : idle0 (8 : Fin 11) (grid0.coords t) = false := i8.trans (decide_eq_false (by omega))
  have j9 : idle0 (9 : Fin 11) (grid0.coords t) = true := i9.trans (decide_eq_true (by omega))
  have j10 : idle0 (10 : Fin 11) (grid0.coords t) = true := i10.trans (decide_eq_true (by omega))
  have g7 : (cfg0.win (7 : Fin 11)).flush t = false := f7.trans (decide_eq_false (by omega))
  have g9 : (cfg0.win (9 : Fin 11)).flush t = false := f9.trans (decide_eq_false (by omega))
  have g10 : (cfg0.win (10 : Fin 11)).flush t = false := f10.trans (decide_eq_false (by omega))
  simp only [j7, j8, j9, j10]
  simp only [before_0, before_1, before_2, before_3, before_4, before_5, before_6, after_0, after_1, after_2, after_3, after_4, after_5, after_6, after_7, after_8, after_9, after_10, g7, g9, g10, j7, j8, j9, j10]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi; simp only [Fin.val_castSucc, Fin.val_succ]
  iintro ⟨⟨⟨%dS, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := hS (by omega)
  iapply ((rC m c t (hrow m c (t.val / 5)) h).2 _)
  isplitl [H0 H1 H2 H3 H4 H5 H6]
  · unfold held
    isplitl [H0]; · iexact H0
    isplitl [H1]; · iexact H1
    isplitl [H2]; · iexact H2
    isplitl [H3]; · iexact H3
    isplitl [H4]; · iexact H4
    isplitl [H5]; · iexact H5
    iexact H6
  isplitl [H8]; · iexists _; iexact H8
  isplitl [HS]; · iexact HS
  unfold held
  iintro ⟨⟨H0, H1, H2, H3, H4, H5, H6⟩, ⟨%e8, H8⟩, HS⟩
  isplitl [HS Hg]
  · isplitl [HS]
    · iexists _; isplitr; swap
      · iexact HS
      · ipureintro; intro h'
        rw [show (t.val + 1) / 5 = t.val / 5 from by omega]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; iexact H7
  isplitl [H8]
  · unfold owns; iexists _; isplitr; swap
    · iexact H8
    · ipureintro
      rw [a8_C m c t h]
      exact View.read_writes_of_cover _ _ _ _ _ (cov_o8C m c t (hrow m c (t.val / 5)) h)
  isplitl [H9]
  · iexists _; iexact H9
  iexists _; iexact H10

set_option maxHeartbeats 4000000 in
theorem sound_D (c : Dev nD) (t : Fin cfg0.N) (h : t.val % 5 = 3) :
    iprop((dats m 0 c).Φ t.castSucc ∗ (dats m 0 c).owesAt () t.castSucc
        ∗ (∃ d, owns (c : Thread nD τ) (ms0 t) fullShare ((dats m 0 c).before (0 : Fin 11) t d)) ∗ (∃ d, owns (c : Thread nD τ) (ms1 t) fullShare ((dats m 0 c).before (1 : Fin 11) t d)) ∗ (∃ d, owns (c : Thread nD τ) (ms2 t) fullShare ((dats m 0 c).before (2 : Fin 11) t d)) ∗ (∃ d, owns (c : Thread nD τ) (ms3 t) fullShare ((dats m 0 c).before (3 : Fin 11) t d)) ∗ (∃ d, owns (c : Thread nD τ) (ms4 t) fullShare ((dats m 0 c).before (4 : Fin 11) t d)) ∗ (∃ d, owns (c : Thread nD τ) (ms5 t) fullShare ((dats m 0 c).before (5 : Fin 11) t d)) ∗ (∃ d, owns (c : Thread nD τ) (ms6 t) fullShare ((dats m 0 c).before (6 : Fin 11) t d)) ∗ (∃ d, owns (c : Thread nD τ) (ms7 t) fullShare ((dats m 0 c).before (7 : Fin 11) t d)) ∗ (∃ d, owns (c : Thread nD τ) (ms8 t) fullShare ((dats m 0 c).before (8 : Fin 11) t d)) ∗ (∃ d, owns (c : Thread nD τ) (ms9 t) fullShare ((dats m 0 c).before (9 : Fin 11) t d)) ∗ (∃ d, owns (c : Thread nD τ) (ms10 t) fullShare ((dats m 0 c).before (10 : Fin 11) t d)))
      ⊢ wp frame (wpE (defs₀ (F := F)) Variants.none c none) Set.univ (bodyOn (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sH (Memref.isWhole_whole _)) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by

  rw [bigSep_W0]
  obtain ⟨i7, i8, i9, i10, f7, f8, f9, f10⟩ := schedAt t
  have j7 : idle0 (7 : Fin 11) (grid0.coords t) = true := i7.trans (decide_eq_true (by omega))
  have j8 : idle0 (8 : Fin 11) (grid0.coords t) = false := i8.trans (decide_eq_false (by omega))
  have j9 : idle0 (9 : Fin 11) (grid0.coords t) = true := i9.trans (decide_eq_true (by omega))
  have j10 : idle0 (10 : Fin 11) (grid0.coords t) = true := i10.trans (decide_eq_true (by omega))
  have g7 : (cfg0.win (7 : Fin 11)).flush t = false := f7.trans (decide_eq_false (by omega))
  have g9 : (cfg0.win (9 : Fin 11)).flush t = false := f9.trans (decide_eq_false (by omega))
  have g10 : (cfg0.win (10 : Fin 11)).flush t = false := f10.trans (decide_eq_false (by omega))
  simp only [j7, j8, j9, j10]
  simp only [before_0, before_1, before_2, before_3, before_4, before_5, before_6, after_0, after_1, after_2, after_3, after_4, after_5, after_6, after_7, after_8, after_9, after_10, g7, g9, g10, j7, j8, j9, j10]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi; simp only [Fin.val_castSucc, Fin.val_succ]
  iintro ⟨⟨⟨%dS, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := hS (by omega)
  iapply ((rD m c t (hrow m c (t.val / 5)) (by omega)).2 _)
  isplitl [H0 H1 H2 H3 H4 H5 H6]
  · unfold held
    isplitl [H0]; · iexact H0
    isplitl [H1]; · iexact H1
    isplitl [H2]; · iexact H2
    isplitl [H3]; · iexact H3
    isplitl [H4]; · iexact H4
    isplitl [H5]; · iexact H5
    iexact H6
  isplitl [H8]; · iexists _; iexact H8
  isplitl [HS]; · iexact HS
  unfold held
  iintro ⟨⟨H0, H1, H2, H3, H4, H5, H6⟩, ⟨%e8, H8⟩, HS⟩
  isplitl [HS Hg]
  · isplitl [HS]
    · iexists _; isplitr; swap
      · iexact HS
      · ipureintro; intro h'
        rw [show (t.val + 1) / 5 = t.val / 5 from by omega]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; iexact H7
  isplitl [H8]
  · unfold owns; iexists _; isplitr; swap
    · iexact H8
    · ipureintro
      rw [a8_D m c t (by omega)]
      exact View.read_writes_of_cover _ _ _ _ _ (cov_o8D m c t (hrow m c (t.val / 5)) (by omega))
  isplitl [H9]
  · iexists _; iexact H9
  iexists _; iexact H10

set_option maxHeartbeats 4000000 in
theorem sound_E (c : Dev nD) (t : Fin cfg0.N) (h : t.val % 5 = 4) :
    iprop((dats m 0 c).Φ t.castSucc ∗ (dats m 0 c).owesAt () t.castSucc
        ∗ (∃ d, owns (c : Thread nD τ) (ms0 t) fullShare ((dats m 0 c).before (0 : Fin 11) t d)) ∗ (∃ d, owns (c : Thread nD τ) (ms1 t) fullShare ((dats m 0 c).before (1 : Fin 11) t d)) ∗ (∃ d, owns (c : Thread nD τ) (ms2 t) fullShare ((dats m 0 c).before (2 : Fin 11) t d)) ∗ (∃ d, owns (c : Thread nD τ) (ms3 t) fullShare ((dats m 0 c).before (3 : Fin 11) t d)) ∗ (∃ d, owns (c : Thread nD τ) (ms4 t) fullShare ((dats m 0 c).before (4 : Fin 11) t d)) ∗ (∃ d, owns (c : Thread nD τ) (ms5 t) fullShare ((dats m 0 c).before (5 : Fin 11) t d)) ∗ (∃ d, owns (c : Thread nD τ) (ms6 t) fullShare ((dats m 0 c).before (6 : Fin 11) t d)) ∗ (∃ d, owns (c : Thread nD τ) (ms7 t) fullShare ((dats m 0 c).before (7 : Fin 11) t d)) ∗ (∃ d, owns (c : Thread nD τ) (ms8 t) fullShare ((dats m 0 c).before (8 : Fin 11) t d)) ∗ (∃ d, owns (c : Thread nD τ) (ms9 t) fullShare ((dats m 0 c).before (9 : Fin 11) t d)) ∗ (∃ d, owns (c : Thread nD τ) (ms10 t) fullShare ((dats m 0 c).before (10 : Fin 11) t d)))
      ⊢ wp frame (wpE (defs₀ (F := F)) Variants.none c none) Set.univ (bodyOn (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sH (Memref.isWhole_whole _)) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by

  rw [bigSep_W0]
  obtain ⟨i7, i8, i9, i10, f7, f8, f9, f10⟩ := schedAt t
  have j7 : idle0 (7 : Fin 11) (grid0.coords t) = true := i7.trans (decide_eq_true (by omega))
  have j8 : idle0 (8 : Fin 11) (grid0.coords t) = false := i8.trans (decide_eq_false (by omega))
  have j9 : idle0 (9 : Fin 11) (grid0.coords t) = true := i9.trans (decide_eq_true (by omega))
  have j10 : idle0 (10 : Fin 11) (grid0.coords t) = true := i10.trans (decide_eq_true (by omega))
  have g7 : (cfg0.win (7 : Fin 11)).flush t = true := f7.trans (decide_eq_true (by omega))
  have g9 : (cfg0.win (9 : Fin 11)).flush t = true := f9.trans (decide_eq_true (by omega))
  have g10 : (cfg0.win (10 : Fin 11)).flush t = true := f10.trans (decide_eq_true (by omega))
  simp only [j7, j8, j9, j10]
  simp only [before_0, before_1, before_2, before_3, before_4, before_5, before_6, after_0, after_1, after_2, after_3, after_4, after_5, after_6, after_7, after_8, after_9, after_10, g7, g9, g10, j7, j8, j9, j10]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi; simp only [Fin.val_castSucc, Fin.val_succ]
  iintro ⟨⟨⟨%dS, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := hS (by omega)
  iapply ((rD m c t (hrow m c (t.val / 5)) (by omega)).2 _)
  isplitl [H0 H1 H2 H3 H4 H5 H6]
  · unfold held
    isplitl [H0]; · iexact H0
    isplitl [H1]; · iexact H1
    isplitl [H2]; · iexact H2
    isplitl [H3]; · iexact H3
    isplitl [H4]; · iexact H4
    isplitl [H5]; · iexact H5
    iexact H6
  isplitl [H8]; · iexists _; iexact H8
  isplitl [HS]; · iexact HS
  unfold held
  iintro ⟨⟨H0, H1, H2, H3, H4, H5, H6⟩, ⟨%e8, H8⟩, HS⟩
  isplitl [HS Hg]
  · isplitl [HS]
    · iexists _; isplitr; swap
      · iexact HS
      · ipureintro; intro h'
        rw [show (t.val + 1) / 5 = t.val / 5 from by omega]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [before_7 m c t (by omega)]; iexact H7
  isplitl [H8]
  · unfold owns; iexists _; isplitr; swap
    · iexact H8
    · ipureintro
      rw [a8_D m c t (by omega)]
      exact View.read_writes_of_cover _ _ _ _ _ (cov_o8D m c t (hrow m c (t.val / 5)) (by omega))
  isplitl [H9]
  · rw [before_9 m c t (by omega)]; iexact H9
  rw [before_10 m c t (by omega)]; iexact H10

/-- The library's body obligation, at every point. -/
theorem body_obligation (c : Dev nD) : BodyObligation (dats m 0 c) (defs₀ (F := F)) Variants.none () Set.univ := fun t => by
  rw [bigSep_W0]
  have h5 := Nat.mod_lt t.val (by omega : 0 < 5)
  rcases (by omega : t.val % 5 = 0 ∨ t.val % 5 = 1 ∨ t.val % 5 = 2 ∨ t.val % 5 = 3 ∨ t.val % 5 = 4) with h | h | h | h | h
  · exact sound_A m c t h
  · exact sound_B m c t h
  · exact sound_C m c t h
  · exact sound_D m c t h
  · exact sound_E m c t h

/-! ## The launch -/

theorem PhiA_eq (c : Dev nD) :
    (Pipeline.ΦA spec0 c : sProp 𝕄) = iprop(iprop((∃ d, owns (c : Thread nD τ) sH fullShare d)) ∗ (∃ r, prngReg c r)) := by
  unfold Pipeline.ΦA; rw [scopedRest0_eq]; simp only [sH, owns_whole]; try rfl

theorem phi_intro (c : Dev nD) : Pipeline.ΦA spec0 c ⊢ (dats m 0 c).Φ 0 := by
  rw [show (dats m 0 c).Φ 0 = Phi m c 0 from rfl, PhiA_eq]
  unfold Phi
  iintro ⟨⟨%d, HS⟩, Hg⟩
  isplitl [HS]
  · iexists d; isplitr
    · ipureintro; intro h; exact absurd rfl h
    iexact HS
  iexact Hg

theorem phi_exit (c : Dev nD) : (dats m 0 c).Φ (Fin.last cfg0.N) ⊢ Pipeline.ΦA spec0 c := by
  rw [show (dats m 0 c).Φ (Fin.last cfg0.N) = Phi m c (Fin.last _) from rfl, PhiA_eq]
  unfold Phi
  iintro ⟨⟨%d, -, HS⟩, Hg⟩
  isplitl [HS]
  · iexists d; iexact HS
  iexact Hg

set_option backward.isDefEq.respectTransparency.types false in
set_option maxHeartbeats 4000000 in
/-- From any memory with zero counters every execution ends, every window's array as the pipeline leaves it, the other
    buffers as the host's operations left them and every counter at zero. -/
theorem run_main : θ_run (defs (F := F)) (onTc (τ := τ) (main (F := F))) (s₀ m ρ)
    (fun r => Pipeline.FramePost cfgs (dats m) 0 (V m) r ∧ r.2.sem = fun _ => 0) :=
  RDat.θ_run_frame_track_shared cfgs 0 launch₀0 defs₀ Variants.none
    (fun c => (dats m 0 c).toR) m ρ main
    (fun c => (body_obligation m c).toR) (fun c w _ => rfl) (fun _ _ => rfl) (V m)
    (hmain m Variants.none) (fun _ _ => rfl) (fun c => phi_intro m c) (fun c => phi_exit m c)
    _ (fun r h => ⟨RDat.FramePost.toDat cfgs (dats m) 0 (V m) r h.1, h.2⟩)

/-- The frame: every execution ends, the argument arrays unchanged and every counter at zero. -/
theorem frame_holds : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).1 0).trans (((dats m 0 c).arrAt_in 0 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.InprojIdeal.Hand

end
-- ==== Proof.Inproj.Frame.lean ====
/- The input projection's frame: the program and its ideal form have one text, so the run made once serves both. -/
module

public import proofs.«01_k».proof.Defs
public import proofs.«01_k».proof.Proof.Inproj.KernelIdeal.Frame
public import proofs.«01_k».proof.Proof.Gen.Inproj.Frame

@[expose] public section

set_option maxRecDepth 16384

namespace Cert.Proof

open Idealize.ShloMosaic Idealize.SL.Sem

/-- The two programs' kernel bodies are the same. -/
theorem inproj_rows_eq : Cert.Inproj.defs₀ (F := Bits) = Cert.InprojIdeal.defs₀ (F := Bits) := by
  refine congrArg Defs.onTc (funext fun l => funext fun a => ?_)
  match l, a with
  | 0, (t, s) => rfl
  | ⟨_ + 1, h⟩, _ => exact absurd h (Nat.not_lt.2 (Nat.le_add_left _ _))

theorem inproj_defs_eq : Cert.Inproj.defs (F := Bits) = Cert.InprojIdeal.defs (F := Bits) :=
  congrArg (Pipeline.defs (Cert.InprojIdeal.pcfgs (F := Bits))) inproj_rows_eq

theorem inproj_frame : Cert.quiescent_Inproj := fun m g _ => by
  have h := Cert.InprojIdeal.Hand.frame_holds (F := Bits) m g
  rw [← inproj_defs_eq] at h
  exact h

end Cert.Proof
-- ==== Proof.Inproj.Payload.lean ====
/- The input projection's payloads, read at an index. -/
module

public import proofs.«01_k».proof.Proof.Gen.InprojIdeal.Skeleton
public import Idealize.ShloMosaic.Lib.Pointwise
public import Idealize.ShloMosaic.Lib.KernelVsHost
public import Idealize.ShloMosaic.PureOps.Ideal.Laws

@[expose] public section

set_option maxRecDepth 16384

noncomputable section

namespace Cert.InprojIdeal.Inproj

open Cert.InprojIdeal Cert.InprojIdeal.Gen
open Idealize.ShloMosaic

/-- The small constant under a root, and the factor the query heads carry. -/
abbrev eps : EReal := FloatOps.ofBits (F := Ideal) .f32 0x358637BD#32
abbrev qc : EReal := FloatOps.ofBits (F := Ideal) .f32 0x3E0293EE#32

/-- A row over its root mean square, times the gain. -/
def normed (x g : Fin 2048 → EReal) (d : Fin 2048) : EReal :=
  x d * Ideal.rsqrt (Ideal.div (∑ e : Fin 2048, x e * x e) (FloatOps.ofBits (F := Ideal) .f32 0x45000000#32) + eps) * g d

/-- One over the root mean square of a head. -/
def rms (v : Fin 128 → EReal) : EReal :=
  Ideal.rsqrt (Ideal.div (∑ e : Fin 128, v e * v e) (FloatOps.ofBits (F := Ideal) .f32 0x43000000#32) + eps)

/-- The head that starts at `o`: each value over the head's root mean square, times the gain. -/
def head (z : Fin 1024 → EReal) (g : Fin 128 → EReal) (o : ℕ) (ho : o + 128 ≤ 1024) (d : Fin 128) : EReal :=
  z ⟨o + d.val, by omega⟩ * rms (fun e => z ⟨o + e.val, by omega⟩) * g d

/-- All heads of a row. -/
def heads (z : Fin 1024 → EReal) (g : Fin 128 → EReal) (n : Fin 1024) : EReal :=
  z n * rms (fun e => z ⟨128 * (n.val / 128) + e.val, by omega⟩) * g ⟨n.val % 128, Nat.mod_lt _ (by omega)⟩

theorem head_eq (z : Fin 1024 → EReal) (g : Fin 128 → EReal) (o : ℕ) (ho : o + 128 ≤ 1024) (h0 : o % 128 = 0) (d : Fin 128) (n : Fin 1024) (hn : n.val = o + d.val) :
    head z g o ho d = heads z g n := by
  have e : 128 * (n.val / 128) = o := by omega
  have e1 : n = ⟨o + d.val, by omega⟩ := Fin.ext hn
  have e2 : (⟨n.val % 128, Nat.mod_lt _ (by omega)⟩ : Fin 128) = d := Fin.ext (by show n.val % 128 = d.val; omega)
  unfold heads
  rw [e2]
  simp only [e]
  rw [show z n = z ⟨o + d.val, by omega⟩ from congrArg z e1]
  rfl

theorem pay1_at (x : FVec Ideal S1024x2048 .f32) (g : FVec Ideal S1x2048 .f32) (r : Fin 1024) (d : Fin 2048) :
    (k0_pay1 x g : FVec Ideal S1024x2048 .bf16) (ix2 r d) = normed (fun e => x (ix2 r e)) (fun e => g (ix2 0 e)) d := by
  pointwise [k0_pay1, normed]

theorem pay2_at (x : FVec Ideal S1024x2048 .f32) (g : FVec Ideal S1x2048 .f32) (r : Fin 1024) (d : Fin 2048) :
    (k0_pay2 x g : FVec Ideal S1024x2048 .bf16) (ix2 r d) = normed (fun e => x (ix2 r e)) (fun e => g (ix2 0 e)) d := by
  rw [← pay1_at]; pointwise [k0_pay2]

theorem pay3_at (x : FVec Ideal S1024x2048 .f32) (g : FVec Ideal S1x2048 .f32) (w : FVec Ideal S2048x128 .bf16) (r : Fin 1024) (n : Fin 128) :
    (k0_pay3 x g w : FVec Ideal S1024x128 .f32) (ix2 r n) = ∑ d : Fin 2048, normed (fun e => x (ix2 r e)) (fun e => g (ix2 0 e)) d * w (ix2 d n) := by
  simp only [← pay1_at]; pointwise [k0_pay3]

theorem pay4_at (x : FVec Ideal S1024x2048 .f32) (g : FVec Ideal S1x2048 .f32) (w : FVec Ideal S2048x128 .bf16) (r : Fin 1024) (n : Fin 64) :
    (k0_pay4 x g w : FVec Ideal S1024x64 .bf16) (ix2 r n) = ∑ d : Fin 2048, normed (fun e => x (ix2 r e)) (fun e => g (ix2 0 e)) d * w (ix2 d ⟨n.val, by omega⟩) := by
  rw [← pay3_at]; pointwise [k0_pay4]

theorem pay5_at (x : FVec Ideal S1024x2048 .f32) (g : FVec Ideal S1x2048 .f32) (w : FVec Ideal S2048x128 .bf16) (n : Fin 16) (r : Fin 1024) :
    (k0_pay5 x g w : FVec Ideal S16x1024 .f32) (ix2 n r)
      = (∑ d : Fin 2048, normed (fun e => x (ix2 r e)) (fun e => g (ix2 0 e)) d * w (ix2 d ⟨64 + n.val, by omega⟩))
        * FloatOps.ofBits (F := Ideal) .f32 0x3E800000#32 * FloatOps.ofBits (F := Ideal) .f32 0x3E000000#32 := by
  rw [← pay3_at]; pointwise [k0_pay5]

theorem pay6_at (h : FVec Ideal S1024x2048 .bf16) (w : FVec Ideal S2048x1024 .bf16) (r n : Fin 1024) :
    (k0_pay6 h w : FVec Ideal S1024x1024 .f32) (ix2 r n) = ∑ d : Fin 2048, h (ix2 r d) * w (ix2 d n) := by
  pointwise [k0_pay6]

theorem pay7_at (h : FVec Ideal S1024x2048 .bf16) (w : FVec Ideal S2048x1024 .bf16) (r n : Fin 1024) :
    (k0_pay7 h w : FVec Ideal S1024x1024 .bf16) (ix2 r n) = ∑ d : Fin 2048, h (ix2 r d) * w (ix2 d n) := by
  rw [← pay6_at]; pointwise [k0_pay7]

theorem pay9_at (w : FVec Ideal S2048x1024 .bf16) (h : FVec Ideal S1024x2048 .bf16) (n r : Fin 1024) :
    (k0_pay9 w h : FVec Ideal S1024x1024 .f32) (ix2 n r) = ∑ d : Fin 2048, w (ix2 d n) * h (ix2 r d) := by
  pointwise [k0_pay9]

theorem pay12_at (w : FVec Ideal S2048x1024 .bf16) (h : FVec Ideal S1024x2048 .bf16) (n r : Fin 1024) :
    (k0_pay12 w h : FVec Ideal S1024x1024 .bf16) (ix2 n r) = ∑ d : Fin 2048, w (ix2 d n) * h (ix2 r d) := by
  rw [← pay9_at]; pointwise [k0_pay12]

/-! ## The key heads -/

theorem kh0_at (z : FVec Ideal S1024x1024 .f32) (g : FVec Ideal S1x128 .f32) (r : Fin 1024) (d : Fin 128) :
    (k0_pay13 z g : FVec Ideal S1024x128 .bf16) (ix2 r d) = head (fun n => z (ix2 r n)) (fun e => g (ix2 0 e)) 0 (by omega) d := by
  pointwise [k0_pay13, head, rms]

theorem kh1_at (z : FVec Ideal S1024x1024 .f32) (g : FVec Ideal S1x128 .f32) (r : Fin 1024) (d : Fin 128) :
    (k0_pay14 z g : FVec Ideal S1024x128 .bf16) (ix2 r d) = head (fun n => z (ix2 r n)) (fun e => g (ix2 0 e)) 128 (by omega) d := by
  pointwise [k0_pay14, head, rms]

theorem kh2_at (z : FVec Ideal S1024x1024 .f32) (g : FVec Ideal S1x128 .f32) (r : Fin 1024) (d : Fin 128) :
    (k0_pay18 (k0_pay15 z) (k0_pay16 g) (k0_pay17 z) (Scalar.ofBits .f32 0x43000000#32) : FVec Ideal S1024x128 .bf16) (ix2 r d) = head (fun n => z (ix2 r n)) (fun e => g (ix2 0 e)) 256 (by omega) d := by
  pointwise [k0_pay18, k0_pay15, k0_pay16, k0_pay17, head, rms]

theorem kh3_at (z : FVec Ideal S1024x1024 .f32) (g : FVec Ideal S1x128 .f32) (r : Fin 1024) (d : Fin 128) :
    (k0_pay19 z g : FVec Ideal S1024x128 .bf16) (ix2 r d) = head (fun n => z (ix2 r n)) (fun e => g (ix2 0 e)) 384 (by omega) d := by
  pointwise [k0_pay19, head, rms]

theorem kh4_at (z : FVec Ideal S1024x1024 .f32) (g : FVec Ideal S1x128 .f32) (r : Fin 1024) (d : Fin 128) :
    (k0_pay21 (k0_pay20 z g) : FVec Ideal S1024x128 .bf16) (ix2 r d) = head (fun n => z (ix2 r n)) (fun e => g (ix2 0 e)) 512 (by omega) d := by
  pointwise [k0_pay21, k0_pay20, head, rms]

theorem kh5_at (z : FVec Ideal S1024x1024 .f32) (g : FVec Ideal S1x128 .f32) (r : Fin 1024) (d : Fin 128) :
    (k0_pay22 z g : FVec Ideal S1024x128 .bf16) (ix2 r d) = head (fun n => z (ix2 r n)) (fun e => g (ix2 0 e)) 640 (by omega) d := by
  pointwise [k0_pay22, head, rms]

theorem kh6_at (z : FVec Ideal S1024x1024 .f32) (g : FVec Ideal S1x128 .f32) (r : Fin 1024) (d : Fin 128) :
    (k0_pay23 z g : FVec Ideal S1024x128 .bf16) (ix2 r d) = head (fun n => z (ix2 r n)) (fun e => g (ix2 0 e)) 768 (by omega) d := by
  pointwise [k0_pay23, head, rms]

theorem kh7_at (z : FVec Ideal S1024x1024 .f32) (g : FVec Ideal S1x128 .f32) (r : Fin 1024) (d : Fin 128) :
    (k0_pay8 (k0_pay24 z) (k0_pay25 g) : FVec Ideal S1024x128 .bf16) (ix2 r d) = head (fun n => z (ix2 r n)) (fun e => g (ix2 0 e)) 896 (by omega) d := by
  pointwise [k0_pay8, k0_pay24, k0_pay25, head, rms]

/-! ## The query heads, their rows in columns -/

theorem qh0_at (z : FVec Ideal S1024x1024 .f32) (g : FVec Ideal S128x1 .f32) (d : Fin 128) (r : Fin 1024) :
    (k0_pay26 z g : FVec Ideal S128x1024 .bf16) (ix2 d r) = head (fun n => z (ix2 n r)) (fun e => g (ix2 e 0) * qc) 0 (by omega) d := by
  pointwise [k0_pay26, head, rms]

theorem qh1_at (z : FVec Ideal S1024x1024 .f32) (g : FVec Ideal S128x1 .f32) (d : Fin 128) (r : Fin 1024) :
    (k0_pay27 z g : FVec Ideal S128x1024 .bf16) (ix2 d r) = head (fun n => z (ix2 n r)) (fun e => g (ix2 e 0) * qc) 128 (by omega) d := by
  pointwise [k0_pay27, head, rms]

theorem qh2_at (z : FVec Ideal S1024x1024 .f32) (g : FVec Ideal S128x1 .f32) (d : Fin 128) (r : Fin 1024) :
    (k0_pay30 (k0_pay28 z) (k0_pay29 z) g : FVec Ideal S128x1024 .bf16) (ix2 d r) = head (fun n => z (ix2 n r)) (fun e => g (ix2 e 0) * qc) 256 (by omega) d := by
  pointwise [k0_pay30, k0_pay28, k0_pay29, head, rms]

theorem qh3_at (z : FVec Ideal S1024x1024 .f32) (g : FVec Ideal S128x1 .f32) (d : Fin 128) (r : Fin 1024) :
    (k0_pay31 z g : FVec Ideal S128x1024 .bf16) (ix2 d r) = head (fun n => z (ix2 n r)) (fun e => g (ix2 e 0) * qc) 384 (by omega) d := by
  pointwise [k0_pay31, head, rms]

theorem qh4_at (z : FVec Ideal S1024x1024 .f32) (g : FVec Ideal S128x1 .f32) (d : Fin 128) (r : Fin 1024) :
    (k0_pay34 (k0_pay32 z) (k0_pay33 z) g : FVec Ideal S128x1024 .bf16) (ix2 d r) = head (fun n => z (ix2 n r)) (fun e => g (ix2 e 0) * qc) 512 (by omega) d := by
  pointwise [k0_pay34, k0_pay32, k0_pay33, head, rms]

theorem qh5_at (z : FVec Ideal S1024x1024 .f32) (g : FVec Ideal S128x1 .f32) (d : Fin 128) (r : Fin 1024) :
    (k0_pay35 z g : FVec Ideal S128x1024 .bf16) (ix2 d r) = head (fun n => z (ix2 n r)) (fun e => g (ix2 e 0) * qc) 640 (by omega) d := by
  pointwise [k0_pay35, head, rms]

theorem qh6_at (z : FVec Ideal S1024x1024 .f32) (g : FVec Ideal S128x1 .f32) (d : Fin 128) (r : Fin 1024) :
    (k0_pay10 (k0_pay36 z) (k0_pay37 z) g : FVec Ideal S128x1024 .bf16) (ix2 d r) = head (fun n => z (ix2 n r)) (fun e => g (ix2 e 0) * qc) 768 (by omega) d := by
  pointwise [k0_pay10, k0_pay36, k0_pay37, head, rms]

theorem qh7_at (w : FVec Ideal S2048x1024 .bf16) (h : FVec Ideal S1024x2048 .bf16) (g : FVec Ideal S128x1 .f32) (d : Fin 128) (r : Fin 1024) :
    (k0_pay11 w h g : FVec Ideal S128x1024 .bf16) (ix2 d r) = head (fun n => (k0_pay9 w h : FVec Ideal S1024x1024 .f32) (ix2 n r)) (fun e => g (ix2 e 0) * qc) 896 (by omega) d := by
  unfold k0_pay11
  generalize (k0_pay9 w h : FVec Ideal S1024x1024 .f32) = z
  pointwise [head, rms]

end Cert.InprojIdeal.Inproj

end
-- ==== Proof.Inproj.Reads.lean ====
/- The input projection's arrays and the blocks the pipeline hands the body, read at an index. -/
module

public import proofs.«01_k».proof.Proof.Gen.InprojIdeal.Frame
public import proofs.«01_k».proof.Proof.Inproj.Payload
public import Idealize.ShloMosaic.Lib.StableHlo.Run
public import Idealize.ShloMosaic.Lib.Pipeline.ValueKit.Basic
public import Idealize.ShloMosaic.Lib.Pipeline.ValueKit.Geometry

@[expose] public section

set_option maxRecDepth 16384

noncomputable section

namespace Cert.InprojIdeal.Inproj

open Cert.InprojIdeal Cert.InprojIdeal.Gen
open Idealize.ShloMosaic Idealize.ShloMosaic.TcCoe Idealize.SL.Sem

variable (m : (ℓ : Loc nD τ sig) → Buf (Elt Ideal) ℓ) (c : Dev nD)

/-- The tokens, their gain, the weights, the query heads' gain, the key heads' gain. -/
abbrev aX : S16384x2048.Idx → EReal := m (c, main_arg0)
abbrev aG : S2048.Idx → EReal := m (c, main_arg1)
abbrev aW : S2048x5200.Idx → EReal := m (c, main_arg2)
abbrev aQ : S128.Idx → EReal := m (c, main_arg3)
abbrev aK : S128.Idx → EReal := m (c, main_arg4)

/-- A normed token. -/
def nrm (s : Fin 16384) (d : Fin 2048) : EReal := normed (fun e => aX m c (ix2 s e)) (fun e => aG m c (ix1 e)) d
/-- Column `n` of a normed token's product with the weights. -/
def Z (s : Fin 16384) (n : Fin 5200) : EReal := ∑ d : Fin 2048, nrm m c s d * aW m c (ix2 d n)

/-- The four results. -/
def G7 : S16384x2048.Idx → EReal := fun i =>
  if h : (i 1).val < 1024 then Z m c (i 0) ⟨(i 1).val, by omega⟩
  else heads (fun n => Z m c (i 0) ⟨2048 + n.val, by omega⟩) (fun e => aK m c (ix1 e)) ⟨(i 1).val - 1024, by have h1 : (i 1).val < 2048 := (i 1).isLt; omega⟩
def G8 : S3072x16384.Idx → EReal := fun i =>
  if h : (i 0).val < 1024 then heads (fun n => Z m c (i 1) ⟨1024 + n.val, by omega⟩) (fun e => aQ m c (ix1 e) * qc) ⟨(i 0).val, h⟩
  else Z m c (i 1) ⟨2048 + (i 0).val, by have h1 : (i 0).val < 3072 := (i 0).isLt; omega⟩
def G9 : S16384x64.Idx → EReal := fun i => Z m c (i 0) ⟨5120 + (i 1).val, by have h1 : (i 1).val < 64 := (i 1).isLt; omega⟩
def G10 : S16x16384.Idx → EReal := fun i =>
  Z m c (i 1) ⟨5184 + (i 0).val, by have h1 : (i 0).val < 16 := (i 0).isLt; omega⟩ * FloatOps.ofBits (F := Ideal) .f32 0x3E800000#32 * FloatOps.ofBits (F := Ideal) .f32 0x3E000000#32

/-! ## The arrays the pipeline reads -/

abbrev main5120 : S2048x5120.Idx → EReal := truncf (F := Ideal) .bf16 (extractStridedSlice S2048x5120 ![0, 0] (aW m c) slices_S2048x5200_S2048x5120_0_0) bitsLt_bf16_f32
abbrev tail128 : S2048x128.Idx → EReal :=
  truncf (F := Ideal) .bf16 (pad S2048x128 ![0, 0] ![0, 48] ![0, 0] (extractStridedSlice S2048x80 ![0, 5120] (aW m c) slices_S2048x5200_S2048x80_0_5120) (sitofp (F := Ideal) .f32 (constantI S_ 32 0#32)) pads_S2048x80_S2048x128_000_0480 h_S_) bitsLt_bf16_f32

theorem V_v1 : V m c main_v1 = main5120 m c := by
  unfold V
  simp only [hostOps0, hostOps0_1, hostOps0_2, List.flatten_cons, List.flatten_nil, List.append_nil, List.cons_append, List.nil_append]
  after_results
theorem V_v4 : V m c main_v4 = tail128 m c := by
  unfold V
  simp only [hostOps0, hostOps0_1, hostOps0_2, List.flatten_cons, List.flatten_nil, List.append_nil, List.cons_append, List.nil_append]
  after_results
  rfl
theorem V_v5 : V m c main_v5 = shapeCast S1x2048 (aG m c) shapeCasts_S2048_S1x2048 := by
  unfold V
  simp only [hostOps0, hostOps0_1, hostOps0_2, List.flatten_cons, List.flatten_nil, List.append_nil, List.cons_append, List.nil_append]
  after_results
  rfl
theorem V_v6 : V m c main_v6 = shapeCast S1x128 (aK m c) shapeCasts_S128_S1x128 := by
  unfold V
  simp only [hostOps0, hostOps0_1, hostOps0_2, List.flatten_cons, List.flatten_nil, List.append_nil, List.cons_append, List.nil_append]
  after_results
  rfl
theorem V_v7 : V m c main_v7 = shapeCast S128x1 (aQ m c) shapeCasts_S128_S128x1 := by
  unfold V
  simp only [hostOps0, hostOps0_1, hostOps0_2, List.flatten_cons, List.flatten_nil, List.append_nil, List.cons_append, List.nil_append]
  after_results
  rfl

theorem main_at (d : Fin 2048) (n : Fin 5120) : main5120 m c (ix2 d n) = aW m c (ix2 d ⟨n.val, by omega⟩) := by
  pointwise
theorem tail_at (d : Fin 2048) (n : Fin 128) (h : n.val < 80) : tail128 m c (ix2 d n) = aW m c (ix2 d ⟨5120 + n.val, by omega⟩) := by
  refine Eq.trans (b := pad S2048x128 ![0, 0] ![0, 48] ![0, 0] (extractStridedSlice S2048x80 ![0, 5120] (aW m c) slices_S2048x5200_S2048x80_0_5120) (sitofp (F := Ideal) .f32 (constantI S_ 32 0#32)) pads_S2048x80_S2048x128_000_0480 h_S_ (ix2 d n)) rfl ?_
  refine (pad_apply_of_inside _ _ _ _ _ _ _ _ (ix2 d (⟨n.val, h⟩ : Fin 80)) ?_).trans ?_
  · intro a
    fin_cases a
    · show d.val = 0 + d.val * (0 + 1)
      omega
    · show n.val = 0 + n.val * (0 + 1)
      omega
  · exact extractStridedSlice_apply ![0, 5120] (aW m c) slices_S2048x5200_S2048x80_0_5120 (ix2 d (⟨n.val, h⟩ : Fin 80)) (ix2 d ⟨5120 + n.val, by omega⟩) (fun a => match a with
      | ⟨0, _⟩ => (Nat.zero_add _).symm
      | ⟨1, _⟩ => rfl)
theorem gain_at (d : Fin 2048) : (shapeCast S1x2048 (aG m c) shapeCasts_S2048_S1x2048 : S1x2048.Idx → EReal) (ix2 0 d) = aG m c (ix1 d) := by
  pointwise
theorem kgain_at (d : Fin 128) : (shapeCast S1x128 (aK m c) shapeCasts_S128_S1x128 : S1x128.Idx → EReal) (ix2 0 d) = aK m c (ix1 d) := by
  pointwise
theorem qgain_at (d : Fin 128) : (shapeCast S128x1 (aQ m c) shapeCasts_S128_S128x1 : S128x1.Idx → EReal) (ix2 d 0) = aQ m c (ix1 d) := by
  pointwise

/-! ## The blocks -/

theorem win_index : ∀ t : Fin cfg0.N,
    ((cfg0.win (0 : Fin 11)).index t (0 : Fin 2) = t.val / 5 ∧ (cfg0.win (0 : Fin 11)).index t (1 : Fin 2) = 0)
    ∧ ((cfg0.win (1 : Fin 11)).index t (0 : Fin 2) = 0 ∧ (cfg0.win (1 : Fin 11)).index t (1 : Fin 2) = 0)
    ∧ ((cfg0.win (2 : Fin 11)).index t (0 : Fin 2) = 0 ∧ (cfg0.win (2 : Fin 11)).index t (1 : Fin 2) = if t.val % 5 = 0 then 0 else 2)
    ∧ ((cfg0.win (3 : Fin 11)).index t (0 : Fin 2) = 0 ∧ (cfg0.win (3 : Fin 11)).index t (1 : Fin 2) = if t.val % 5 ≤ 2 then 1 else t.val % 5)
    ∧ ((cfg0.win (4 : Fin 11)).index t (0 : Fin 2) = 0 ∧ (cfg0.win (4 : Fin 11)).index t (1 : Fin 2) = 0)
    ∧ ((cfg0.win (5 : Fin 11)).index t (0 : Fin 2) = 0 ∧ (cfg0.win (5 : Fin 11)).index t (1 : Fin 2) = 0)
    ∧ ((cfg0.win (6 : Fin 11)).index t (0 : Fin 2) = 0 ∧ (cfg0.win (6 : Fin 11)).index t (1 : Fin 2) = 0) := by decide +kernel

theorem out_index : ∀ t : Fin cfg0.N,
    ((cfg0.win (7 : Fin 11)).index t (0 : Fin 2) = t.val / 5 ∧ (cfg0.win (7 : Fin 11)).index t (1 : Fin 2) = if t.val % 5 = 0 then 0 else 1)
    ∧ ((cfg0.win (8 : Fin 11)).index t (0 : Fin 2) = t.val % 5 - 2 ∧ (cfg0.win (8 : Fin 11)).index t (1 : Fin 2) = t.val / 5)
    ∧ ((cfg0.win (9 : Fin 11)).index t (0 : Fin 2) = t.val / 5 ∧ (cfg0.win (9 : Fin 11)).index t (1 : Fin 2) = 0)
    ∧ ((cfg0.win (10 : Fin 11)).index t (0 : Fin 2) = 0 ∧ (cfg0.win (10 : Fin 11)).index t (1 : Fin 2) = t.val / 5) := by decide +kernel

theorem out_size : ∀ t : Fin cfg0.N,
    ((cfg0.win (7 : Fin 11)).xsize (grid0.coords t) (0 : Fin 2) = 1024 ∧ (cfg0.win (7 : Fin 11)).xsize (grid0.coords t) (1 : Fin 2) = 1024)
    ∧ ((cfg0.win (8 : Fin 11)).xsize (grid0.coords t) (0 : Fin 2) = 1024 ∧ (cfg0.win (8 : Fin 11)).xsize (grid0.coords t) (1 : Fin 2) = 1024)
    ∧ ((cfg0.win (9 : Fin 11)).xsize (grid0.coords t) (0 : Fin 2) = 1024 ∧ (cfg0.win (9 : Fin 11)).xsize (grid0.coords t) (1 : Fin 2) = 64)
    ∧ ((cfg0.win (10 : Fin 11)).xsize (grid0.coords t) (0 : Fin 2) = 16 ∧ (cfg0.win (10 : Fin 11)).xsize (grid0.coords t) (1 : Fin 2) = 1024) := by decide +kernel

/-- Row `r` of the row block of point `t`. -/
def tok (t : Fin cfg0.N) (r : Fin 1024) : Fin 16384 := ⟨1024 * (t.val / 5) + r.val, by have : t.val < 80 := t.isLt; omega⟩

theorem iblk0_at (t : Fin cfg0.N) (r : Fin 1024) (k : Fin 2048) :
    (iblk m c (0 : Fin 11) t : S1024x2048.Idx → EReal) (ix2 r k) = aX m c (ix2 (tok t r) k) := by
  have hi := (win_index t).1
  unfold iblk
  rw [View.read_apply]
  show V m c main_arg0 _ = _
  rw [V_main_arg0]
  refine congrArg (aX m c) (funext fun a => Fin.ext ?_)
  refine ((cfg0.win (0 : Fin 11)).rect_emb_val t _ a).trans ?_
  fin_cases a
  · show (cfg0.win (0 : Fin 11)).index t (0 : Fin 2) * 1024 + r.val = 1024 * (t.val / 5) + r.val
    rw [hi.1]; omega
  · show (cfg0.win (0 : Fin 11)).index t (1 : Fin 2) * 2048 + k.val = k.val
    rw [hi.2]; omega

theorem iblk1_at (t : Fin cfg0.N) (k : Fin 2048) :
    (iblk m c (1 : Fin 11) t : S1x2048.Idx → EReal) (ix2 0 k) = aG m c (ix1 k) := by
  have hi := (win_index t).2.1
  unfold iblk
  rw [View.read_apply]
  show V m c main_v5 _ = _
  rw [V_v5, ← gain_at]
  refine congrArg (shapeCast S1x2048 (aG m c) shapeCasts_S2048_S1x2048) (funext fun a => Fin.ext ?_)
  refine ((cfg0.win (1 : Fin 11)).rect_emb_val t _ a).trans ?_
  fin_cases a
  · show (cfg0.win (1 : Fin 11)).index t (0 : Fin 2) * 1 + 0 = 0
    rw [hi.1]
  · show (cfg0.win (1 : Fin 11)).index t (1 : Fin 2) * 2048 + k.val = k.val
    rw [hi.2]; omega

theorem iblk4_at (t : Fin cfg0.N) (d : Fin 2048) (n : Fin 128) :
    (iblk m c (4 : Fin 11) t : S2048x128.Idx → EReal) (ix2 d n) = tail128 m c (ix2 d n) := by
  have hi := (win_index t).2.2.2.2.1
  unfold iblk
  rw [View.read_apply]
  show V m c main_v4 _ = _
  rw [V_v4]
  refine congrArg (tail128 m c) (funext fun a => Fin.ext ?_)
  refine ((cfg0.win (4 : Fin 11)).rect_emb_val t _ a).trans ?_
  fin_cases a
  · show (cfg0.win (4 : Fin 11)).index t (0 : Fin 2) * 2048 + d.val = d.val
    rw [hi.1]; omega
  · show (cfg0.win (4 : Fin 11)).index t (1 : Fin 2) * 128 + n.val = n.val
    rw [hi.2]; omega

theorem iblk5_at (t : Fin cfg0.N) (k : Fin 128) :
    (iblk m c (5 : Fin 11) t : S1x128.Idx → EReal) (ix2 0 k) = aK m c (ix1 k) := by
  have hi := (win_index t).2.2.2.2.2.1
  unfold iblk
  rw [View.read_apply]
  show V m c main_v6 _ = _
  rw [V_v6, ← kgain_at]
  refine congrArg (shapeCast S1x128 (aK m c) shapeCasts_S128_S1x128) (funext fun a => Fin.ext ?_)
  refine ((cfg0.win (5 : Fin 11)).rect_emb_val t _ a).trans ?_
  fin_cases a
  · show (cfg0.win (5 : Fin 11)).index t (0 : Fin 2) * 1 + 0 = 0
    rw [hi.1]
  · show (cfg0.win (5 : Fin 11)).index t (1 : Fin 2) * 128 + k.val = k.val
    rw [hi.2]; omega

theorem iblk6_at (t : Fin cfg0.N) (k : Fin 128) :
    (iblk m c (6 : Fin 11) t : S128x1.Idx → EReal) (ix2 k 0) = aQ m c (ix1 k) := by
  have hi := (win_index t).2.2.2.2.2.2
  unfold iblk
  rw [View.read_apply]
  show V m c main_v7 _ = _
  rw [V_v7, ← qgain_at]
  refine congrArg (shapeCast S128x1 (aQ m c) shapeCasts_S128_S128x1) (funext fun a => Fin.ext ?_)
  refine ((cfg0.win (6 : Fin 11)).rect_emb_val t _ a).trans ?_
  fin_cases a
  · show (cfg0.win (6 : Fin 11)).index t (0 : Fin 2) * 128 + k.val = k.val
    rw [hi.1]; omega
  · show (cfg0.win (6 : Fin 11)).index t (1 : Fin 2) * 1 + 0 = 0
    rw [hi.2]

theorem iblk2_at (t : Fin cfg0.N) (d : Fin 2048) (n : Fin 1024) (o : Fin 5200) (ho : o.val = (if t.val % 5 = 0 then 0 else 2) * 1024 + n.val) :
    (iblk m c (2 : Fin 11) t : S2048x1024.Idx → EReal) (ix2 d n) = aW m c (ix2 d o) := by
  have hi := (win_index t).2.2.1
  have hl : o.val < 5120 := by have := n.isLt; have := Nat.mod_lt t.val (by omega : 0 < 5); rw [ho]; split_ifs <;> omega
  unfold iblk
  rw [View.read_apply]
  show V m c main_v1 _ = _
  rw [V_v1]
  refine Eq.trans ?_ (main_at m c d ⟨o.val, hl⟩)
  refine congrArg (main5120 m c) (funext fun a => Fin.ext ?_)
  refine ((cfg0.win (2 : Fin 11)).rect_emb_val t _ a).trans ?_
  fin_cases a
  · show (cfg0.win (2 : Fin 11)).index t (0 : Fin 2) * 2048 + d.val = d.val
    rw [hi.1]; omega
  · show (cfg0.win (2 : Fin 11)).index t (1 : Fin 2) * 1024 + n.val = o.val
    rw [hi.2]; exact ho.symm

theorem iblk3_at (t : Fin cfg0.N) (d : Fin 2048) (n : Fin 1024) (o : Fin 5200) (ho : o.val = (if t.val % 5 ≤ 2 then 1 else t.val % 5) * 1024 + n.val) :
    (iblk m c (3 : Fin 11) t : S2048x1024.Idx → EReal) (ix2 d n) = aW m c (ix2 d o) := by
  have hi := (win_index t).2.2.2.1
  have hl : o.val < 5120 := by have := n.isLt; have := Nat.mod_lt t.val (by omega : 0 < 5); rw [ho]; split_ifs <;> omega
  unfold iblk
  rw [View.read_apply]
  show V m c main_v1 _ = _
  rw [V_v1]
  refine Eq.trans ?_ (main_at m c d ⟨o.val, hl⟩)
  refine congrArg (main5120 m c) (funext fun a => Fin.ext ?_)
  refine ((cfg0.win (3 : Fin 11)).rect_emb_val t _ a).trans ?_
  fin_cases a
  · show (cfg0.win (3 : Fin 11)).index t (0 : Fin 2) * 2048 + d.val = d.val
    rw [hi.1]; omega
  · show (cfg0.win (3 : Fin 11)).index t (1 : Fin 2) * 1024 + n.val = o.val
    rw [hi.2]; exact ho.symm

end Cert.InprojIdeal.Inproj

end
-- ==== Proof.Inproj.Pieces.lean ====
/- What the input projection's body leaves at each point, read at an index. -/
module

public import proofs.«01_k».proof.Proof.Inproj.KernelIdeal.Outs
public import proofs.«01_k».proof.Proof.Inproj.Reads
public import Idealize.ShloMosaic.Lib.WholeRead
public import Idealize.ShloMosaic.Lib.VecWindow

@[expose] public section

set_option maxRecDepth 16384

noncomputable section

namespace Cert.InprojIdeal.Inproj

open Cert.InprojIdeal Cert.InprojIdeal.Gen Cert.InprojIdeal.Hand
open Idealize.ShloMosaic Idealize.ShloMosaic.TcCoe Idealize.SL.Sem

/-- A load of all of a memory that holds `x`. -/
theorem full_unread {κ : Kind} {sp : Space} {s : Shape} {e : EltTy} (a : Memref sig κ sp s e) (h : a.IsWhole) (x : s.Idx → Elt Ideal e) {off : Fin s.rank → ℕ} (inb : ∀ b, off b + s.size b ≤ s.size b) :
    a.view.readAt (Elt Ideal) (Rect.unit off s.size inb).toLoadRect (h.unread x) = x :=
  (View.readAt_full a.view _ inb).trans (h.read_unread x)

/-! ## The heads' pieces -/

/-- The eight key heads, each a piece of 128 columns, the last stored first. -/
def kPieces (z : FVec Ideal S1024x1024 .f32) (g : FVec Ideal S1x128 .f32) : List (View.Piece (Elt Ideal) S1024x1024 .bf16) :=
  [⟨Rect.unit (s := S1024x1024) ![0, 896] S1024x128.size inb_S1024x1024_S1024x128_0_896, k0_pay8 (k0_pay24 z) (k0_pay25 g)⟩,
   ⟨Rect.unit (s := S1024x1024) ![0, 768] S1024x128.size inb_S1024x1024_S1024x128_0_768, k0_pay23 z g⟩,
   ⟨Rect.unit (s := S1024x1024) ![0, 640] S1024x128.size inb_S1024x1024_S1024x128_0_640, k0_pay22 z g⟩,
   ⟨Rect.unit (s := S1024x1024) ![0, 512] S1024x128.size inb_S1024x1024_S1024x128_0_512, k0_pay21 (k0_pay20 z g)⟩,
   ⟨Rect.unit (s := S1024x1024) ![0, 384] S1024x128.size inb_S1024x1024_S1024x128_0_384, k0_pay19 z g⟩,
   ⟨Rect.unit (s := S1024x1024) ![0, 256] S1024x128.size inb_S1024x1024_S1024x128_0_256, k0_pay18 (k0_pay15 z) (k0_pay16 g) (k0_pay17 z) (Scalar.ofBits .f32 0x43000000#32)⟩,
   ⟨Rect.unit (s := S1024x1024) ![0, 128] S1024x128.size inb_S1024x1024_S1024x128_0_128, k0_pay14 z g⟩,
   ⟨Rect.unit (s := S1024x1024) ![0, 0] S1024x128.size inb_S1024x1024_S1024x128_0_0, k0_pay13 z g⟩]
/-- The eight query heads, each a piece of 128 rows. -/
def qPieces (w : FVec Ideal S2048x1024 .bf16) (h : FVec Ideal S1024x2048 .bf16) (g : FVec Ideal S128x1 .f32) : List (View.Piece (Elt Ideal) S1024x1024 .bf16) :=
  [⟨Rect.unit (s := S1024x1024) ![896, 0] S128x1024.size inb_S1024x1024_S128x1024_896_0, (k0_pay11 w h g : FVec Ideal S128x1024 .bf16)⟩,
   ⟨Rect.unit (s := S1024x1024) ![768, 0] S128x1024.size inb_S1024x1024_S128x1024_768_0, (k0_pay10 (k0_pay36 (k0_pay9 w h)) (k0_pay37 (k0_pay9 w h)) g : FVec Ideal S128x1024 .bf16)⟩,
   ⟨Rect.unit (s := S1024x1024) ![640, 0] S128x1024.size inb_S1024x1024_S128x1024_640_0, (k0_pay35 (k0_pay9 w h) g : FVec Ideal S128x1024 .bf16)⟩,
   ⟨Rect.unit (s := S1024x1024) ![512, 0] S128x1024.size inb_S1024x1024_S128x1024_512_0, (k0_pay34 (k0_pay32 (k0_pay9 w h)) (k0_pay33 (k0_pay9 w h)) g : FVec Ideal S128x1024 .bf16)⟩,
   ⟨Rect.unit (s := S1024x1024) ![384, 0] S128x1024.size inb_S1024x1024_S128x1024_384_0, (k0_pay31 (k0_pay9 w h) g : FVec Ideal S128x1024 .bf16)⟩,
   ⟨Rect.unit (s := S1024x1024) ![256, 0] S128x1024.size inb_S1024x1024_S128x1024_256_0, (k0_pay30 (k0_pay28 (k0_pay9 w h)) (k0_pay29 (k0_pay9 w h)) g : FVec Ideal S128x1024 .bf16)⟩,
   ⟨Rect.unit (s := S1024x1024) ![128, 0] S128x1024.size inb_S1024x1024_S128x1024_128_0, (k0_pay27 (k0_pay9 w h) g : FVec Ideal S128x1024 .bf16)⟩,
   ⟨Rect.unit (s := S1024x1024) ![0, 0] S128x1024.size inb_S1024x1024_S128x1024_0_0, (k0_pay26 (k0_pay9 w h) g : FVec Ideal S128x1024 .bf16)⟩]

theorem kPieces_at (z : FVec Ideal S1024x1024 .f32) (g : FVec Ideal S1x128 .f32) :
    ∀ p ∈ kPieces z g, ∀ x, p.2 x = heads (fun n => z (ix2 (p.1.emb x 0) n)) (fun e => g (ix2 0 e)) (p.1.emb x 1) := by
  unfold kPieces
  simp only [List.forall_mem_cons]
  refine ⟨?_, ?_, ?_, ?_, ?_, ?_, ?_, ?_, fun _ h => absurd h List.not_mem_nil⟩
  · intro x
    have ex : x = ix2 (x (0 : Fin 2)) (x (1 : Fin 2)) := funext fun a => by fin_cases a <;> rfl
    have e0 : (Rect.unit (s := S1024x1024) ![0, 896] S1024x128.size inb_S1024x1024_S1024x128_0_896).emb x 0 = (x (0 : Fin 2) : Fin 1024) := Fin.ext (by show 0 + 1 * (x (0 : Fin 2)).val = _; omega)
    have e1 : ((Rect.unit (s := S1024x1024) ![0, 896] S1024x128.size inb_S1024x1024_S1024x128_0_896).emb x 1).val = 896 + (x (1 : Fin 2)).val := by show 896 + 1 * (x (1 : Fin 2)).val = _; omega
    refine Eq.trans ?_ ((kh7_at z g (x (0 : Fin 2)) (x (1 : Fin 2))).trans ((head_eq _ _ 896 (by omega) (by omega) (x (1 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![0, 768] S1024x128.size inb_S1024x1024_S1024x128_0_768).emb x 0 = (x (0 : Fin 2) : Fin 1024) := Fin.ext (by show 0 + 1 * (x (0 : Fin 2)).val = _; omega)
    have e1 : ((Rect.unit (s := S1024x1024) ![0, 768] S1024x128.size inb_S1024x1024_S1024x128_0_768).emb x 1).val = 768 + (x (1 : Fin 2)).val := by show 768 + 1 * (x (1 : Fin 2)).val = _; omega
    refine Eq.trans ?_ ((kh6_at z g (x (0 : Fin 2)) (x (1 : Fin 2))).trans ((head_eq _ _ 768 (by omega) (by omega) (x (1 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![0, 640] S1024x128.size inb_S1024x1024_S1024x128_0_640).emb x 0 = (x (0 : Fin 2) : Fin 1024) := Fin.ext (by show 0 + 1 * (x (0 : Fin 2)).val = _; omega)
    have e1 : ((Rect.unit (s := S1024x1024) ![0, 640] S1024x128.size inb_S1024x1024_S1024x128_0_640).emb x 1).val = 640 + (x (1 : Fin 2)).val := by show 640 + 1 * (x (1 : Fin 2)).val = _; omega
    refine Eq.trans ?_ ((kh5_at z g (x (0 : Fin 2)) (x (1 : Fin 2))).trans ((head_eq _ _ 640 (by omega) (by omega) (x (1 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![0, 512] S1024x128.size inb_S1024x1024_S1024x128_0_512).emb x 0 = (x (0 : Fin 2) : Fin 1024) := Fin.ext (by show 0 + 1 * (x (0 : Fin 2)).val = _; omega)
    have e1 : ((Rect.unit (s := S1024x1024) ![0, 512] S1024x128.size inb_S1024x1024_S1024x128_0_512).emb x 1).val = 512 + (x (1 : Fin 2)).val := by show 512 + 1 * (x (1 : Fin 2)).val = _; omega
    refine Eq.trans ?_ ((kh4_at z g (x (0 : Fin 2)) (x (1 : Fin 2))).trans ((head_eq _ _ 512 (by omega) (by omega) (x (1 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![0, 384] S1024x128.size inb_S1024x1024_S1024x128_0_384).emb x 0 = (x (0 : Fin 2) : Fin 1024) := Fin.ext (by show 0 + 1 * (x (0 : Fin 2)).val = _; omega)
    have e1 : ((Rect.unit (s := S1024x1024) ![0, 384] S1024x128.size inb_S1024x1024_S1024x128_0_384).emb x 1).val = 384 + (x (1 : Fin 2)).val := by show 384 + 1 * (x (1 : Fin 2)).val = _; omega
    refine Eq.trans ?_ ((kh3_at z g (x (0 : Fin 2)) (x (1 : Fin 2))).trans ((head_eq _ _ 384 (by omega) (by omega) (x (1 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![0, 256] S1024x128.size inb_S1024x1024_S1024x128_0_256).emb x 0 = (x (0 : Fin 2) : Fin 1024) := Fin.ext (by show 0 + 1 * (x (0 : Fin 2)).val = _; omega)
    have e1 : ((Rect.unit (s := S1024x1024) ![0, 256] S1024x128.size inb_S1024x1024_S1024x128_0_256).emb x 1).val = 256 + (x (1 : Fin 2)).val := by show 256 + 1 * (x (1 : Fin 2)).val = _; omega
    refine Eq.trans ?_ ((kh2_at z g (x (0 : Fin 2)) (x (1 : Fin 2))).trans ((head_eq _ _ 256 (by omega) (by omega) (x (1 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![0, 128] S1024x128.size inb_S1024x1024_S1024x128_0_128).emb x 0 = (x (0 : Fin 2) : Fin 1024) := Fin.ext (by show 0 + 1 * (x (0 : Fin 2)).val = _; omega)
    have e1 : ((Rect.unit (s := S1024x1024) ![0, 128] S1024x128.size inb_S1024x1024_S1024x128_0_128).emb x 1).val = 128 + (x (1 : Fin 2)).val := by show 128 + 1 * (x (1 : Fin 2)).val = _; omega
    refine Eq.trans ?_ ((kh1_at z g (x (0 : Fin 2)) (x (1 : Fin 2))).trans ((head_eq _ _ 128 (by omega) (by omega) (x (1 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![0, 0] S1024x128.size inb_S1024x1024_S1024x128_0_0).emb x 0 = (x (0 : Fin 2) : Fin 1024) := Fin.ext (by show 0 + 1 * (x (0 : Fin 2)).val = _; omega)
    have e1 : ((Rect.unit (s := S1024x1024) ![0, 0] S1024x128.size inb_S1024x1024_S1024x128_0_0).emb x 1).val = 0 + (x (1 : Fin 2)).val := by show 0 + 1 * (x (1 : Fin 2)).val = _; omega
    refine Eq.trans ?_ ((kh0_at z g (x (0 : Fin 2)) (x (1 : Fin 2))).trans ((head_eq _ _ 0 (by omega) (by omega) (x (1 : Fin 2)) _ e1).trans ?_))
    · exact congrArg _ ex
    · rw [e0]

theorem qPieces_at (w : FVec Ideal S2048x1024 .bf16) (h : FVec Ideal S1024x2048 .bf16) (g : FVec Ideal S128x1 .f32) :
    ∀ p ∈ qPieces w h g, ∀ x, p.2 x = heads (fun n => (k0_pay9 w h : FVec Ideal S1024x1024 .f32) (ix2 n (p.1.emb x 1))) (fun e => g (ix2 e 0) * qc) (p.1.emb x 0) := by
  unfold qPieces
  simp only [List.forall_mem_cons]
  refine ⟨?_, ?_, ?_, ?_, ?_, ?_, ?_, ?_, fun _ h => absurd h List.not_mem_nil⟩
  · intro x
    have ex : x = ix2 (x (0 : Fin 2)) (x (1 : Fin 2)) := funext fun a => by fin_cases a <;> rfl
    have e0 : (Rect.unit (s := S1024x1024) ![896, 0] S128x1024.size inb_S1024x1024_S128x1024_896_0).emb x 1 = (x (1 : Fin 2) : Fin 1024) := Fin.ext (by show 0 + 1 * (x (1 : Fin 2)).val = _; omega)
    have e1 : ((Rect.unit (s := S1024x1024) ![896, 0] S128x1024.size inb_S1024x1024_S128x1024_896_0).emb x 0).val = 896 + (x (0 : Fin 2)).val := by show 896 + 1 * (x (0 : Fin 2)).val = _; omega
    refine Eq.trans ?_ ((qh7_at w h g (x (0 : Fin 2)) (x (1 : Fin 2))).trans ((head_eq _ _ 896 (by omega) (by omega) (x (0 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![768, 0] S128x1024.size inb_S1024x1024_S128x1024_768_0).emb x 1 = (x (1 : Fin 2) : Fin 1024) := Fin.ext (by show 0 + 1 * (x (1 : Fin 2)).val = _; omega)
    have e1 : ((Rect.unit (s := S1024x1024) ![768, 0] S128x1024.size inb_S1024x1024_S128x1024_768_0).emb x 0).val = 768 + (x (0 : Fin 2)).val := by show 768 + 1 * (x (0 : Fin 2)).val = _; omega
    refine Eq.trans ?_ ((qh6_at (k0_pay9 w h) g (x (0 : Fin 2)) (x (1 : Fin 2))).trans ((head_eq _ _ 768 (by omega) (by omega) (x (0 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![640, 0] S128x1024.size inb_S1024x1024_S128x1024_640_0).emb x 1 = (x (1 : Fin 2) : Fin 1024) := Fin.ext (by show 0 + 1 * (x (1 : Fin 2)).val = _; omega)
    have e1 : ((Rect.unit (s := S1024x1024) ![640, 0] S128x1024.size inb_S1024x1024_S128x1024_640_0).emb x 0).val = 640 + (x (0 : Fin 2)).val := by show 640 + 1 * (x (0 : Fin 2)).val = _; omega
    refine Eq.trans ?_ ((qh5_at (k0_pay9 w h) g (x (0 : Fin 2)) (x (1 : Fin 2))).trans ((head_eq _ _ 640 (by omega) (by omega) (x (0 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![512, 0] S128x1024.size inb_S1024x1024_S128x1024_512_0).emb x 1 = (x (1 : Fin 2) : Fin 1024) := Fin.ext (by show 0 + 1 * (x (1 : Fin 2)).val = _; omega)
    have e1 : ((Rect.unit (s := S1024x1024) ![512, 0] S128x1024.size inb_S1024x1024_S128x1024_512_0).emb x 0).val = 512 + (x (0 : Fin 2)).val := by show 512 + 1 * (x (0 : Fin 2)).val = _; omega
    refine Eq.trans ?_ ((qh4_at (k0_pay9 w h) g (x (0 : Fin 2)) (x (1 : Fin 2))).trans ((head_eq _ _ 512 (by omega) (by omega) (x (0 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![384, 0] S128x1024.size inb_S1024x1024_S128x1024_384_0).emb x 1 = (x (1 : Fin 2) : Fin 1024) := Fin.ext (by show 0 + 1 * (x (1 : Fin 2)).val = _; omega)
    have e1 : ((Rect.unit (s := S1024x1024) ![384, 0] S128x1024.size inb_S1024x1024_S128x1024_384_0).emb x 0).val = 384 + (x (0 : Fin 2)).val := by show 384 + 1 * (x (0 : Fin 2)).val = _; omega
    refine Eq.trans ?_ ((qh3_at (k0_pay9 w h) g (x (0 : Fin 2)) (x (1 : Fin 2))).trans ((head_eq _ _ 384 (by omega) (by omega) (x (0 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![256, 0] S128x1024.size inb_S1024x1024_S128x1024_256_0).emb x 1 = (x (1 : Fin 2) : Fin 1024) := Fin.ext (by show 0 + 1 * (x (1 : Fin 2)).val = _; omega)
    have e1 : ((Rect.unit (s := S1024x1024) ![256, 0] S128x1024.size inb_S1024x1024_S128x1024_256_0).emb x 0).val = 256 + (x (0 : Fin 2)).val := by show 256 + 1 * (x (0 : Fin 2)).val = _; omega
    refine Eq.trans ?_ ((qh2_at (k0_pay9 w h) g (x (0 : Fin 2)) (x (1 : Fin 2))).trans ((head_eq _ _ 256 (by omega) (by omega) (x (0 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![128, 0] S128x1024.size inb_S1024x1024_S128x1024_128_0).emb x 1 = (x (1 : Fin 2) : Fin 1024) := Fin.ext (by show 0 + 1 * (x (1 : Fin 2)).val = _; omega)
    have e1 : ((Rect.unit (s := S1024x1024) ![128, 0] S128x1024.size inb_S1024x1024_S128x1024_128_0).emb x 0).val = 128 + (x (0 : Fin 2)).val := by show 128 + 1 * (x (0 : Fin 2)).val = _; omega
    refine Eq.trans ?_ ((qh1_at (k0_pay9 w h) g (x (0 : Fin 2)) (x (1 : Fin 2))).trans ((head_eq _ _ 128 (by omega) (by omega) (x (0 : Fin 2)) _ e1).trans ?_))
    · exact congrArg _ ex
    · rw [e0]
  · intro x
    have ex : x = ix2 (x (0 : Fin 2)) (x (1 : Fin 2)) := funext fun a => by fin_cases a <;> rfl
    have e0 : (Rect.unit (s := S1024x1024) ![0, 0] S128x1024.size inb_S1024x1024_S128x1024_0_0).emb x 1 = (x (1 : Fin 2) : Fin 1024) := Fin.ext (by show 0 + 1 * (x (1 : Fin 2)).val = _; omega)
    have e1 : ((Rect.unit (s := S1024x1024) ![0, 0] S128x1024.size inb_S1024x1024_S128x1024_0_0).emb x 0).val = 0 + (x (0 : Fin 2)).val := by show 0 + 1 * (x (0 : Fin 2)).val = _; omega
    refine Eq.trans ?_ ((qh0_at (k0_pay9 w h) g (x (0 : Fin 2)) (x (1 : Fin 2))).trans ((head_eq _ _ 0 (by omega) (by omega) (x (0 : Fin 2)) _ e1).trans ?_))
    · exact congrArg _ ex
    · rw [e0]

variable (m : (ℓ : Loc nD τ sig) → Buf (Elt Ideal) ℓ) (c : Dev nD)

/-! ## The outputs' blocks -/

theorem oS_at (t : Fin cfg0.N) (h : t.val % 5 = 0) (r : Fin 1024) (d : Fin 2048) :
    (oS m c t h : S1024x2048.Idx → EReal) (ix2 r d) = nrm m c (tok t r) d := by
  have z : (![0, 0] : Fin 2 → ℕ) = fun _ => 0 := by decide
  unfold oS
  rw [View.read_writes_junk_eq_canon]
  refine (congrFun (View.canon_unit_zero (S := S1024x2048) z _ _) _).trans ?_
  rw [full_unread, full_unread, pay2_at]
  unfold nrm
  simp only [iblk0_at, iblk1_at]

theorem hrow_at (t : Fin cfg0.N) (r : Fin 1024) (d : Fin 2048) :
    (hrow m c (t.val / 5) : S1024x2048.Idx → EReal) (ix2 r d) = nrm m c (tok t r) d := by
  have e : (pt0 t).val / 5 = t.val / 5 := by show 5 * (t.val / 5) / 5 = t.val / 5; omega
  have h := hrow_eq m c (pt0 t) (pt0_mod t)
  rw [e] at h
  rw [h, oS_at]
  refine congrArg (nrm m c · d) (Fin.ext ?_)
  show 1024 * ((pt0 t).val / 5) + r.val = 1024 * (t.val / 5) + r.val
  rw [e]

theorem o9_at (t : Fin cfg0.N) (h : t.val % 5 = 0) (r : Fin 1024) (n : Fin 64) :
    (o9 m c t h : S1024x64.Idx → EReal) (ix2 r n) = Z m c (tok t r) ⟨5120 + n.val, by omega⟩ := by
  have z : (![0, 0] : Fin 2 → ℕ) = fun _ => 0 := by decide
  unfold o9
  rw [View.read_writes_junk_eq_canon]
  refine (congrFun (View.canon_unit_zero (S := S1024x64) z _ _) _).trans ?_
  rw [full_unread, full_unread, full_unread, pay4_at]
  unfold Z nrm
  simp only [iblk0_at, iblk1_at, iblk4_at]
  refine Finset.sum_congr rfl fun d _ => congrArg (_ * ·) (tail_at m c d _ (by show n.val < 80; omega))

theorem o10_at (t : Fin cfg0.N) (h : t.val % 5 = 0) (n : Fin 16) (r : Fin 1024) :
    (o10 m c t h : S16x1024.Idx → EReal) (ix2 n r)
      = Z m c (tok t r) ⟨5184 + n.val, by omega⟩ * FloatOps.ofBits (F := Ideal) .f32 0x3E800000#32 * FloatOps.ofBits (F := Ideal) .f32 0x3E000000#32 := by
  have z : (![0, 0] : Fin 2 → ℕ) = fun _ => 0 := by decide
  unfold o10
  rw [View.read_writes_junk_eq_canon]
  refine (congrFun (View.canon_unit_zero (S := S16x1024) z _ _) _).trans ?_
  rw [full_unread, full_unread, full_unread, pay5_at]
  unfold Z nrm
  simp only [iblk0_at, iblk1_at, iblk4_at]
  refine congrArg (· * _ * _) (Finset.sum_congr rfl fun d _ => congrArg (_ * ·) ((tail_at m c d _ (by show 64 + n.val < 80; omega)).trans (congrArg (fun o => aW m c (ix2 d o)) (Fin.ext ?_))))
  show 5120 + (64 + n.val) = 5184 + n.val
  omega

theorem scratch_read (t : Fin cfg0.N) : runA.sl.v9 c (ms0 t) (hs0 t) (ms1 t) (hs1 t) sH (iblk m c 0 t) (iblk m c 1 t) = k0_pay2 (iblk m c 0 t) (iblk m c 1 t) := by
  unfold runA.sl.v9
  refine (View.readCov_unit_zero (S := S1024x2048) _ (View.eq_zero_of_forall (by decide)) _ _).trans ?_
  rw [full_unread, full_unread]

theorem o7A_eq (t : Fin cfg0.N) (h : t.val % 5 = 0) :
    (rA m c t h).1 = [⟨Rect.unit (s := S1024x1024) ![0, 0] S1024x1024.size inb_S1024x1024_S1024x1024_0_0, k0_pay7 (k0_pay2 (iblk m c 0 t) (iblk m c 1 t)) (iblk m c 2 t)⟩] := by
  have e : (rA m c t h).1 = [⟨Rect.unit (s := S1024x1024) ![0, 0] S1024x1024.size inb_S1024x1024_S1024x1024_0_0, k0_pay7 (runA.sl.v9 c (ms0 t) (hs0 t) (ms1 t) (hs1 t) sH (iblk m c 0 t) (iblk m c 1 t)) (View.readAt (Elt Ideal) (ms2 t).view (Rect.unit (s := S2048x1024) ![0, 0] S2048x1024.size inb_S2048x1024_S2048x1024_0_0).toLoadRect ((hs2 t).unread (iblk m c 2 t)))⟩] := rfl
  rw [e, scratch_read, full_unread]

theorem o7A_at (t : Fin cfg0.N) (h : t.val % 5 = 0) (r n : Fin 1024) :
    (o7A m c t h : S1024x1024.Idx → EReal) (ix2 r n) = Z m c (tok t r) ⟨n.val, by omega⟩ := by
  have z : (![0, 0] : Fin 2 → ℕ) = fun _ => 0 := by decide
  unfold o7A
  rw [View.read_writes_junk_eq_canon, o7A_eq]
  refine (congrFun (View.canon_unit_zero (S := S1024x1024) z _ _) _).trans ?_
  refine (pay7_at _ _ _ _).trans ?_
  unfold Z nrm
  refine Finset.sum_congr rfl fun d _ => ?_
  rw [iblk2_at m c t d n ⟨n.val, by omega⟩ (by rw [if_pos h]; show n.val = 0 * 1024 + n.val; omega), pay2_at]
  simp only [iblk0_at, iblk1_at]

theorem o8D_at (t : Fin cfg0.N) (h : 3 ≤ t.val % 5) (n r : Fin 1024) :
    (o8D m c t (hrow m c (t.val / 5)) h : S1024x1024.Idx → EReal) (ix2 n r) = Z m c (tok t r) ⟨1024 * (t.val % 5) + n.val, by have := Nat.mod_lt t.val (by omega : 0 < 5); omega⟩ := by
  have z : (![0, 0] : Fin 2 → ℕ) = fun _ => 0 := by decide
  have h5 := Nat.mod_lt t.val (by omega : 0 < 5)
  unfold o8D
  rw [View.read_writes_junk_eq_canon]
  refine (congrFun (View.canon_unit_zero (S := S1024x1024) z _ _) _).trans ?_
  rw [full_unread, full_unread]
  refine (pay12_at _ _ _ _).trans ?_
  unfold Z
  refine Finset.sum_congr rfl fun d _ => ?_
  rw [iblk3_at m c t d n ⟨1024 * (t.val % 5) + n.val, by omega⟩ (by rw [if_neg (by omega)]; show 1024 * (t.val % 5) + n.val = t.val % 5 * 1024 + n.val; omega), hrow_at, mul_comm]

theorem o7B_eq (t : Fin cfg0.N) (y : Vec Ideal S1024x2048 .bf16) (h : t.val % 5 = 1) :
    (rB m c t y h).1 = kPieces (k0_pay6 y (iblk m c 2 t)) (iblk m c 5 t) := by
  have e : (rB m c t y h).1 = kPieces (k0_pay6 (View.readAt (Elt Ideal) sH.view (Rect.unit (s := S1024x2048) ![0, 0] S1024x2048.size inb_S1024x2048_S1024x2048_0_0).toLoadRect ((Memref.isWhole_whole _ : sH.IsWhole).unread y))
      (View.readAt (Elt Ideal) (ms2 t).view (Rect.unit (s := S2048x1024) ![0, 0] S2048x1024.size inb_S2048x1024_S2048x1024_0_0).toLoadRect ((hs2 t).unread (iblk m c 2 t))))
      (View.readAt (Elt Ideal) (ms5 t).view (Rect.unit (s := S1x128) ![0, 0] S1x128.size inb_S1x128_S1x128_0_0).toLoadRect ((hs5 t).unread (iblk m c 5 t))) := rfl
  rw [e, full_unread, full_unread, full_unread]

theorem o8C_eq (t : Fin cfg0.N) (y : Vec Ideal S1024x2048 .bf16) (h : t.val % 5 = 2) :
    (rC m c t y h).1 = qPieces (iblk m c 3 t) y (iblk m c 6 t) := by
  have e : (rC m c t y h).1 = qPieces
      (View.readAt (Elt Ideal) (ms3 t).view (Rect.unit (s := S2048x1024) ![0, 0] S2048x1024.size inb_S2048x1024_S2048x1024_0_0).toLoadRect ((hs3 t).unread (iblk m c 3 t)))
      (View.readAt (Elt Ideal) sH.view (Rect.unit (s := S1024x2048) ![0, 0] S1024x2048.size inb_S1024x2048_S1024x2048_0_0).toLoadRect ((Memref.isWhole_whole _ : sH.IsWhole).unread y))
      (View.readAt (Elt Ideal) (ms6 t).view (Rect.unit (s := S128x1) ![0, 0] S128x1.size inb_S128x1_S128x1_0_0).toLoadRect ((hs6 t).unread (iblk m c 6 t))) := rfl
  rw [e, full_unread, full_unread, full_unread]

theorem o7B_at (t : Fin cfg0.N) (h : t.val % 5 = 1) (r n : Fin 1024) :
    (o7B m c t (hrow m c (t.val / 5)) h : S1024x1024.Idx → EReal) (ix2 r n)
      = heads (fun n => Z m c (tok t r) ⟨2048 + n.val, by omega⟩) (fun e => aK m c (ix1 e)) n := by
  have hc := cov_o7B m c t (hrow m c (t.val / 5)) h (ix2 r n)
  unfold o7B
  rw [View.read_writes_junk_eq_canon]
  rw [o7B_eq] at hc ⊢
  refine (View.canon_apply_of_pieces (fun i : S1024x1024.Idx => heads (fun n => k0_pay6 (hrow m c (t.val / 5)) (iblk m c 2 t) (ix2 (i 0) n)) (fun e => (iblk m c 5 t : S1x128.Idx → EReal) (ix2 0 e)) (i 1)) _ (kPieces_at _ _) _ hc).trans ?_
  show heads (fun n => (k0_pay6 (hrow m c (t.val / 5)) (iblk m c 2 t) : FVec Ideal S1024x1024 .f32) (ix2 r n)) _ n = _
  have ez : (fun n : Fin 1024 => (k0_pay6 (hrow m c (t.val / 5)) (iblk m c 2 t) : FVec Ideal S1024x1024 .f32) (ix2 r n)) = fun n => Z m c (tok t r) ⟨2048 + n.val, by omega⟩ := by
    funext n
    refine (pay6_at _ _ _ _).trans ?_
    unfold Z
    refine Finset.sum_congr rfl fun d _ => ?_
    rw [iblk2_at m c t d n ⟨2048 + n.val, by omega⟩ (by rw [if_neg (by omega)]), hrow_at]
  rw [ez]
  simp only [iblk5_at]

theorem o8C_at (t : Fin cfg0.N) (h : t.val % 5 = 2) (n r : Fin 1024) :
    (o8C m c t (hrow m c (t.val / 5)) h : S1024x1024.Idx → EReal) (ix2 n r)
      = heads (fun n => Z m c (tok t r) ⟨1024 + n.val, by omega⟩) (fun e => aQ m c (ix1 e) * qc) n := by
  have hc := cov_o8C m c t (hrow m c (t.val / 5)) h (ix2 n r)
  unfold o8C
  rw [View.read_writes_junk_eq_canon]
  rw [o8C_eq] at hc ⊢
  refine (View.canon_apply_of_pieces (fun i : S1024x1024.Idx => heads (fun n => (k0_pay9 (iblk m c 3 t) (hrow m c (t.val / 5)) : FVec Ideal S1024x1024 .f32) (ix2 n (i 1))) (fun e => @HMul.hMul EReal EReal EReal _ ((iblk m c 6 t : S128x1.Idx → EReal) (ix2 e 0)) qc) (i 0)) _ (qPieces_at _ _ _) _ hc).trans ?_
  show heads (fun n => (k0_pay9 (iblk m c 3 t) (hrow m c (t.val / 5)) : FVec Ideal S1024x1024 .f32) (ix2 n r)) _ n = _
  have ez : (fun n : Fin 1024 => (k0_pay9 (iblk m c 3 t) (hrow m c (t.val / 5)) : FVec Ideal S1024x1024 .f32) (ix2 n r)) = fun n => Z m c (tok t r) ⟨1024 + n.val, by omega⟩ := by
    funext n
    refine (pay9_at _ _ _ _).trans ?_
    unfold Z
    refine Finset.sum_congr rfl fun d _ => ?_
    rw [iblk3_at m c t d n ⟨1024 + n.val, by omega⟩ (by rw [if_pos (by omega)]), hrow_at, mul_comm]
  rw [ez]
  simp only [iblk6_at]

end Cert.InprojIdeal.Inproj

end
-- ==== Proof.Inproj.Arrays.lean ====
/- The arrays the input projection leaves: each result at every index. -/
module

public import proofs.«01_k».proof.Proof.Inproj.KernelIdeal.Frame
public import proofs.«01_k».proof.Proof.Inproj.Pieces

@[expose] public section

set_option maxRecDepth 16384

noncomputable section

namespace Cert.InprojIdeal.Inproj

open Cert.InprojIdeal Cert.InprojIdeal.Gen Cert.InprojIdeal.Hand
open Idealize.ShloMosaic Idealize.ShloMosaic.TcCoe Idealize.SL.Sem

variable (m : (ℓ : Loc nD τ sig) → Buf (Elt Ideal) ℓ) (c : Dev nD)

/-! ## The blocks a flush writes out -/

theorem tok_congr (t t' : Fin cfg0.N) (r : Fin 1024) (e : t'.val / 5 = t.val / 5) : tok t' r = tok t r :=
  Fin.ext (by show 1024 * (t'.val / 5) + r.val = 1024 * (t.val / 5) + r.val; rw [e])
theorem pt0_div (t : Fin cfg0.N) : (pt0 t).val / 5 = t.val / 5 := by show 5 * (t.val / 5) / 5 = t.val / 5; omega
theorem pt1_div (t : Fin cfg0.N) : (pt1 t).val / 5 = t.val / 5 := by show (5 * (t.val / 5) + 1) / 5 = t.val / 5; omega

theorem a7_at (t : Fin cfg0.N) (r n : Fin 1024) (s : Fin 16384) (k : Fin 2048) (hs : s.val = t.val / 5 * 1024 + r.val) (hk : k.val = (if t.val % 5 = 0 then 0 else 1) * 1024 + n.val) :
    (a7 m c t : S1024x1024.Idx → EReal) (ix2 r n) = G7 m c (ix2 s k) := by
  have es : s = tok t r := Fin.ext (by rw [hs]; show _ = 1024 * (t.val / 5) + r.val; omega)
  subst es
  by_cases h : t.val % 5 = 0
  · rw [a7_A m c t h, o7A_at]
    rw [if_pos h] at hk
    unfold G7
    refine Eq.trans ?_ (dif_pos (show k.val < 1024 by omega)).symm
    exact congrArg (Z m c _) (Fin.ext (by show n.val = k.val; omega))
  · rw [if_neg h] at hk
    unfold a7
    rw [dif_neg h]
    have e := o7B_at m c (pt1 t) (pt1_mod t) r n
    rw [pt1_div, tok_congr t _ r (pt1_div t)] at e
    rw [e]
    unfold G7
    refine Eq.trans ?_ (dif_neg (show ¬ k.val < 1024 by omega)).symm
    exact congrArg (heads _ _) (Fin.ext (by show n.val = k.val - 1024; omega))

theorem a8_at (t : Fin cfg0.N) (h : 2 ≤ t.val % 5) (n r : Fin 1024) (s : Fin 16384) (k : Fin 3072) (hs : s.val = t.val / 5 * 1024 + r.val) (hk : k.val = (t.val % 5 - 2) * 1024 + n.val) :
    (a8 m c t : S1024x1024.Idx → EReal) (ix2 n r) = G8 m c (ix2 k s) := by
  have es : s = tok t r := Fin.ext (by rw [hs]; show _ = 1024 * (t.val / 5) + r.val; omega)
  subst es
  by_cases h2 : t.val % 5 = 2
  · rw [a8_C m c t h2, o8C_at]
    unfold G8
    refine Eq.trans ?_ (dif_pos (show k.val < 1024 by omega)).symm
    exact congrArg (heads _ _) (Fin.ext (by show n.val = k.val; omega))
  · rw [a8_D m c t (by omega), o8D_at]
    unfold G8
    refine Eq.trans ?_ (dif_neg (show ¬ k.val < 1024 by omega)).symm
    exact congrArg (Z m c _) (Fin.ext (by show 1024 * (t.val % 5) + n.val = 2048 + k.val; omega))

theorem a9_at (t : Fin cfg0.N) (r : Fin 1024) (n : Fin 64) (s : Fin 16384) (k : Fin 64) (hs : s.val = t.val / 5 * 1024 + r.val) (hk : k.val = 0 * 64 + n.val) :
    (a9 m c t : S1024x64.Idx → EReal) (ix2 r n) = G9 m c (ix2 s k) := by
  have es : s = tok t r := Fin.ext (by rw [hs]; show _ = 1024 * (t.val / 5) + r.val; omega)
  have ek : k = n := Fin.ext (by omega)
  subst es ek
  unfold a9
  rw [o9_at, tok_congr t _ r (pt0_div t)]
  rfl

theorem a10_at (t : Fin cfg0.N) (n : Fin 16) (r : Fin 1024) (s : Fin 16384) (k : Fin 16) (hs : s.val = t.val / 5 * 1024 + r.val) (hk : k.val = 0 * 16 + n.val) :
    (a10 m c t : S16x1024.Idx → EReal) (ix2 n r) = G10 m c (ix2 k s) := by
  have es : s = tok t r := Fin.ext (by rw [hs]; show _ = 1024 * (t.val / 5) + r.val; omega)
  have ek : k = n := Fin.ext (by omega)
  subst es ek
  unfold a10
  rw [o10_at, tok_congr t _ r (pt0_div t)]
  rfl

/-! ## The arrays -/

theorem cut7_at (t : Fin cfg0.N) (X : Vec Ideal S1024x1024 .bf16) (y : ((cfg0.win (7 : Fin 11)).xblock (grid0.coords t)).Idx) :
    (cfg0.win (7 : Fin 11)).cut (grid0.coords t) X y = X (ix2 (⟨(y (0 : Fin 2)).val, lt_of_lt_of_le (y (0 : Fin 2)).isLt ((cfg0.win (7 : Fin 11)).xsize_le (grid0.coords t) (0 : Fin 2))⟩ : Fin 1024) (⟨(y (1 : Fin 2)).val, lt_of_lt_of_le (y (1 : Fin 2)).isLt ((cfg0.win (7 : Fin 11)).xsize_le (grid0.coords t) (1 : Fin 2))⟩ : Fin 1024)) :=
  congrArg X (funext fun a => Fin.ext (by fin_cases a <;> rfl))

theorem arr7 : (dats m 0 c).arrAt (7 : Fin 11) cfg0.N = G7 m c := by
  refine (dats m 0 c).arrAt_eq_of_cover (7 : Fin 11) (G7 m c) (fun t hf => ?_) (fun i => ?_)
  · funext y
    rw [View.read_apply]
    have hi := (out_index t).1
    show (cfg0.win (7 : Fin 11)).cut (grid0.coords t) ((dats m 0 c).after (7 : Fin 11) t) y = _
    rw [after_7]
    refine (cut7_at t _ y).trans ((a7_at m c t (⟨(y (0 : Fin 2)).val, lt_of_lt_of_le (y (0 : Fin 2)).isLt ((cfg0.win (7 : Fin 11)).xsize_le (grid0.coords t) (0 : Fin 2))⟩ : Fin 1024) (⟨(y (1 : Fin 2)).val, lt_of_lt_of_le (y (1 : Fin 2)).isLt ((cfg0.win (7 : Fin 11)).xsize_le (grid0.coords t) (1 : Fin 2))⟩ : Fin 1024) (((cfg0.win (7 : Fin 11)).blk t).view.emb y (0 : Fin 2)) (((cfg0.win (7 : Fin 11)).blk t).view.emb y (1 : Fin 2)) ?_ ?_).trans ?_)
    · refine ((cfg0.win (7 : Fin 11)).rect_emb_val t y (0 : Fin 2)).trans ?_
      show (cfg0.win (7 : Fin 11)).index t (0 : Fin 2) * 1024 + (y (0 : Fin 2)).val = _
      rw [hi.1]
    · refine ((cfg0.win (7 : Fin 11)).rect_emb_val t y (1 : Fin 2)).trans ?_
      show (cfg0.win (7 : Fin 11)).index t (1 : Fin 2) * 1024 + (y (1 : Fin 2)).val = _
      rw [hi.2]
    · exact congrArg (G7 m c) (funext fun a => by fin_cases a <;> rfl)
  · have i0 : (i (0 : Fin 2)).val < 16384 := (i (0 : Fin 2)).isLt
    have i1 : (i (1 : Fin 2)).val < 2048 := (i (1 : Fin 2)).isLt
    obtain ⟨t, ht⟩ : ∃ t : Fin cfg0.N, t.val = 5 * ((i (0 : Fin 2)).val / 1024) + (if (i (1 : Fin 2)).val < 1024 then 0 else 4) := ⟨⟨5 * ((i (0 : Fin 2)).val / 1024) + (if (i (1 : Fin 2)).val < 1024 then 0 else 4), by show _ < 80; split <;> omega⟩, rfl⟩
    have hi := (out_index t).1
    have hx := (out_size t).1
    obtain ⟨-, -, -, -, f7, -⟩ := schedAt t
    refine ⟨t, ?_, ((cfg0.win (7 : Fin 11)).emb_mem_blk_iff t i).mpr fun a => ?_⟩
    · rw [f7]
      split at ht <;> simp only [decide_eq_true_eq, Bool.or_eq_true, Bool.and_eq_true] <;> omega
    fin_cases a
    · show (cfg0.win (7 : Fin 11)).index t (0 : Fin 2) * 1024 ≤ (i (0 : Fin 2)).val ∧ (i (0 : Fin 2)).val < (cfg0.win (7 : Fin 11)).index t (0 : Fin 2) * 1024 + (cfg0.win (7 : Fin 11)).xsize (grid0.coords t) (0 : Fin 2)
      rw [hi.1, hx.1]
      split at ht <;> (try split) <;> constructor <;> omega
    · show (cfg0.win (7 : Fin 11)).index t (1 : Fin 2) * 1024 ≤ (i (1 : Fin 2)).val ∧ (i (1 : Fin 2)).val < (cfg0.win (7 : Fin 11)).index t (1 : Fin 2) * 1024 + (cfg0.win (7 : Fin 11)).xsize (grid0.coords t) (1 : Fin 2)
      rw [hi.2, hx.2]
      split at ht <;> (try split) <;> constructor <;> omega

theorem cut8_at (t : Fin cfg0.N) (X : Vec Ideal S1024x1024 .bf16) (y : ((cfg0.win (8 : Fin 11)).xblock (grid0.coords t)).Idx) :
    (cfg0.win (8 : Fin 11)).cut (grid0.coords t) X y = X (ix2 (⟨(y (0 : Fin 2)).val, lt_of_lt_of_le (y (0 : Fin 2)).isLt ((cfg0.win (8 : Fin 11)).xsize_le (grid0.coords t) (0 : Fin 2))⟩ : Fin 1024) (⟨(y (1 : Fin 2)).val, lt_of_lt_of_le (y (1 : Fin 2)).isLt ((cfg0.win (8 : Fin 11)).xsize_le (grid0.coords t) (1 : Fin 2))⟩ : Fin 1024)) :=
  congrArg X (funext fun a => Fin.ext (by fin_cases a <;> rfl))

theorem arr8 : (dats m 0 c).arrAt (8 : Fin 11) cfg0.N = G8 m c := by
  refine (dats m 0 c).arrAt_eq_of_cover (8 : Fin 11) (G8 m c) (fun t hf => ?_) (fun i => ?_)
  · funext y
    rw [View.read_apply]
    have hi := (out_index t).2.1
    show (cfg0.win (8 : Fin 11)).cut (grid0.coords t) ((dats m 0 c).after (8 : Fin 11) t) y = _
    rw [after_8]
    refine (cut8_at t _ y).trans ((a8_at m c t (by have := schedAt t; obtain ⟨-, -, -, -, -, f7, -⟩ := this; rw [f7] at hf; simpa using hf) (⟨(y (0 : Fin 2)).val, lt_of_lt_of_le (y (0 : Fin 2)).isLt ((cfg0.win (8 : Fin 11)).xsize_le (grid0.coords t) (0 : Fin 2))⟩ : Fin 1024) (⟨(y (1 : Fin 2)).val, lt_of_lt_of_le (y (1 : Fin 2)).isLt ((cfg0.win (8 : Fin 11)).xsize_le (grid0.coords t) (1 : Fin 2))⟩ : Fin 1024) (((cfg0.win (8 : Fin 11)).blk t).view.emb y (1 : Fin 2)) (((cfg0.win (8 : Fin 11)).blk t).view.emb y (0 : Fin 2)) ?_ ?_).trans ?_)
    · refine ((cfg0.win (8 : Fin 11)).rect_emb_val t y (1 : Fin 2)).trans ?_
      show (cfg0.win (8 : Fin 11)).index t (1 : Fin 2) * 1024 + (y (1 : Fin 2)).val = _
      rw [hi.2]
    · refine ((cfg0.win (8 : Fin 11)).rect_emb_val t y (0 : Fin 2)).trans ?_
      show (cfg0.win (8 : Fin 11)).index t (0 : Fin 2) * 1024 + (y (0 : Fin 2)).val = _
      rw [hi.1]
    · exact congrArg (G8 m c) (funext fun a => by fin_cases a <;> rfl)
  · have i0 : (i (0 : Fin 2)).val < 3072 := (i (0 : Fin 2)).isLt
    have i1 : (i (1 : Fin 2)).val < 16384 := (i (1 : Fin 2)).isLt
    obtain ⟨t, ht⟩ : ∃ t : Fin cfg0.N, t.val = 5 * ((i (1 : Fin 2)).val / 1024) + (2 + (i (0 : Fin 2)).val / 1024) := ⟨⟨5 * ((i (1 : Fin 2)).val / 1024) + (2 + (i (0 : Fin 2)).val / 1024), by show _ < 80; omega⟩, rfl⟩
    have hi := (out_index t).2.1
    have hx := (out_size t).2.1
    obtain ⟨-, -, -, -, -, f7, -⟩ := schedAt t
    refine ⟨t, ?_, ((cfg0.win (8 : Fin 11)).emb_mem_blk_iff t i).mpr fun a => ?_⟩
    · rw [f7]
      simp only [decide_eq_true_eq, Bool.or_eq_true, Bool.and_eq_true] <;> omega
    fin_cases a
    · show (cfg0.win (8 : Fin 11)).index t (0 : Fin 2) * 1024 ≤ (i (0 : Fin 2)).val ∧ (i (0 : Fin 2)).val < (cfg0.win (8 : Fin 11)).index t (0 : Fin 2) * 1024 + (cfg0.win (8 : Fin 11)).xsize (grid0.coords t) (0 : Fin 2)
      rw [hi.1, hx.1]
      constructor <;> omega
    · show (cfg0.win (8 : Fin 11)).index t (1 : Fin 2) * 1024 ≤ (i (1 : Fin 2)).val ∧ (i (1 : Fin 2)).val < (cfg0.win (8 : Fin 11)).index t (1 : Fin 2) * 1024 + (cfg0.win (8 : Fin 11)).xsize (grid0.coords t) (1 : Fin 2)
      rw [hi.2, hx.2]
      constructor <;> omega

theorem cut9_at (t : Fin cfg0.N) (X : Vec Ideal S1024x64 .bf16) (y : ((cfg0.win (9 : Fin 11)).xblock (grid0.coords t)).Idx) :
    (cfg0.win (9 : Fin 11)).cut (grid0.coords t) X y = X (ix2 (⟨(y (0 : Fin 2)).val, lt_of_lt_of_le (y (0 : Fin 2)).isLt ((cfg0.win (9 : Fin 11)).xsize_le (grid0.coords t) (0 : Fin 2))⟩ : Fin 1024) (⟨(y (1 : Fin 2)).val, lt_of_lt_of_le (y (1 : Fin 2)).isLt ((cfg0.win (9 : Fin 11)).xsize_le (grid0.coords t) (1 : Fin 2))⟩ : Fin 64)) :=
  congrArg X (funext fun a => Fin.ext (by fin_cases a <;> rfl))

theorem arr9 : (dats m 0 c).arrAt (9 : Fin 11) cfg0.N = G9 m c := by
  refine (dats m 0 c).arrAt_eq_of_cover (9 : Fin 11) (G9 m c) (fun t hf => ?_) (fun i => ?_)
  · funext y
    rw [View.read_apply]
    have hi := (out_index t).2.2.1
    show (cfg0.win (9 : Fin 11)).cut (grid0.coords t) ((dats m 0 c).after (9 : Fin 11) t) y = _
    rw [after_9]
    refine (cut9_at t _ y).trans ((a9_at m c t (⟨(y (0 : Fin 2)).val, lt_of_lt_of_le (y (0 : Fin 2)).isLt ((cfg0.win (9 : Fin 11)).xsize_le (grid0.coords t) (0 : Fin 2))⟩ : Fin 1024) (⟨(y (1 : Fin 2)).val, lt_of_lt_of_le (y (1 : Fin 2)).isLt ((cfg0.win (9 : Fin 11)).xsize_le (grid0.coords t) (1 : Fin 2))⟩ : Fin 64) (((cfg0.win (9 : Fin 11)).blk t).view.emb y (0 : Fin 2)) (((cfg0.win (9 : Fin 11)).blk t).view.emb y (1 : Fin 2)) ?_ ?_).trans ?_)
    · refine ((cfg0.win (9 : Fin 11)).rect_emb_val t y (0 : Fin 2)).trans ?_
      show (cfg0.win (9 : Fin 11)).index t (0 : Fin 2) * 1024 + (y (0 : Fin 2)).val = _
      rw [hi.1]
    · refine ((cfg0.win (9 : Fin 11)).rect_emb_val t y (1 : Fin 2)).trans ?_
      show (cfg0.win (9 : Fin 11)).index t (1 : Fin 2) * 64 + (y (1 : Fin 2)).val = _
      rw [hi.2]
    · exact congrArg (G9 m c) (funext fun a => by fin_cases a <;> rfl)
  · have i0 : (i (0 : Fin 2)).val < 16384 := (i (0 : Fin 2)).isLt
    have i1 : (i (1 : Fin 2)).val < 64 := (i (1 : Fin 2)).isLt
    obtain ⟨t, ht⟩ : ∃ t : Fin cfg0.N, t.val = 5 * ((i (0 : Fin 2)).val / 1024) + 4 := ⟨⟨5 * ((i (0 : Fin 2)).val / 1024) + 4, by show _ < 80; omega⟩, rfl⟩
    have hi := (out_index t).2.2.1
    have hx := (out_size t).2.2.1
    obtain ⟨-, -, -, -, -, -, f7, -⟩ := schedAt t
    refine ⟨t, ?_, ((cfg0.win (9 : Fin 11)).emb_mem_blk_iff t i).mpr fun a => ?_⟩
    · rw [f7]
      simp only [decide_eq_true_eq, Bool.or_eq_true, Bool.and_eq_true] <;> omega
    fin_cases a
    · show (cfg0.win (9 : Fin 11)).index t (0 : Fin 2) * 1024 ≤ (i (0 : Fin 2)).val ∧ (i (0 : Fin 2)).val < (cfg0.win (9 : Fin 11)).index t (0 : Fin 2) * 1024 + (cfg0.win (9 : Fin 11)).xsize (grid0.coords t) (0 : Fin 2)
      rw [hi.1, hx.1]
      constructor <;> omega
    · show (cfg0.win (9 : Fin 11)).index t (1 : Fin 2) * 64 ≤ (i (1 : Fin 2)).val ∧ (i (1 : Fin 2)).val < (cfg0.win (9 : Fin 11)).index t (1 : Fin 2) * 64 + (cfg0.win (9 : Fin 11)).xsize (grid0.coords t) (1 : Fin 2)
      rw [hi.2, hx.2]
      constructor <;> omega

theorem cut10_at (t : Fin cfg0.N) (X : Vec Ideal S16x1024 .f32) (y : ((cfg0.win (10 : Fin 11)).xblock (grid0.coords t)).Idx) :
    (cfg0.win (10 : Fin 11)).cut (grid0.coords t) X y = X (ix2 (⟨(y (0 : Fin 2)).val, lt_of_lt_of_le (y (0 : Fin 2)).isLt ((cfg0.win (10 : Fin 11)).xsize_le (grid0.coords t) (0 : Fin 2))⟩ : Fin 16) (⟨(y (1 : Fin 2)).val, lt_of_lt_of_le (y (1 : Fin 2)).isLt ((cfg0.win (10 : Fin 11)).xsize_le (grid0.coords t) (1 : Fin 2))⟩ : Fin 1024)) :=
  congrArg X (funext fun a => Fin.ext (by fin_cases a <;> rfl))

theorem arr10 : (dats m 0 c).arrAt (10 : Fin 11) cfg0.N = G10 m c := by
  refine (dats m 0 c).arrAt_eq_of_cover (10 : Fin 11) (G10 m c) (fun t hf => ?_) (fun i => ?_)
  · funext y
    rw [View.read_apply]
    have hi := (out_index t).2.2.2
    show (cfg0.win (10 : Fin 11)).cut (grid0.coords t) ((dats m 0 c).after (10 : Fin 11) t) y = _
    rw [after_10]
    refine (cut10_at t _ y).trans ((a10_at m c t (⟨(y (0 : Fin 2)).val, lt_of_lt_of_le (y (0 : Fin 2)).isLt ((cfg0.win (10 : Fin 11)).xsize_le (grid0.coords t) (0 : Fin 2))⟩ : Fin 16) (⟨(y (1 : Fin 2)).val, lt_of_lt_of_le (y (1 : Fin 2)).isLt ((cfg0.win (10 : Fin 11)).xsize_le (grid0.coords t) (1 : Fin 2))⟩ : Fin 1024) (((cfg0.win (10 : Fin 11)).blk t).view.emb y (1 : Fin 2)) (((cfg0.win (10 : Fin 11)).blk t).view.emb y (0 : Fin 2)) ?_ ?_).trans ?_)
    · refine ((cfg0.win (10 : Fin 11)).rect_emb_val t y (1 : Fin 2)).trans ?_
      show (cfg0.win (10 : Fin 11)).index t (1 : Fin 2) * 1024 + (y (1 : Fin 2)).val = _
      rw [hi.2]
    · refine ((cfg0.win (10 : Fin 11)).rect_emb_val t y (0 : Fin 2)).trans ?_
      show (cfg0.win (10 : Fin 11)).index t (0 : Fin 2) * 16 + (y (0 : Fin 2)).val = _
      rw [hi.1]
    · exact congrArg (G10 m c) (funext fun a => by fin_cases a <;> rfl)
  · have i0 : (i (0 : Fin 2)).val < 16 := (i (0 : Fin 2)).isLt
    have i1 : (i (1 : Fin 2)).val < 16384 := (i (1 : Fin 2)).isLt
    obtain ⟨t, ht⟩ : ∃ t : Fin cfg0.N, t.val = 5 * ((i (1 : Fin 2)).val / 1024) + 4 := ⟨⟨5 * ((i (1 : Fin 2)).val / 1024) + 4, by show _ < 80; omega⟩, rfl⟩
    have hi := (out_index t).2.2.2
    have hx := (out_size t).2.2.2
    obtain ⟨-, -, -, -, -, -, -, f7⟩ := schedAt t
    refine ⟨t, ?_, ((cfg0.win (10 : Fin 11)).emb_mem_blk_iff t i).mpr fun a => ?_⟩
    · rw [f7]
      simp only [decide_eq_true_eq, Bool.or_eq_true, Bool.and_eq_true] <;> omega
    fin_cases a
    · show (cfg0.win (10 : Fin 11)).index t (0 : Fin 2) * 16 ≤ (i (0 : Fin 2)).val ∧ (i (0 : Fin 2)).val < (cfg0.win (10 : Fin 11)).index t (0 : Fin 2) * 16 + (cfg0.win (10 : Fin 11)).xsize (grid0.coords t) (0 : Fin 2)
      rw [hi.1, hx.1]
      constructor <;> omega
    · show (cfg0.win (10 : Fin 11)).index t (1 : Fin 2) * 1024 ≤ (i (1 : Fin 2)).val ∧ (i (1 : Fin 2)).val < (cfg0.win (10 : Fin 11)).index t (1 : Fin 2) * 1024 + (cfg0.win (10 : Fin 11)).xsize (grid0.coords t) (1 : Fin 2)
      rw [hi.2, hx.2]
      constructor <;> omega

/-- The ideal run: the four arrays, the arguments unchanged. -/
theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v8_0) = G7 m c
      ∧ r.2.mem ((c.tc : Thread nD τ).loc main_v8_1) = G8 m c
      ∧ r.2.mem ((c.tc : Thread nD τ).loc main_v8_2) = G9 m c
      ∧ r.2.mem ((c.tc : Thread nD τ).loc main_v8_3) = G10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).1 7).trans (arr7 m c), ((h.1 c).1 8).trans (arr8 m c), ((h.1 c).1 9).trans (arr9 m c), ((h.1 c).1 10).trans (arr10 m c),
      ((h.1 c).1 0).trans (((dats m 0 c).arrAt_in 0 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main m ρ)

end Cert.InprojIdeal.Inproj

end
-- ==== Proof.Inproj.Equal.lean ====
/- The input projection's reference, read at an index. -/
module

public import proofs.«01_k».proof.Proof.Inproj.Reads
public import proofs.«01_k».proof.Proof.Gen.InprojReferenceIdeal.Read

@[expose] public section

set_option maxRecDepth 16384

noncomputable section

namespace Cert.InprojIdeal.Inproj

open Cert.InprojIdeal Cert.InprojIdeal.Gen
open Idealize.ShloMosaic Idealize.ShloMosaic.TcCoe Idealize.SL.Sem
open Cert.InprojReferenceIdeal.Read

theorem zero_lit : (FloatOps.ofBits (F := Ideal) .f32 0x00000000#32 : EReal) = 0 := by
  simp [FloatOps.ofBits, Ideal.ofBits, Ideal.ieee, -EReal.coe_mul]

variable (m : (ℓ : Loc nD τ sig) → Buf (Elt Ideal) ℓ) (c : Dev nD)

theorem ref_norm (s : Fin 16384) (d : Fin 2048) :
    (val_main_v12 (F := Ideal) (aX m c) (aG m c) (ix2 s d) : EReal) = nrm m c s d := by
  have e1 : ∀ k, idx_main_v1 (idx_main_v2 (idx_main_v8 (ix2 s d))) k = ix2 s k := fun k => funext fun a => by fin_cases a <;> rfl
  have e2 : idx_main_v10 (idx_main_v11 (ix2 s d)) = ix1 d := funext fun a => by fin_cases a; rfl
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply, val_main_cst_apply, val_main_cst_0_apply, val_main_cst_1_apply, e2]
  simp only [e1, val_main_v0_apply]
  rw [zero_lit]
  unfold nrm normed
  show aX m c (ix2 s d) * Ideal.rsqrt (Ideal.div (0 + ∑ k : Fin 2048, aX m c (ix2 s k) * aX m c (ix2 s k)) _ + _) * aG m c (ix1 d) = _
  rw [zero_add]

theorem ref_z (s : Fin 16384) (n : Fin 5200) :
    (val_main_v13 (F := Ideal) (aX m c) (aG m c) (aW m c) (ix2 s n) : EReal) = Z m c s n := by
  rw [val_main_v13_apply]
  unfold Z
  refine Finset.sum_congr rfl fun d _ => ?_
  have el : lidx_main_v13 (ix2 s n) d = ix2 s d := funext fun a => by fin_cases a <;> rfl
  have er : ridx_main_v13 (ix2 s n) d = ix2 d n := funext fun a => by fin_cases a <;> rfl
  rw [el, er, ref_norm]

theorem ref_v14 (s : Fin 16384) (n : Fin 1024) :
    (val_main_v14 (F := Ideal) (aX m c) (aG m c) (aW m c) (ix2 s n) : EReal) = Z m c s ⟨n.val, by omega⟩ := by
  have e : idx_main_v14 (ix2 s n) = ix2 s (⟨n.val, by omega⟩ : Fin 5200) := funext fun a => by fin_cases a <;> rfl
  rw [val_main_v14_apply, e, ref_z]

theorem ref_v15 (s : Fin 16384) (n : Fin 1024) :
    (val_main_v15 (F := Ideal) (aX m c) (aG m c) (aW m c) (ix2 s n) : EReal) = Z m c s ⟨1024 + n.val, by omega⟩ := by
  have e : idx_main_v15 (ix2 s n) = ix2 s (⟨1024 + n.val, by omega⟩ : Fin 5200) := funext fun a => by fin_cases a <;> rfl
  rw [val_main_v15_apply, e, ref_z]

theorem ref_v16 (s : Fin 16384) (n : Fin 1024) :
    (val_main_v16 (F := Ideal) (aX m c) (aG m c) (aW m c) (ix2 s n) : EReal) = Z m c s ⟨2048 + n.val, by omega⟩ := by
  have e : idx_main_v16 (ix2 s n) = ix2 s (⟨2048 + n.val, by omega⟩ : Fin 5200) := funext fun a => by fin_cases a <;> rfl
  rw [val_main_v16_apply, e, ref_z]

theorem ref_v17 (s : Fin 16384) (n : Fin 1024) :
    (val_main_v17 (F := Ideal) (aX m c) (aG m c) (aW m c) (ix2 s n) : EReal) = Z m c s ⟨3072 + n.val, by omega⟩ := by
  have e : idx_main_v17 (ix2 s n) = ix2 s (⟨3072 + n.val, by omega⟩ : Fin 5200) := funext fun a => by fin_cases a <;> rfl
  rw [val_main_v17_apply, e, ref_z]

theorem ref_v18 (s : Fin 16384) (n : Fin 1024) :
    (val_main_v18 (F := Ideal) (aX m c) (aG m c) (aW m c) (ix2 s n) : EReal) = Z m c s ⟨4096 + n.val, by omega⟩ := by
  have e : idx_main_v18 (ix2 s n) = ix2 s (⟨4096 + n.val, by omega⟩ : Fin 5200) := funext fun a => by fin_cases a <;> rfl
  rw [val_main_v18_apply, e, ref_z]

theorem ref_v19 (s : Fin 16384) (n : Fin 64) :
    (val_main_v19 (F := Ideal) (aX m c) (aG m c) (aW m c) (ix2 s n) : EReal) = Z m c s ⟨5120 + n.val, by omega⟩ := by
  have e : idx_main_v19 (ix2 s n) = ix2 s (⟨5120 + n.val, by omega⟩ : Fin 5200) := funext fun a => by fin_cases a <;> rfl
  rw [val_main_v19_apply, e, ref_z]

theorem ref_v20 (s : Fin 16384) (n : Fin 16) :
    (val_main_v20 (F := Ideal) (aX m c) (aG m c) (aW m c) (ix2 s n) : EReal) = Z m c s ⟨5184 + n.val, by omega⟩ := by
  have e : idx_main_v20 (ix2 s n) = ix2 s (⟨5184 + n.val, by omega⟩ : Fin 5200) := funext fun a => by fin_cases a <;> rfl
  rw [val_main_v20_apply, e, ref_z]

/-- The queries by heads. -/
theorem ref_v25 (s : Fin 16384) (h : Fin 8) (e : Fin 128) (o : Fin 5200) (ho : o.val = 1024 + (128 * h.val + e.val)) :
    (val_main_v25 (F := Ideal) (aX m c) (aG m c) (aW m c) (ix3 s h e) : EReal) = Z m c s o := by
  have hs := s.isLt
  have ee : idx_main_v25 (ix3 s h e) = ix2 s (⟨128 * h.val + e.val, by omega⟩ : Fin 1024) := funext fun a => Fin.ext (by
    fin_cases a
    · show ((s.val * 8 + h.val) * 128 + e.val) / 1024 = s.val
      omega
    · show ((s.val * 8 + h.val) * 128 + e.val) % 1024 = 128 * h.val + e.val
      omega)
  rw [val_main_v25_apply, ee, ref_v15]
  exact congrArg (Z m c s) (Fin.ext ho.symm)

theorem ref_v38 (s : Fin 16384) (n : Fin 1024) :
    (val_main_v38 (F := Ideal) (aX m c) (aG m c) (aW m c) (aQ m c) (ix3 s (⟨n.val / 128, by omega⟩ : Fin 8) (⟨n.val % 128, by omega⟩ : Fin 128)) : EReal)
      = heads (fun n => Z m c s ⟨1024 + n.val, by omega⟩) (fun e => aQ m c (ix1 e)) n := by
  have e1 : ∀ k, idx_main_v27 (idx_main_v28 (idx_main_v34 (ix3 s (⟨n.val / 128, by omega⟩ : Fin 8) (⟨n.val % 128, by omega⟩ : Fin 128)))) k = ix3 s (⟨n.val / 128, by omega⟩ : Fin 8) k := fun k => funext fun a => by fin_cases a <;> rfl
  have e2 : idx_main_v36 (idx_main_v37 (ix3 s (⟨n.val / 128, by omega⟩ : Fin 8) (⟨n.val % 128, by omega⟩ : Fin 128))) = ix1 (⟨n.val % 128, by omega⟩ : Fin 128) := funext fun a => by fin_cases a; rfl
  rw [val_main_v38_apply, val_main_v35_apply, val_main_v34_apply, val_main_v33_apply, val_main_v32_apply, val_main_v30_apply, val_main_v28_apply, val_main_v27_apply,
    val_main_v29_apply, val_main_v31_apply, val_main_v37_apply, val_main_v36_apply, val_main_cst_4_apply, val_main_cst_5_apply, val_main_cst_6_apply, e2]
  simp only [e1, val_main_v26_apply]
  have ek : ∀ k : Fin 128, (val_main_v25 (F := Ideal) (aX m c) (aG m c) (aW m c) (ix3 s (⟨n.val / 128, by omega⟩ : Fin 8) k) : EReal) = Z m c s ⟨1024 + (128 * (n.val / 128) + k.val), by omega⟩ := fun k => ref_v25 m c s _ k _ rfl
  simp only [ek]
  have en : (⟨1024 + (128 * (n.val / 128) + n.val % 128), by omega⟩ : Fin 5200) = ⟨1024 + n.val, by omega⟩ := Fin.ext (by show 1024 + (128 * (n.val / 128) + n.val % 128) = 1024 + n.val; omega)
  rw [en, zero_lit]
  unfold heads rms
  show Z m c s _ * Ideal.rsqrt (Ideal.div (0 + ∑ k : Fin 128, Z m c s _ * Z m c s _) _ + _) * aQ m c (ix1 _) = _
  rw [zero_add]

theorem ref_v39 (s : Fin 16384) (n : Fin 1024) :
    (val_main_v39 (F := Ideal) (aX m c) (aG m c) (aW m c) (aQ m c) (ix2 s n) : EReal)
      = heads (fun n => Z m c s ⟨1024 + n.val, by omega⟩) (fun e => aQ m c (ix1 e)) n := by
  have hs := s.isLt
  have e : idx_main_v39 (ix2 s n) = ix3 s (⟨n.val / 128, by omega⟩ : Fin 8) (⟨n.val % 128, by omega⟩ : Fin 128) := funext fun a => Fin.ext (by
    fin_cases a
    · show (s.val * 1024 + n.val) / 1024 = s.val
      omega
    · show (s.val * 1024 + n.val) / 128 % 8 = n.val / 128
      omega
    · show (s.val * 1024 + n.val) % 128 = n.val % 128
      omega)
  rw [val_main_v39_apply, e, ref_v38]

/-- The keys by heads. -/
theorem ref_v42 (s : Fin 16384) (h : Fin 8) (e : Fin 128) (o : Fin 5200) (ho : o.val = 2048 + (128 * h.val + e.val)) :
    (val_main_v42 (F := Ideal) (aX m c) (aG m c) (aW m c) (ix3 s h e) : EReal) = Z m c s o := by
  have hs := s.isLt
  have ee : idx_main_v42 (ix3 s h e) = ix2 s (⟨128 * h.val + e.val, by omega⟩ : Fin 1024) := funext fun a => Fin.ext (by
    fin_cases a
    · show ((s.val * 8 + h.val) * 128 + e.val) / 1024 = s.val
      omega
    · show ((s.val * 8 + h.val) * 128 + e.val) % 1024 = 128 * h.val + e.val
      omega)
  rw [val_main_v42_apply, ee, ref_v16]
  exact congrArg (Z m c s) (Fin.ext ho.symm)

theorem ref_v55 (s : Fin 16384) (n : Fin 1024) :
    (val_main_v55 (F := Ideal) (aX m c) (aG m c) (aW m c) (aK m c) (ix3 s (⟨n.val / 128, by omega⟩ : Fin 8) (⟨n.val % 128, by omega⟩ : Fin 128)) : EReal)
      = heads (fun n => Z m c s ⟨2048 + n.val, by omega⟩) (fun e => aK m c (ix1 e)) n := by
  have e1 : ∀ k, idx_main_v44 (idx_main_v45 (idx_main_v51 (ix3 s (⟨n.val / 128, by omega⟩ : Fin 8) (⟨n.val % 128, by omega⟩ : Fin 128)))) k = ix3 s (⟨n.val / 128, by omega⟩ : Fin 8) k := fun k => funext fun a => by fin_cases a <;> rfl
  have e2 : idx_main_v53 (idx_main_v54 (ix3 s (⟨n.val / 128, by omega⟩ : Fin 8) (⟨n.val % 128, by omega⟩ : Fin 128))) = ix1 (⟨n.val % 128, by omega⟩ : Fin 128) := funext fun a => by fin_cases a; rfl
  rw [val_main_v55_apply, val_main_v52_apply, val_main_v51_apply, val_main_v50_apply, val_main_v49_apply, val_main_v47_apply, val_main_v45_apply, val_main_v44_apply,
    val_main_v46_apply, val_main_v48_apply, val_main_v54_apply, val_main_v53_apply, val_main_cst_8_apply, val_main_cst_9_apply, val_main_cst_10_apply, e2]
  simp only [e1, val_main_v43_apply]
  have ek : ∀ k : Fin 128, (val_main_v42 (F := Ideal) (aX m c) (aG m c) (aW m c) (ix3 s (⟨n.val / 128, by omega⟩ : Fin 8) k) : EReal) = Z m c s ⟨2048 + (128 * (n.val / 128) + k.val), by omega⟩ := fun k => ref_v42 m c s _ k _ rfl
  simp only [ek]
  have en : (⟨2048 + (128 * (n.val / 128) + n.val % 128), by omega⟩ : Fin 5200) = ⟨2048 + n.val, by omega⟩ := Fin.ext (by show 2048 + (128 * (n.val / 128) + n.val % 128) = 2048 + n.val; omega)
  rw [en, zero_lit]
  unfold heads rms
  show Z m c s _ * Ideal.rsqrt (Ideal.div (0 + ∑ k : Fin 128, Z m c s _ * Z m c s _) _ + _) * aK m c (ix1 _) = _
  rw [zero_add]

theorem ref_v56 (s : Fin 16384) (n : Fin 1024) :
    (val_main_v56 (F := Ideal) (aX m c) (aG m c) (aW m c) (aK m c) (ix2 s n) : EReal)
      = heads (fun n => Z m c s ⟨2048 + n.val, by omega⟩) (fun e => aK m c (ix1 e)) n := by
  have hs := s.isLt
  have e : idx_main_v56 (ix2 s n) = ix3 s (⟨n.val / 128, by omega⟩ : Fin 8) (⟨n.val % 128, by omega⟩ : Fin 128) := funext fun a => Fin.ext (by
    fin_cases a
    · show (s.val * 1024 + n.val) / 1024 = s.val
      omega
    · show (s.val * 1024 + n.val) / 128 % 8 = n.val / 128
      omega
    · show (s.val * 1024 + n.val) % 128 = n.val % 128
      omega)
  rw [val_main_v56_apply, e, ref_v55]

theorem ref_v41 (s : Fin 16384) (n : Fin 1024) :
    (val_main_v41 (F := Ideal) (aX m c) (aG m c) (aW m c) (aQ m c) (ix2 s n) : EReal)
      = heads (fun n => Z m c s ⟨1024 + n.val, by omega⟩) (fun e => aQ m c (ix1 e) * qc) n := by
  rw [val_main_v41_apply, ref_v39, val_main_v40_apply, val_main_cst_7_apply]
  unfold heads
  exact mul_assoc _ _ _

theorem ref_nat (s : Fin 16384) (n : Fin 2048) :
    (val_main_v60 (F := Ideal) (aX m c) (aG m c) (aW m c) (aK m c) (ix2 s n) : EReal) = G7 m c (ix2 s n) := by
  rw [val_main_v60_apply]
  unfold val_main_v57 G7
  by_cases h : n.val < 1024
  · rw [dif_pos (show ((ix2 s n : S16384x2048.Idx) 1).val < 1024 from h)]
    refine (concatenate_pair_apply_left (t := Cert.InprojReferenceIdeal.S16384x2048) (α := EReal) (1 : Fin 2) (val_main_v14 (F := Ideal) (aX m c) (aG m c) (aW m c)) (val_main_v56 (F := Ideal) (aX m c) (aG m c) (aW m c) (aK m c)) Cert.InprojReferenceIdeal.Gen.concatenates_S16384x1024_S16384x1024_S16384x2048_d1 (ix2 s n) rfl (ix2 s (⟨n.val, h⟩ : Fin 1024)) ?_).trans (ref_v14 m c s ⟨n.val, h⟩)
    intro b; fin_cases b <;> rfl
  · rw [dif_neg (show ¬((ix2 s n : S16384x2048.Idx) 1).val < 1024 from h)]
    have hn := n.isLt
    refine (concatenate_pair_apply_right (t := Cert.InprojReferenceIdeal.S16384x2048) (α := EReal) (1 : Fin 2) (val_main_v14 (F := Ideal) (aX m c) (aG m c) (aW m c)) (val_main_v56 (F := Ideal) (aX m c) (aG m c) (aW m c) (aK m c)) Cert.InprojReferenceIdeal.Gen.concatenates_S16384x1024_S16384x1024_S16384x2048_d1 (ix2 s n) rfl rfl (ix2 s (⟨n.val - 1024, by omega⟩ : Fin 1024)) ?_ ?_).trans (ref_v56 m c s ⟨n.val - 1024, by omega⟩)
    · intro b hb; fin_cases b
      · rfl
      · exact absurd rfl hb
    · show n.val - 1024 + 1024 = n.val
      omega

theorem ref_kidx (s : Fin 16384) (n : Fin 64) :
    (val_main_v62 (F := Ideal) (aX m c) (aG m c) (aW m c) (ix2 s n) : EReal) = G9 m c (ix2 s n) :=
  ref_v19 m c s n

theorem ref_w (n : Fin 16) (s : Fin 16384) :
    (val_main_v63 (F := Ideal) (aX m c) (aG m c) (aW m c) (ix2 n s) : EReal) = G10 m c (ix2 n s) := by
  have e : idx_main_v63 (ix2 n s) = ix2 s n := funext fun a => by fin_cases a <;> rfl
  rw [val_main_v63_apply, e, val_main_v24_apply, val_main_v22_apply, val_main_v21_apply, val_main_v23_apply, val_main_cst_2_apply, val_main_cst_3_apply, ref_v20]
  rfl

theorem G7_eq : val_main_v60 (F := Ideal) (aX m c) (aG m c) (aW m c) (aK m c) = G7 m c := by
  refine funext fun (i : S16384x2048.Idx) => ?_
  have ei : i = ix2 (i (0 : Fin 2)) (i (1 : Fin 2)) := funext fun a => by fin_cases a <;> rfl
  have := ref_nat m c (i (0 : Fin 2)) (i (1 : Fin 2))
  rw [ei]; exact this
theorem G9_eq : val_main_v62 (F := Ideal) (aX m c) (aG m c) (aW m c) = G9 m c := by
  refine funext fun (i : S16384x64.Idx) => ?_
  have ei : i = ix2 (i (0 : Fin 2)) (i (1 : Fin 2)) := funext fun a => by fin_cases a <;> rfl
  have := ref_kidx m c (i (0 : Fin 2)) (i (1 : Fin 2))
  rw [ei]; exact this
theorem G10_eq : val_main_v63 (F := Ideal) (aX m c) (aG m c) (aW m c) = G10 m c := by
  refine funext fun (i : S16x16384.Idx) => ?_
  have ei : i = ix2 (i (0 : Fin 2)) (i (1 : Fin 2)) := funext fun a => by fin_cases a <;> rfl
  have := ref_w m c (i (0 : Fin 2)) (i (1 : Fin 2))
  rw [ei]; exact this

theorem ref_tr (n : Fin 3072) (s : Fin 16384) :
    (val_main_v61 (F := Ideal) (aX m c) (aG m c) (aW m c) (aQ m c) (ix2 n s) : EReal) = G8 m c (ix2 n s) := by
  have e : idx_main_v59 (ix2 n s) = ix2 s n := funext fun a => by fin_cases a <;> rfl
  have hn := n.isLt
  rw [val_main_v61_apply, val_main_v59_apply, e]
  unfold val_main_v58 G8
  by_cases h : n.val < 1024
  · rw [dif_pos (show ((ix2 n s : S3072x16384.Idx) 0).val < 1024 from h)]
    refine Eq.trans (concatenate_apply_piece (t := Cert.InprojReferenceIdeal.S16384x3072) (α := EReal) (1 : Fin 2) [⟨Cert.InprojReferenceIdeal.S16384x1024, val_main_v41 (F := Ideal) (aX m c) (aG m c) (aW m c) (aQ m c)⟩, ⟨Cert.InprojReferenceIdeal.S16384x1024, val_main_v17 (F := Ideal) (aX m c) (aG m c) (aW m c)⟩, ⟨Cert.InprojReferenceIdeal.S16384x1024, val_main_v18 (F := Ideal) (aX m c) (aG m c) (aW m c)⟩] Cert.InprojReferenceIdeal.Gen.concatenates_S16384x1024_S16384x1024_S16384x1024_S16384x3072_d1 (ix2 s n) 0 (show 0 < 3 by omega) Cert.InprojReferenceIdeal.S16384x1024 (val_main_v41 (F := Ideal) (aX m c) (aG m c) (aW m c) (aQ m c)) rfl rfl 0 rfl (ix2 s (⟨n.val - 0, by omega⟩ : Fin 1024)) ?_ ?_) (ref_v41 m c s ⟨n.val, h⟩)
    · intro b hb; fin_cases b
      · rfl
      · exact absurd rfl hb
    · show 0 + (n.val - 0) = n.val
      omega
  rw [dif_neg (show ¬((ix2 n s : S3072x16384.Idx) 0).val < 1024 from h)]
  by_cases h2 : n.val < 2048
  · refine Eq.trans (concatenate_apply_piece (t := Cert.InprojReferenceIdeal.S16384x3072) (α := EReal) (1 : Fin 2) [⟨Cert.InprojReferenceIdeal.S16384x1024, val_main_v41 (F := Ideal) (aX m c) (aG m c) (aW m c) (aQ m c)⟩, ⟨Cert.InprojReferenceIdeal.S16384x1024, val_main_v17 (F := Ideal) (aX m c) (aG m c) (aW m c)⟩, ⟨Cert.InprojReferenceIdeal.S16384x1024, val_main_v18 (F := Ideal) (aX m c) (aG m c) (aW m c)⟩] Cert.InprojReferenceIdeal.Gen.concatenates_S16384x1024_S16384x1024_S16384x1024_S16384x3072_d1 (ix2 s n) 1 (show 1 < 3 by omega) Cert.InprojReferenceIdeal.S16384x1024 (val_main_v17 (F := Ideal) (aX m c) (aG m c) (aW m c)) rfl rfl 1024 rfl (ix2 s (⟨n.val - 1024, by omega⟩ : Fin 1024)) ?_ ?_) ((ref_v17 m c s ⟨n.val - 1024, by omega⟩).trans (congrArg (Z m c s) (Fin.ext (by show 3072 + (n.val - 1024) = 2048 + n.val; omega))))
    · intro b hb; fin_cases b
      · rfl
      · exact absurd rfl hb
    · show 1024 + (n.val - 1024) = n.val
      omega
  · refine Eq.trans (concatenate_apply_piece (t := Cert.InprojReferenceIdeal.S16384x3072) (α := EReal) (1 : Fin 2) [⟨Cert.InprojReferenceIdeal.S16384x1024, val_main_v41 (F := Ideal) (aX m c) (aG m c) (aW m c) (aQ m c)⟩, ⟨Cert.InprojReferenceIdeal.S16384x1024, val_main_v17 (F := Ideal) (aX m c) (aG m c) (aW m c)⟩, ⟨Cert.InprojReferenceIdeal.S16384x1024, val_main_v18 (F := Ideal) (aX m c) (aG m c) (aW m c)⟩] Cert.InprojReferenceIdeal.Gen.concatenates_S16384x1024_S16384x1024_S16384x1024_S16384x3072_d1 (ix2 s n) 2 (show 2 < 3 by omega) Cert.InprojReferenceIdeal.S16384x1024 (val_main_v18 (F := Ideal) (aX m c) (aG m c) (aW m c)) rfl rfl 2048 rfl (ix2 s (⟨n.val - 2048, by omega⟩ : Fin 1024)) ?_ ?_) ((ref_v18 m c s ⟨n.val - 2048, by omega⟩).trans (congrArg (Z m c s) (Fin.ext (by show 4096 + (n.val - 2048) = 2048 + n.val; omega))))
    · intro b hb; fin_cases b
      · rfl
      · exact absurd rfl hb
    · show 2048 + (n.val - 2048) = n.val
      omega

theorem G8_eq : val_main_v61 (F := Ideal) (aX m c) (aG m c) (aW m c) (aQ m c) = G8 m c := by
  refine funext fun (i : S3072x16384.Idx) => ?_
  have ei : i = ix2 (i (0 : Fin 2)) (i (1 : Fin 2)) := funext fun a => by fin_cases a <;> rfl
  have := ref_tr m c (i (0 : Fin 2)) (i (1 : Fin 2))
  rw [ei]; exact this

end Cert.InprojIdeal.Inproj

end
-- ==== Proof.lean ====
module

public import proofs.«01_k».proof.Defs
public import proofs.«01_k».proof.Proof.Gen.ReferenceIdeal.Run
public import proofs.«01_k».proof.Proof.Gen.ReferenceIdeal.Read
public import proofs.«01_k».proof.Proof.Gen.Pre_attends
public import proofs.«01_k».proof.Proof.Attn.Kernel.Frame
public import proofs.«01_k».proof.Proof.Attn.KernelIdeal.Frame
public import proofs.«01_k».proof.Proof.Attn.Equal
public import proofs.«01_k».proof.Proof.Gen.FfnIdeal.Value
public import proofs.«01_k».proof.Proof.Ffn.Equal
public import proofs.«01_k».proof.Proof.Outproj.Value
public import proofs.«01_k».proof.Proof.Gen.FfnReferenceIdeal.Run
public import proofs.«01_k».proof.Proof.Gen.FfnReferenceIdeal.Read
public import proofs.«01_k».proof.Proof.Gen.OutprojIdeal.Value
public import proofs.«01_k».proof.Proof.Gen.OutprojReferenceIdeal.Run
public import proofs.«01_k».proof.Proof.Gen.OutprojReferenceIdeal.Read
public import proofs.«01_k».proof.Proof.Gen.Ffn.Frame
public import proofs.«01_k».proof.Proof.Gen.FfnIdeal.Frame
public import proofs.«01_k».proof.Proof.Gen.Outproj.Frame
public import proofs.«01_k».proof.Proof.Gen.OutprojIdeal.Frame
public import proofs.«01_k».proof.Proof.Inproj.Frame
public import proofs.«01_k».proof.Proof.Inproj.Arrays
public import proofs.«01_k».proof.Proof.Inproj.Equal
public import proofs.«01_k».proof.Proof.Gen.InprojReferenceIdeal.Run
public import proofs.«01_k».proof.Proof.Gen.InprojReferenceIdeal.Read
public import proofs.«01_k».proof.Proof.Gen.Inproj.Frame
public import proofs.«01_k».proof.Proof.Gen.InprojIdeal.Frame
public import proofs.«01_k».proof.Proof.Gen.Inproj.Skeleton
public import proofs.«01_k».proof.Proof.Gen.InprojIdeal.Skeleton
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The attention: from arrays meeting the precondition the kernel and the reference leave the same array. -/
theorem attention_value : algebraic_KernelIdeal_ReferenceIdeal_pre_attends := by
  intro m g m' g' hp hag
  refine ⟨fun c => Cert.KernelIdeal.Attn.G m c, Cert.KernelIdeal.Attn.run_value m g, ?_⟩
  refine (θ_run _ _ _).mono (fun r h c => ?_) (Cert.ReferenceIdeal.Value.run (F := Ideal) m' g')
  obtain ⟨a0, a1, a2⟩ := hag c
  refine ⟨(h c).1.trans ?_, (h c).2⟩
  rw [Cert.ReferenceIdeal.Read.val_main_v33_eq]
  refine Eq.trans ?_ (Cert.KernelIdeal.Attn.G_eq m c (hp c)).symm
  exact congr (congr (congrArg (Cert.ReferenceIdeal.Read.val_main_v33 (F := Ideal)) a0) a1) a2

/-- The reference's frame: it declares no semaphore. -/
theorem attention_reference_frame : quiescent_ReferenceIdeal :=
  fun m g _ => (θ_run _ _ _).mono (fun r h => ⟨fun c => (h c).2, sem_eq_zero_of_no_sems rfl _⟩) (Cert.ReferenceIdeal.Value.run (F := Ideal) m g)

/-- The feed-forward: the kernel and the reference leave the same array. -/
theorem ffn_value : algebraic_FfnIdeal_FfnReferenceIdeal := by
  intro m g m' g' _ hag
  refine ⟨fun c => Cert.FfnIdeal.Value.G10 m c, Cert.FfnIdeal.Value.run m g, ?_⟩
  refine (θ_run _ _ _).mono (fun r h c => ?_) (Cert.FfnReferenceIdeal.Value.run (F := Ideal) m' g')
  obtain ⟨a0, a1, a2, a3, a4, a5⟩ := hag c
  refine ⟨(h c).1.trans ?_, (h c).2⟩
  rw [Cert.FfnReferenceIdeal.Read.val_main_v45_eq]
  refine Eq.trans ?_ (Cert.FfnIdeal.Ffn.G_eq m c)
  exact congr (congr (congr (congr (congr (congrArg (Cert.FfnReferenceIdeal.Read.val_main_v45 (F := Ideal)) a0) a1) a2) a3) a4) a5

/-- The feed-forward reference's frame. -/
theorem ffn_reference_frame : quiescent_FfnReferenceIdeal :=
  fun m g _ => (θ_run _ _ _).mono (fun r h => ⟨fun c => (h c).2, sem_eq_zero_of_no_sems rfl _⟩) (Cert.FfnReferenceIdeal.Value.run (F := Ideal) m g)

/-- The output projection: the kernel and the reference leave the same array. -/
theorem outproj_value : algebraic_OutprojIdeal_OutprojReferenceIdeal := by
  intro m g m' g' _ hag
  refine ⟨fun c => Cert.OutprojIdeal.Outproj.G m c,
    (θ_run _ _ _).mono (fun r h c => ⟨(h c).1.trans (Cert.OutprojIdeal.Outproj.arr_out m c), (h c).2⟩) (Cert.OutprojIdeal.Value.run_blocks m g), ?_⟩
  refine (θ_run _ _ _).mono (fun r h c => ?_) (Cert.OutprojReferenceIdeal.Value.run (F := Ideal) m' g')
  obtain ⟨a0, a1, a2, a3⟩ := hag c
  refine ⟨(h c).1.trans ?_, (h c).2⟩
  refine Eq.trans ?_ (Cert.OutprojIdeal.Outproj.G_eq m c)
  exact (Cert.OutprojReferenceIdeal.Read.val_main_v3_eq _ _ _ _).trans
    (congr (congr (congr (congrArg (Cert.OutprojReferenceIdeal.Read.val_main_v3 (F := Ideal)) a0) a1) a2) a3)

/-- The output projection reference's frame. -/
theorem outproj_reference_frame : quiescent_OutprojReferenceIdeal :=
  fun m g _ => (θ_run _ _ _).mono (fun r h => ⟨fun c => (h c).2, sem_eq_zero_of_no_sems rfl _⟩) (Cert.OutprojReferenceIdeal.Value.run (F := Ideal) m g)

/-- The input projection: the kernel and the reference leave the same four arrays. -/
theorem inproj_value : algebraic_InprojIdeal_InprojReferenceIdeal := by
  intro m g m' g' _ hag
  refine ⟨fun c => Cert.InprojIdeal.Inproj.G7 m c, fun c => Cert.InprojIdeal.Inproj.G8 m c, fun c => Cert.InprojIdeal.Inproj.G9 m c,
    fun c => Cert.InprojIdeal.Inproj.G10 m c, Cert.InprojIdeal.Inproj.run_value m g, ?_⟩
  refine (θ_run _ _ _).mono (fun r h c => ?_) (Cert.InprojReferenceIdeal.Value.run (F := Ideal) m' g')
  obtain ⟨a0, a1, a2, a3, a4⟩ := hag c
  obtain ⟨h7, h8, h9, h10, hr⟩ := h c
  refine ⟨h7.trans ?_, h8.trans ?_, h9.trans ?_, h10.trans ?_, hr⟩
  · rw [Cert.InprojReferenceIdeal.Read.val_main_v60_eq]
    refine Eq.trans ?_ (Cert.InprojIdeal.Inproj.G7_eq m c)
    exact congr (congr (congr (congrArg (Cert.InprojReferenceIdeal.Read.val_main_v60 (F := Ideal)) a0) a1) a2) a4
  · rw [Cert.InprojReferenceIdeal.Read.val_main_v61_eq]
    refine Eq.trans ?_ (Cert.InprojIdeal.Inproj.G8_eq m c)
    exact congr (congr (congr (congrArg (Cert.InprojReferenceIdeal.Read.val_main_v61 (F := Ideal)) a0) a1) a2) a3
  · refine Eq.trans ?_ (Cert.InprojIdeal.Inproj.G9_eq m c)
    exact (Cert.InprojReferenceIdeal.Read.val_main_v62_eq _ _ _).trans
      (congr (congr (congrArg (Cert.InprojReferenceIdeal.Read.val_main_v62 (F := Ideal)) a0) a1) a2)
  · refine Eq.trans ?_ (Cert.InprojIdeal.Inproj.G10_eq m c)
    exact (Cert.InprojReferenceIdeal.Read.val_main_v63_eq _ _ _).trans
      (congr (congr (congrArg (Cert.InprojReferenceIdeal.Read.val_main_v63 (F := Ideal)) a0) a1) a2)

/-- The input projection reference's frame. -/
theorem inproj_reference_frame : quiescent_InprojReferenceIdeal :=
  fun m g _ => (θ_run _ _ _).mono (fun r h => ⟨fun c => (h c).2.2.2.2, sem_eq_zero_of_no_sems rfl _⟩) (Cert.InprojReferenceIdeal.Value.run (F := Ideal) m g)

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Inproj.Gen.facts, Cert.InprojIdeal.Gen.facts, Cert.InprojReferenceIdeal.Gen.facts,
    Cert.Outproj.Gen.facts, Cert.OutprojIdeal.Gen.facts, Cert.OutprojReferenceIdeal.Gen.facts,
    Cert.Pre_attends.Gen.facts,
    fun m g _ => Cert.Kernel.Attn.frame_holds m g,
    fun m g _ => Cert.KernelIdeal.Attn.frame_holds m g,
    fun m g _ => Cert.KernelIdeal.Attn.frame_holds m g,
    attention_reference_frame,
    fun m g _ => attention_reference_frame m g trivial,
    fun m g _ => Cert.Ffn.Gen.frame m g,
    fun m g _ => Cert.FfnIdeal.Gen.frame m g,
    ffn_reference_frame,
    inproj_frame,
    fun m g _ => Cert.InprojIdeal.Hand.frame_holds m g,
    inproj_reference_frame,
    fun m g _ => Cert.Outproj.Gen.frame m g,
    fun m g _ => Cert.OutprojIdeal.Gen.frame m g,
    outproj_reference_frame,
    ⟨IdealRules.named_const.statement Cert.KernelIdeal.κ "mask" .f32 0xF149F2CA#32 ⊥ rfl,
      IdealRules.named_const.statement Cert.KernelIdeal.κ "mask" .bf16 0xF14A#16 ⊥ rfl⟩,
    attention_value,
    trivial,
    ffn_value,
    trivial,
    inproj_value,
    trivial,
    outproj_value⟩

end Cert.Proof

end
